-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "exp2_arg_max" .f32 0x42FC0000#32 ⊤
  ∧ IdealRules.named_const.Statement Cert.KernelIdeal.κ "inv_ln2" .f32 0x3FB8AA3B#32 (((Real.log 2)⁻¹ : ℝ) : EReal)
  ∧ IdealRules.named_const.Statement Cert.KernelIdeal.κ "dead_carry" .f32 0x43160000#32 ⊤

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "logit_scale_log2" .f32 0x3E0293EE#32 ((((Real.sqrt 128) * (Real.log 2))⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v27)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v27) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  IdealRules.named_const.Statement Cert.Kernel5Ideal.κ "logit_scale_log2" .f32 0x3E0293EE#32 ((((Real.sqrt 128) * (Real.log 2))⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v30)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v30) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v63) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_args.lean ====
abbrev S4x8192x6144 : Shape := ⟨3, ![4, 8192, 6144]⟩
abbrev S_ : Shape := ⟨0, ![]⟩

class Facts : Prop where
  bcast_S_S4x8192x6144 : S_.BroadcastsInDim S4x8192x6144 (![] : Fin 0 → Fin S4x8192x6144.rank)
  reducesTo_S4x8192x6144_S_d0_1_2 : S4x8192x6144.ReducesTo [0, 1, 2] S_
  h_S_ : 0 < S_.numel

variable [Facts]

def fn {F : FTy → Type} [FloatOps F] (main_arg0 : FVec F S4x8192x6144 .f32) : IVec S_ 1 :=
  let main_cst : FVec F S_ .f32 := constant S_ .f32 0xFF800000#32
  let main_v0 : FVec F S4x8192x6144 .f32 := broadcastInDim S4x8192x6144 ![] bcast_S_S4x8192x6144 main_cst
  let main_v1 : IVec S4x8192x6144 1 := cmpf .ogt main_arg0 main_v0
  let main_cst_0 : FVec F S_ .f32 := constant S_ .f32 0x7F800000#32
  let main_v2 : FVec F S4x8192x6144 .f32 := broadcastInDim S4x8192x6144 ![] bcast_S_S4x8192x6144 main_cst_0
  let main_v3 : IVec S4x8192x6144 1 := cmpf .olt main_arg0 main_v2
  let main_v4 : IVec S4x8192x6144 1 := andi main_v1 main_v3
  let main_c : IVec S_ 1 := constantI S_ 1 1#1
  let main_v5 : IVec S_ 1 := (fun x v => Host.reduce IntOp.andi x v reducesTo_S4x8192x6144_S_d0_1_2 h_S_) main_v4 main_c
  main_v5
-- ==== Kernel.lean ====
abbrev S4x8192x6144 : Shape := ⟨3, ![4, 8192, 6144]⟩
abbrev S32768x6144 : Shape := ⟨2, ![32768, 6144]⟩
abbrev S_ : Shape := ⟨0, ![]⟩
abbrev S32768x2048 : Shape := ⟨2, ![32768, 2048]⟩
abbrev S32768x4096 : Shape := ⟨2, ![32768, 4096]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S2048x128 : Shape := ⟨2, ![2048, 128]⟩
abbrev S8192x128 : Shape := ⟨2, ![8192, 128]⟩
abbrev S2x2048x256 : Shape := ⟨3, ![2, 2048, 256]⟩
abbrev S2x2048x128 : Shape := ⟨3, ![2, 2048, 128]⟩
abbrev S256x128 : Shape := ⟨2, ![256, 128]⟩
abbrev S512x256 : Shape := ⟨2, ![512, 256]⟩
abbrev S512x128 : Shape := ⟨2, ![512, 128]⟩
abbrev S512x1 : Shape := ⟨2, ![512, 1]⟩
abbrev S128 : Shape := ⟨1, ![128]⟩
abbrev S1 : Shape := ⟨1, ![1]⟩
abbrev S1792x128 : Shape := ⟨2, ![1792, 128]⟩
abbrev S768x128 : Shape := ⟨2, ![768, 128]⟩
abbrev S768x256 : Shape := ⟨2, ![768, 256]⟩
abbrev S768x1 : Shape := ⟨2, ![768, 1]⟩
abbrev S1024x128 : Shape := ⟨2, ![1024, 128]⟩
abbrev S1024x256 : Shape := ⟨2, ![1024, 256]⟩
abbrev S1024x1 : Shape := ⟨2, ![1024, 1]⟩
abbrev S1280x128 : Shape := ⟨2, ![1280, 128]⟩
abbrev S1280x256 : Shape := ⟨2, ![1280, 256]⟩
abbrev S1280x1 : Shape := ⟨2, ![1280, 1]⟩
abbrev S1536x128 : Shape := ⟨2, ![1536, 128]⟩
abbrev S1536x256 : Shape := ⟨2, ![1536, 256]⟩
abbrev S1536x1 : Shape := ⟨2, ![1536, 1]⟩
abbrev S1792x256 : Shape := ⟨2, ![1792, 256]⟩
abbrev S1792x1 : Shape := ⟨2, ![1792, 1]⟩
abbrev S2048x256 : Shape := ⟨2, ![2048, 256]⟩
abbrev S1x2048x256 : Shape := ⟨3, ![1, 2048, 256]⟩
abbrev S1x2048x128 : Shape := ⟨3, ![1, 2048, 128]⟩
abbrev S2048x1 : Shape := ⟨2, ![2048, 1]⟩

abbrev nBuf : Space → Nat
  | .hbm => 23
  | .vmem => 14
  | .smem => 0
  | _ => 0

abbrev bufTy : (tb : Table) → Fin (tcTables nBuf tb) → BufTy
  | .hbm, ⟨0, _⟩ => ⟨S4x8192x6144, .f32⟩
  | .hbm, ⟨1, _⟩ => ⟨S32768x6144, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S32768x4096, .f32⟩
  | .hbm, ⟨13, _⟩ => ⟨S32768x6144, .f32⟩
  | .hbm, ⟨14, _⟩ => ⟨S32768x6144, .bf16⟩
  | .hbm, ⟨15, _⟩ => ⟨S256, .i32⟩
  | .hbm, ⟨16, _⟩ => ⟨S256x1, .i32⟩
  | .hbm, ⟨17, _⟩ => ⟨S1x256, .i32⟩
  | .hbm, ⟨18, _⟩ => ⟨S256x256, .i32⟩
  | .hbm, ⟨19, _⟩ => ⟨S256x256, .i32⟩
  | .hbm, ⟨20, _⟩ => ⟨S256x256, .i1⟩
  | .hbm, ⟨21, _⟩ => ⟨S256x256, .bf16⟩
  | .hbm, ⟨22, _⟩ => ⟨S32768x2048, .bf16⟩
  | .local _ .vmem, ⟨0, _⟩ => ⟨S2048x128, .bf16⟩
  | .local _ .vmem, ⟨1, _⟩ => ⟨S2048x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x256, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .f32⟩
  | .local _ .vmem, ⟨10, _⟩ => ⟨S2048x128, .f32⟩
  | .local _ .vmem, ⟨11, _⟩ => ⟨S2x2048x256, .f32⟩
  | .local _ .vmem, ⟨12, _⟩ => ⟨S2x2048x256, .bf16⟩
  | .local _ .vmem, ⟨13, _⟩ => ⟨S2x2048x128, .f32⟩
  | _, _ => ⟨S4x8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 16, 4], ![false, false, false]⟩

def k0_mult1 (i : grid0.Coords) : BitVec 32 :=
  let arg2 : BitVec 32 := BitVec.ofNat 32 (i 2).val
  let c8_i32 : BitVec 32 := 8#32
  let v2 : BitVec 32 := Scalar.muli arg2 c8_i32
  let c7_i32 : BitVec 32 := 7#32
  let v11 : BitVec 32 := Scalar.addi v2 c7_i32
  let c256_i32 : BitVec 32 := 256#32
  let v17 : BitVec 32 := Scalar.muli v11 c256_i32
  v17
def k0_off1 (i : grid0.Coords) (c7_i32 : BitVec 32) : Fin 2 → Nat :=
  let arg2 : BitVec 32 := BitVec.ofNat 32 (i 2).val
  let c8_i32 : BitVec 32 := 8#32
  let v2 : BitVec 32 := Scalar.muli arg2 c8_i32
  let v11 : BitVec 32 := Scalar.addi v2 c7_i32
  let c256_i32 : BitVec 32 := 256#32
  let v17 : BitVec 32 := Scalar.muli v11 c256_i32
  let v18 : BitVec 32 := v17
  let v19 : Index := Scalar.indexCast v18
  let c0_7 : Index := 0#32
  ![v19.toNat, 0]
def k0_mult2 (i : grid0.Coords) : BitVec 32 :=
  let arg2 : BitVec 32 := BitVec.ofNat 32 (i 2).val
  let c8_i32 : BitVec 32 := 8#32
  let v2 : BitVec 32 := Scalar.muli arg2 c8_i32
  let c7_i32 : BitVec 32 := 7#32
  let v11 : BitVec 32 := Scalar.addi v2 c7_i32
  let c256_i32_13 : BitVec 32 := 256#32
  let v37 : BitVec 32 := Scalar.muli v11 c256_i32_13
  v37
def k0_mult3 (i : grid0.Coords) : BitVec 32 :=
  let arg2 : BitVec 32 := BitVec.ofNat 32 (i 2).val
  let c8_i32 : BitVec 32 := 8#32
  let v2 : BitVec 32 := Scalar.muli arg2 c8_i32
  let c6_i32 : BitVec 32 := 6#32
  let v65 : BitVec 32 := Scalar.addi v2 c6_i32
  let c256_i32_27 : BitVec 32 := 256#32
  let v71 : BitVec 32 := Scalar.muli v65 c256_i32_27
  v71
def k0_mult4 (i : grid0.Coords) : BitVec 32 :=
  let arg2 : BitVec 32 := BitVec.ofNat 32 (i 2).val
  let c8_i32 : BitVec 32 := 8#32
  let v2 : BitVec 32 := Scalar.muli arg2 c8_i32
  let c6_i32 : BitVec 32 := 6#32
  let v65 : BitVec 32 := Scalar.addi v2 c6_i32
  let c256_i32_34 : BitVec 32 := 256#32
  let v91 : BitVec 32 := Scalar.muli v65 c256_i32_34
  v91
def k0_mult5 (i : grid0.Coords) : BitVec 32 :=
  let arg2 : BitVec 32 := BitVec.ofNat 32 (i 2).val
  let c8_i32 : BitVec 32 := 8#32
  let v2 : BitVec 32 := Scalar.muli arg2 c8_i32
  let c5_i32 : BitVec 32 := 5#32
  let v119 : BitVec 32 := Scalar.addi v2 c5_i32
  let c256_i32_48 : BitVec 32 := 256#32
  let v125 : BitVec 32 := Scalar.muli v119 c256_i32_48
  v125
def k0_mult6 (i : grid0.Coords) : BitVec 32 :=
  let arg2 : BitVec 32 := BitVec.ofNat 32 (i 2).val
  let c8_i32 : BitVec 32 := 8#32
  let v2 : BitVec 32 := Scalar.muli arg2 c8_i32
  let c5_i32 : BitVec 32 := 5#32
  let v119 : BitVec 32 := Scalar.addi v2 c5_i32
  let c256_i32_55 : BitVec 32 := 256#32
  let v145 : BitVec 32 := Scalar.muli v119 c256_i32_55
  v145
def k0_mult7 (i : grid0.Coords) : BitVec 32 :=
  let arg2 : BitVec 32 := BitVec.ofNat 32 (i 2).val
  let c8_i32 : BitVec 32 := 8#32
  let v2 : BitVec 32 := Scalar.muli arg2 c8_i32
  let c4_i32 : BitVec 32 := 4#32
  let v173 : BitVec 32 := Scalar.addi v2 c4_i32
  let c256_i32_69 : BitVec 32 := 256#32
  let v179 : BitVec 32 := Scalar.muli v173 c256_i32_69
  v179
def k0_mult8 (i : grid0.Coords) : BitVec 32 :=
  let arg2 : BitVec 32 := BitVec.ofNat 32 (i 2).val
  let c8_i32 : BitVec 32 := 8#32
  let v2 : BitVec 32 := Scalar.muli arg2 c8_i32
  let c4_i32 : BitVec 32 := 4#32
  let v173 : BitVec 32 := Scalar.addi v2 c4_i32
  let c256_i32_76 : BitVec 32 := 256#32
  let v199 : BitVec 32 := Scalar.muli v173 c256_i32_76
  v199
def k0_mult9 (i : grid0.Coords) : BitVec 32 :=
  let arg2 : BitVec 32 := BitVec.ofNat 32 (i 2).val
  let c8_i32 : BitVec 32 := 8#32
  let v2 : BitVec 32 := Scalar.muli arg2 c8_i32
  let c3_i32 : BitVec 32 := 3#32
  let v227 : BitVec 32 := Scalar.addi v2 c3_i32
  let c256_i32_90 : BitVec 32 := 256#32
  let v233 : BitVec 32 := Scalar.muli v227 c256_i32_90
  v233
def k0_mult10 (i : grid0.Coords) : BitVec 32 :=
  let arg2 : BitVec 32 := BitVec.ofNat 32 (i 2).val
  let c8_i32 : BitVec 32 := 8#32
  let v2 : BitVec 32 := Scalar.muli arg2 c8_i32
  let c3_i32 : BitVec 32 := 3#32
  let v227 : BitVec 32 := Scalar.addi v2 c3_i32
  let c256_i32_97 : BitVec 32 := 256#32
  let v253 : BitVec 32 := Scalar.muli v227 c256_i32_97
  v253
def k0_mult11 (i : grid0.Coords) : BitVec 32 :=
  let arg2 : BitVec 32 := BitVec.ofNat 32 (i 2).val
  let c8_i32 : BitVec 32 := 8#32
  let v2 : BitVec 32 := Scalar.muli arg2 c8_i32
  let c2_i32 : BitVec 32 := 2#32
  let v281 : BitVec 32 := Scalar.addi v2 c2_i32
  let c256_i32_111 : BitVec 32 := 256#32
  let v287 : BitVec 32 := Scalar.muli v281 c256_i32_111
  v287
def k0_mult12 (i : grid0.Coords) : BitVec 32 :=
  let arg2 : BitVec 32 := BitVec.ofNat 32 (i 2).val
  let c8_i32 : BitVec 32 := 8#32
  let v2 : BitVec 32 := Scalar.muli arg2 c8_i32
  let c2_i32 : BitVec 32 := 2#32
  let v281 : BitVec 32 := Scalar.addi v2 c2_i32
  let c256_i32_118 : BitVec 32 := 256#32
  let v307 : BitVec 32 := Scalar.muli v281 c256_i32_118
  v307
def k0_mult13 (i : grid0.Coords) : BitVec 32 :=
  let arg2 : BitVec 32 := BitVec.ofNat 32 (i 2).val
  let c8_i32 : BitVec 32 := 8#32
  let v2 : BitVec 32 := Scalar.muli arg2 c8_i32
  let c1_i32 : BitVec 32 := 1#32
  let v335 : BitVec 32 := Scalar.addi v2 c1_i32
  let c256_i32_132 : BitVec 32 := 256#32
  let v341 : BitVec 32 := Scalar.muli v335 c256_i32_132
  v341
def k0_mult14 (i : grid0.Coords) : BitVec 32 :=
  let arg2 : BitVec 32 := BitVec.ofNat 32 (i 2).val
  let c8_i32 : BitVec 32 := 8#32
  let v2 : BitVec 32 := Scalar.muli arg2 c8_i32
  let c1_i32 : BitVec 32 := 1#32
  let v335 : BitVec 32 := Scalar.addi v2 c1_i32
  let c256_i32_139 : BitVec 32 := 256#32
  let v361 : BitVec 32 := Scalar.muli v335 c256_i32_139
  v361
def k0_mult15 (i : grid0.Coords) : BitVec 32 :=
  let arg2 : BitVec 32 := BitVec.ofNat 32 (i 2).val
  let c8_i32 : BitVec 32 := 8#32
  let v2 : BitVec 32 := Scalar.muli arg2 c8_i32
  let c0_i32 : BitVec 32 := 0#32
  let v389 : BitVec 32 := Scalar.addi v2 c0_i32
  let c256_i32_154 : BitVec 32 := 256#32
  let v395 : BitVec 32 := Scalar.muli v389 c256_i32_154
  v395
def k0_mult16 (i : grid0.Coords) : BitVec 32 :=
  let arg2 : BitVec 32 := BitVec.ofNat 32 (i 2).val
  let c8_i32 : BitVec 32 := 8#32
  let v2 : BitVec 32 := Scalar.muli arg2 c8_i32
  let c0_i32 : BitVec 32 := 0#32
  let v389 : BitVec 32 := Scalar.addi v2 c0_i32
  let c256_i32_161 : BitVec 32 := 256#32
  let v415 : BitVec 32 := Scalar.muli v389 c256_i32_161
  v415
def k0_mult17 (i : grid0.Coords) : BitVec 32 :=
  let arg2 : BitVec 32 := BitVec.ofNat 32 (i 2).val
  let c8_i32 : BitVec 32 := 8#32
  let v2 : BitVec 32 := Scalar.muli arg2 c8_i32
  let c1_i32_174 : BitVec 32 := 1#32
  let v443 : BitVec 32 := Scalar.subi v2 c1_i32_174
  let c0_i32_175 : BitVec 32 := 0#32
  let v444 : BitVec 32 := Scalar.maxsi v443 c0_i32_175
  let c256_i32_179 : BitVec 32 := 256#32
  let v449 : BitVec 32 := Scalar.muli v444 c256_i32_179
  v449
def k0_off2 (i : grid0.Coords) : Fin 2 → Nat :=
  let arg2 : BitVec 32 := BitVec.ofNat 32 (i 2).val
  let c8_i32 : BitVec 32 := 8#32
  let v2 : BitVec 32 := Scalar.muli arg2 c8_i32
  let c1_i32_174 : BitVec 32 := 1#32
  let v443 : BitVec 32 := Scalar.subi v2 c1_i32_174
  let c0_i32_175 : BitVec 32 := 0#32
  let v444 : BitVec 32 := Scalar.maxsi v443 c0_i32_175
  let c256_i32_179 : BitVec 32 := 256#32
  let v449 : BitVec 32 := Scalar.muli v444 c256_i32_179
  let v450 : BitVec 32 := v449
  let v451 : Index := Scalar.indexCast v450
  let c0_180 : Index := 0#32
  ![v451.toNat, 0]
def k0_mult18 (i : grid0.Coords) : BitVec 32 :=
  let arg2 : BitVec 32 := BitVec.ofNat 32 (i 2).val
  let c8_i32 : BitVec 32 := 8#32
  let v2 : BitVec 32 := Scalar.muli arg2 c8_i32
  let c1_i32_174 : BitVec 32 := 1#32
  let v443 : BitVec 32 := Scalar.subi v2 c1_i32_174
  let c0_i32_175 : BitVec 32 := 0#32
  let v444 : BitVec 32 := Scalar.maxsi v443 c0_i32_175
  let c256_i32_186 : BitVec 32 := 256#32
  let v469 : BitVec 32 := Scalar.muli v444 c256_i32_186
  v469
def k0_mult19 (i : grid0.Coords) : BitVec 32 :=
  let arg2 : BitVec 32 := BitVec.ofNat 32 (i 2).val
  let c8_i32 : BitVec 32 := 8#32
  let v2 : BitVec 32 := Scalar.muli arg2 c8_i32
  let c5_i32_219 : BitVec 32 := 5#32
  let v525 : BitVec 32 := Scalar.addi v2 c5_i32_219
  let c256_i32_222 : BitVec 32 := 256#32
  let v528 : BitVec 32 := Scalar.muli v525 c256_i32_222
  v528
def k0_off3 (i : grid0.Coords) (c5_i32_219 : BitVec 32) : Fin 2 → Nat :=
  let arg2 : BitVec 32 := BitVec.ofNat 32 (i 2).val
  let c8_i32 : BitVec 32 := 8#32
  let v2 : BitVec 32 := Scalar.muli arg2 c8_i32
  let v525 : BitVec 32 := Scalar.addi v2 c5_i32_219
  let c256_i32_222 : BitVec 32 := 256#32
  let v528 : BitVec 32 := Scalar.muli v525 c256_i32_222
  let v529 : BitVec 32 := v528
  let v530 : Index := Scalar.indexCast v529
  let c0_223 : Index := 0#32
  ![v530.toNat, 0]
def k0_mult20 (i : grid0.Coords) : BitVec 32 :=
  let arg2 : BitVec 32 := BitVec.ofNat 32 (i 2).val
  let c8_i32 : BitVec 32 := 8#32
  let v2 : BitVec 32 := Scalar.muli arg2 c8_i32
  let c5_i32_219 : BitVec 32 := 5#32
  let v525 : BitVec 32 := Scalar.addi v2 c5_i32_219
  let c256_i32_228 : BitVec 32 := 256#32
  let v546 : BitVec 32 := Scalar.muli v525 c256_i32_228
  v546
def k0_mult21 (i : grid0.Coords) : BitVec 32 :=
  let arg2 : BitVec 32 := BitVec.ofNat 32 (i 2).val
  let c8_i32 : BitVec 32 := 8#32
  let v2 : BitVec 32 := Scalar.muli arg2 c8_i32
  let c4_i32_240 : BitVec 32 := 4#32
  let v572 : BitVec 32 := Scalar.addi v2 c4_i32_240
  let c256_i32_243 : BitVec 32 := 256#32
  let v575 : BitVec 32 := Scalar.muli v572 c256_i32_243
  v575
def k0_mult22 (i : grid0.Coords) : BitVec 32 :=
  let arg2 : BitVec 32 := BitVec.ofNat 32 (i 2).val
  let c8_i32 : BitVec 32 := 8#32
  let v2 : BitVec 32 := Scalar.muli arg2 c8_i32
  let c4_i32_240 : BitVec 32 := 4#32
  let v572 : BitVec 32 := Scalar.addi v2 c4_i32_240
  let c256_i32_249 : BitVec 32 := 256#32
  let v593 : BitVec 32 := Scalar.muli v572 c256_i32_249
  v593
def k0_mult23 (i : grid0.Coords) : BitVec 32 :=
  let arg2 : BitVec 32 := BitVec.ofNat 32 (i 2).val
  let c8_i32 : BitVec 32 := 8#32
  let v2 : BitVec 32 := Scalar.muli arg2 c8_i32
  let c3_i32_261 : BitVec 32 := 3#32
  let v619 : BitVec 32 := Scalar.addi v2 c3_i32_261
  let c256_i32_264 : BitVec 32 := 256#32
  let v622 : BitVec 32 := Scalar.muli v619 c256_i32_264
  v622
def k0_mult24 (i : grid0.Coords) : BitVec 32 :=
  let arg2 : BitVec 32 := BitVec.ofNat 32 (i 2).val
  let c8_i32 : BitVec 32 := 8#32
  let v2 : BitVec 32 := Scalar.muli arg2 c8_i32
  let c3_i32_261 : BitVec 32 := 3#32
  let v619 : BitVec 32 := Scalar.addi v2 c3_i32_261
  let c256_i32_270 : BitVec 32 := 256#32
  let v640 : BitVec 32 := Scalar.muli v619 c256_i32_270
  v640
def k0_mult25 (i : grid0.Coords) : BitVec 32 :=
  let arg2 : BitVec 32 := BitVec.ofNat 32 (i 2).val
  let c8_i32 : BitVec 32 := 8#32
  let v2 : BitVec 32 := Scalar.muli arg2 c8_i32
  let c2_i32_282 : BitVec 32 := 2#32
  let v666 : BitVec 32 := Scalar.addi v2 c2_i32_282
  let c256_i32_285 : BitVec 32 := 256#32
  let v669 : BitVec 32 := Scalar.muli v666 c256_i32_285
  v669
def k0_mult26 (i : grid0.Coords) : BitVec 32 :=
  let arg2 : BitVec 32 := BitVec.ofNat 32 (i 2).val
  let c8_i32 : BitVec 32 := 8#32
  let v2 : BitVec 32 := Scalar.muli arg2 c8_i32
  let c2_i32_282 : BitVec 32 := 2#32
  let v666 : BitVec 32 := Scalar.addi v2 c2_i32_282
  let c256_i32_291 : BitVec 32 := 256#32
  let v687 : BitVec 32 := Scalar.muli v666 c256_i32_291
  v687
def k0_mult27 (i : grid0.Coords) : BitVec 32 :=
  let arg2 : BitVec 32 := BitVec.ofNat 32 (i 2).val
  let c8_i32 : BitVec 32 := 8#32
  let v2 : BitVec 32 := Scalar.muli arg2 c8_i32
  let c1_i32_303 : BitVec 32 := 1#32
  let v713 : BitVec 32 := Scalar.addi v2 c1_i32_303
  let c256_i32_306 : BitVec 32 := 256#32
  let v716 : BitVec 32 := Scalar.muli v713 c256_i32_306
  v716
def k0_mult28 (i : grid0.Coords) : BitVec 32 :=
  let arg2 : BitVec 32 := BitVec.ofNat 32 (i 2).val
  let c8_i32 : BitVec 32 := 8#32
  let v2 : BitVec 32 := Scalar.muli arg2 c8_i32
  let c1_i32_303 : BitVec 32 := 1#32
  let v713 : BitVec 32 := Scalar.addi v2 c1_i32_303
  let c256_i32_312 : BitVec 32 := 256#32
  let v734 : BitVec 32 := Scalar.muli v713 c256_i32_312
  v734
def k0_mult29 (i : grid0.Coords) : BitVec 32 :=
  let arg2 : BitVec 32 := BitVec.ofNat 32 (i 2).val
  let c8_i32 : BitVec 32 := 8#32
  let v2 : BitVec 32 := Scalar.muli arg2 c8_i32
  let c0_i32_324 : BitVec 32 := 0#32
  let v760 : BitVec 32 := Scalar.addi v2 c0_i32_324
  let c256_i32_327 : BitVec 32 := 256#32
  let v763 : BitVec 32 := Scalar.muli v760 c256_i32_327
  v763
def k0_mult30 (i : grid0.Coords) : BitVec 32 :=
  let arg2 : BitVec 32 := BitVec.ofNat 32 (i 2).val
  let c8_i32 : BitVec 32 := 8#32
  let v2 : BitVec 32 := Scalar.muli arg2 c8_i32
  let c0_i32_324 : BitVec 32 := 0#32
  let v760 : BitVec 32 := Scalar.addi v2 c0_i32_324
  let c256_i32_333 : BitVec 32 := 256#32
  let v781 : BitVec 32 := Scalar.muli v760 c256_i32_333
  v781
def k0_cond2 (i : grid0.Coords) : BitVec 1 :=
  let arg2 : BitVec 32 := BitVec.ofNat 32 (i 2).val
  let c8_i32 : BitVec 32 := 8#32
  let v2 : BitVec 32 := Scalar.muli arg2 c8_i32
  let c0_i32_345 : BitVec 32 := 0#32
  let v807 : BitVec 1 := Scalar.cmpi .sgt v2 c0_i32_345
  let v808 : BitVec 32 := Scalar.extui v807
  let c0_i32_346 : BitVec 32 := 0#32
  let v809 : BitVec 1 := Scalar.cmpi .ne v808 c0_i32_346
  v809

def k0_mult31 (i : grid0.Coords) : BitVec 32 :=
  let arg2 : BitVec 32 := BitVec.ofNat 32 (i 2).val
  let c8_i32 : BitVec 32 := 8#32
  let v2 : BitVec 32 := Scalar.muli arg2 c8_i32
  let c1_i32_350 : BitVec 32 := 1#32
  let v814 : BitVec 32 := Scalar.subi v2 c1_i32_350
  let c256_i32_353 : BitVec 32 := 256#32
  let v817 : BitVec 32 := Scalar.muli v814 c256_i32_353
  v817
def k0_off4 (i : grid0.Coords) : Fin 2 → Nat :=
  let arg2 : BitVec 32 := BitVec.ofNat 32 (i 2).val
  let c8_i32 : BitVec 32 := 8#32
  let v2 : BitVec 32 := Scalar.muli arg2 c8_i32
  let c1_i32_350 : BitVec 32 := 1#32
  let v814 : BitVec 32 := Scalar.subi v2 c1_i32_350
  let c256_i32_353 : BitVec 32 := 256#32
  let v817 : BitVec 32 := Scalar.muli v814 c256_i32_353
  let v818 : BitVec 32 := v817
  let v819 : Index := Scalar.indexCast v818
  let c0_354 : Index := 0#32
  ![v819.toNat, 0]
def k0_mult32 (i : grid0.Coords) : BitVec 32 :=
  let arg2 : BitVec 32 := BitVec.ofNat 32 (i 2).val
  let c8_i32 : BitVec 32 := 8#32
  let v2 : BitVec 32 := Scalar.muli arg2 c8_i32
  let c1_i32_350 : BitVec 32 := 1#32
  let v814 : BitVec 32 := Scalar.subi v2 c1_i32_350
  let c256_i32_359 : BitVec 32 := 256#32
  let v835 : BitVec 32 := Scalar.muli v814 c256_i32_359
  v835
def k0_mult33 (i : grid0.Coords) : BitVec 32 :=
  let arg2 : BitVec 32 := BitVec.ofNat 32 (i 2).val
  let c8_i32 : BitVec 32 := 8#32
  let v2 : BitVec 32 := Scalar.muli arg2 c8_i32
  let c2_i32_219 : BitVec 32 := 2#32
  let v525 : BitVec 32 := Scalar.subi v2 c2_i32_219
  let c256_i32_222 : BitVec 32 := 256#32
  let v528 : BitVec 32 := Scalar.muli v525 c256_i32_222
  v528
def k0_off5 (i : grid0.Coords) : Fin 2 → Nat :=
  let arg2 : BitVec 32 := BitVec.ofNat 32 (i 2).val
  let c8_i32 : BitVec 32 := 8#32
  let v2 : BitVec 32 := Scalar.muli arg2 c8_i32
  let c2_i32_219 : BitVec 32 := 2#32
  let v525 : BitVec 32 := Scalar.subi v2 c2_i32_219
  let c256_i32_222 : BitVec 32 := 256#32
  let v528 : BitVec 32 := Scalar.muli v525 c256_i32_222
  let v529 : BitVec 32 := v528
  let v530 : Index := Scalar.indexCast v529
  let c0_223 : Index := 0#32
  ![v530.toNat, 0]
def k0_cond3 (i : grid0.Coords) (v511 : BitVec 1) : BitVec 1 :=
  let arg2 : BitVec 32 := BitVec.ofNat 32 (i 2).val
  let c8_i32 : BitVec 32 := 8#32
  let v2 : BitVec 32 := Scalar.muli arg2 c8_i32
  let c0_i32_207 : BitVec 32 := 0#32
  let v509 : BitVec 1 := Scalar.cmpi .sgt v2 c0_i32_207
  let v512 : BitVec 1 := Scalar.andi v509 v511
  let v513 : BitVec 32 := Scalar.extui v512
  let c0_i32_209 : BitVec 32 := 0#32
  let v514 : BitVec 1 := Scalar.cmpi .ne v513 c0_i32_209
  v514

def k0_mult34 (i : grid0.Coords) : BitVec 32 :=
  let arg2 : BitVec 32 := BitVec.ofNat 32 (i 2).val
  let c8_i32 : BitVec 32 := 8#32
  let v2 : BitVec 32 := Scalar.muli arg2 c8_i32
  let c1_i32_245 : BitVec 32 := 1#32
  let v561 : BitVec 32 := Scalar.subi v2 c1_i32_245
  let c1_i32_246 : BitVec 32 := 1#32
  let v562 : BitVec 32 := Scalar.subi v561 c1_i32_246
  let c256_i32_247 : BitVec 32 := 256#32
  let v563 : BitVec 32 := Scalar.muli v562 c256_i32_247
  v563
def k0_off6 (i : grid0.Coords) (c1_i32_246 : BitVec 32) : Fin 2 → Nat :=
  let arg2 : BitVec 32 := BitVec.ofNat 32 (i 2).val
  let c8_i32 : BitVec 32 := 8#32
  let v2 : BitVec 32 := Scalar.muli arg2 c8_i32
  let c1_i32_245 : BitVec 32 := 1#32
  let v561 : BitVec 32 := Scalar.subi v2 c1_i32_245
  let v562 : BitVec 32 := Scalar.subi v561 c1_i32_246
  let c256_i32_247 : BitVec 32 := 256#32
  let v563 : BitVec 32 := Scalar.muli v562 c256_i32_247
  let v564 : BitVec 32 := v563
  let v565 : Index := Scalar.indexCast v564
  let c0_248 : Index := 0#32
  ![v565.toNat, 0]

def k0_chk1 (i : grid0.Coords) (v511 : BitVec 1) : Prop :=
  (∀ (k0_h3 : k0_cond3 i v511 = 1#1), ∀ a, (k0_off5 i) a + S256x128.size a ≤ S8192x128.size a) ∧
  (∀ (k0_h3 : k0_cond3 i v511 = 1#1), ∀ (r : Fin 7), ∀ a, (k0_off6 i (BitVec.ofNat 32 (1 + r.val))) a + S256x128.size a ≤ S8192x128.size a)
theorem k0_off5_inb : ∀ (i : grid0.Coords) (v511 : BitVec 1) (k0_hw1 : k0_chk1 i v511), ∀ (k0_h3 : k0_cond3 i v511 = 1#1), ∀ a, (k0_off5 i) a + S256x128.size a ≤ S8192x128.size a := fun i v511 k0_hw1 k0_h3 => k0_hw1.1 k0_h3
theorem k0_off6_inb : ∀ (i : grid0.Coords) (v511 : BitVec 1) (k0_hw1 : k0_chk1 i v511), ∀ (k0_h3 : k0_cond3 i v511 = 1#1), ∀ (r : Fin 7), ∀ a, (k0_off6 i (BitVec.ofNat 32 (1 + r.val))) a + S256x128.size a ≤ S8192x128.size a := fun i v511 k0_hw1 k0_h3 r => k0_hw1.2 k0_h3 r

def k0_mult35 (i : grid0.Coords) : BitVec 32 :=
  let arg2 : BitVec 32 := BitVec.ofNat 32 (i 2).val
  let c8_i32 : BitVec 32 := 8#32
  let v2 : BitVec 32 := Scalar.muli arg2 c8_i32
  let c2_i32_259 : BitVec 32 := 2#32
  let v589 : BitVec 32 := Scalar.subi v2 c2_i32_259
  let c1_i32_260 : BitVec 32 := 1#32
  let v590 : BitVec 32 := Scalar.subi v589 c1_i32_260
  let c0_i32_261 : BitVec 32 := 0#32
  let v591 : BitVec 32 := Scalar.maxsi v590 c0_i32_261
  let c256_i32_264 : BitVec 32 := 256#32
  let v594 : BitVec 32 := Scalar.muli v591 c256_i32_264
  v594
def k0_off7 (i : grid0.Coords) (c1_i32_260 : BitVec 32) : Fin 2 → Nat :=
  let arg2 : BitVec 32 := BitVec.ofNat 32 (i 2).val
  let c8_i32 : BitVec 32 := 8#32
  let v2 : BitVec 32 := Scalar.muli arg2 c8_i32
  let c2_i32_259 : BitVec 32 := 2#32
  let v589 : BitVec 32 := Scalar.subi v2 c2_i32_259
  let v590 : BitVec 32 := Scalar.subi v589 c1_i32_260
  let c0_i32_261 : BitVec 32 := 0#32
  let v591 : BitVec 32 := Scalar.maxsi v590 c0_i32_261
  let c256_i32_264 : BitVec 32 := 256#32
  let v594 : BitVec 32 := Scalar.muli v591 c256_i32_264
  let v595 : BitVec 32 := v594
  let v596 : Index := Scalar.indexCast v595
  let c0_265 : Index := 0#32
  ![v596.toNat, 0]
def k0_mult36 (i : grid0.Coords) : BitVec 32 :=
  let arg2 : BitVec 32 := BitVec.ofNat 32 (i 2).val
  let c8_i32 : BitVec 32 := 8#32
  let v2 : BitVec 32 := Scalar.muli arg2 c8_i32
  let c1_i32_288 : BitVec 32 := 1#32
  let v627 : BitVec 32 := Scalar.subi v2 c1_i32_288
  let c2_i32_289 : BitVec 32 := 2#32
  let v628 : BitVec 32 := Scalar.subi v627 c2_i32_289
  let c256_i32_290 : BitVec 32 := 256#32
  let v629 : BitVec 32 := Scalar.muli v628 c256_i32_290
  v629
def k0_mult37 (i : grid0.Coords) : BitVec 32 :=
  let arg2 : BitVec 32 := BitVec.ofNat 32 (i 2).val
  let c8_i32 : BitVec 32 := 8#32
  let v2 : BitVec 32 := Scalar.muli arg2 c8_i32
  let c2_i32_302 : BitVec 32 := 2#32
  let v655 : BitVec 32 := Scalar.subi v2 c2_i32_302
  let c2_i32_303 : BitVec 32 := 2#32
  let v656 : BitVec 32 := Scalar.subi v655 c2_i32_303
  let c0_i32_304 : BitVec 32 := 0#32
  let v657 : BitVec 32 := Scalar.maxsi v656 c0_i32_304
  let c256_i32_307 : BitVec 32 := 256#32
  let v660 : BitVec 32 := Scalar.muli v657 c256_i32_307
  v660
def k0_mult38 (i : grid0.Coords) : BitVec 32 :=
  let arg2 : BitVec 32 := BitVec.ofNat 32 (i 2).val
  let c8_i32 : BitVec 32 := 8#32
  let v2 : BitVec 32 := Scalar.muli arg2 c8_i32
  let c1_i32_331 : BitVec 32 := 1#32
  let v693 : BitVec 32 := Scalar.subi v2 c1_i32_331
  let c3_i32_332 : BitVec 32 := 3#32
  let v694 : BitVec 32 := Scalar.subi v693 c3_i32_332
  let c256_i32_333 : BitVec 32 := 256#32
  let v695 : BitVec 32 := Scalar.muli v694 c256_i32_333
  v695
def k0_mult39 (i : grid0.Coords) : BitVec 32 :=
  let arg2 : BitVec 32 := BitVec.ofNat 32 (i 2).val
  let c8_i32 : BitVec 32 := 8#32
  let v2 : BitVec 32 := Scalar.muli arg2 c8_i32
  let c2_i32_345 : BitVec 32 := 2#32
  let v721 : BitVec 32 := Scalar.subi v2 c2_i32_345
  let c3_i32_346 : BitVec 32 := 3#32
  let v722 : BitVec 32 := Scalar.subi v721 c3_i32_346
  let c0_i32_347 : BitVec 32 := 0#32
  let v723 : BitVec 32 := Scalar.maxsi v722 c0_i32_347
  let c256_i32_350 : BitVec 32 := 256#32
  let v726 : BitVec 32 := Scalar.muli v723 c256_i32_350
  v726
def k0_mult40 (i : grid0.Coords) : BitVec 32 :=
  let arg2 : BitVec 32 := BitVec.ofNat 32 (i 2).val
  let c8_i32 : BitVec 32 := 8#32
  let v2 : BitVec 32 := Scalar.muli arg2 c8_i32
  let c1_i32_374 : BitVec 32 := 1#32
  let v759 : BitVec 32 := Scalar.subi v2 c1_i32_374
  let c4_i32_375 : BitVec 32 := 4#32
  let v760 : BitVec 32 := Scalar.subi v759 c4_i32_375
  let c256_i32_376 : BitVec 32 := 256#32
  let v761 : BitVec 32 := Scalar.muli v760 c256_i32_376
  v761
def k0_mult41 (i : grid0.Coords) : BitVec 32 :=
  let arg2 : BitVec 32 := BitVec.ofNat 32 (i 2).val
  let c8_i32 : BitVec 32 := 8#32
  let v2 : BitVec 32 := Scalar.muli arg2 c8_i32
  let c2_i32_388 : BitVec 32 := 2#32
  let v787 : BitVec 32 := Scalar.subi v2 c2_i32_388
  let c4_i32_389 : BitVec 32 := 4#32
  let v788 : BitVec 32 := Scalar.subi v787 c4_i32_389
  let c0_i32_390 : BitVec 32 := 0#32
  let v789 : BitVec 32 := Scalar.maxsi v788 c0_i32_390
  let c256_i32_393 : BitVec 32 := 256#32
  let v792 : BitVec 32 := Scalar.muli v789 c256_i32_393
  v792
def k0_mult42 (i : grid0.Coords) : BitVec 32 :=
  let arg2 : BitVec 32 := BitVec.ofNat 32 (i 2).val
  let c8_i32 : BitVec 32 := 8#32
  let v2 : BitVec 32 := Scalar.muli arg2 c8_i32
  let c1_i32_417 : BitVec 32 := 1#32
  let v825 : BitVec 32 := Scalar.subi v2 c1_i32_417
  let c5_i32_418 : BitVec 32 := 5#32
  let v826 : BitVec 32 := Scalar.subi v825 c5_i32_418
  let c256_i32_419 : BitVec 32 := 256#32
  let v827 : BitVec 32 := Scalar.muli v826 c256_i32_419
  v827
def k0_mult43 (i : grid0.Coords) : BitVec 32 :=
  let arg2 : BitVec 32 := BitVec.ofNat 32 (i 2).val
  let c8_i32 : BitVec 32 := 8#32
  let v2 : BitVec 32 := Scalar.muli arg2 c8_i32
  let c2_i32_431 : BitVec 32 := 2#32
  let v853 : BitVec 32 := Scalar.subi v2 c2_i32_431
  let c5_i32_432 : BitVec 32 := 5#32
  let v854 : BitVec 32 := Scalar.subi v853 c5_i32_432
  let c0_i32_433 : BitVec 32 := 0#32
  let v855 : BitVec 32 := Scalar.maxsi v854 c0_i32_433
  let c256_i32_436 : BitVec 32 := 256#32
  let v858 : BitVec 32 := Scalar.muli v855 c256_i32_436
  v858
def k0_mult44 (i : grid0.Coords) : BitVec 32 :=
  let arg2 : BitVec 32 := BitVec.ofNat 32 (i 2).val
  let c8_i32 : BitVec 32 := 8#32
  let v2 : BitVec 32 := Scalar.muli arg2 c8_i32
  let c1_i32_460 : BitVec 32 := 1#32
  let v891 : BitVec 32 := Scalar.subi v2 c1_i32_460
  let c6_i32_461 : BitVec 32 := 6#32
  let v892 : BitVec 32 := Scalar.subi v891 c6_i32_461
  let c256_i32_462 : BitVec 32 := 256#32
  let v893 : BitVec 32 := Scalar.muli v892 c256_i32_462
  v893
def k0_mult45 (i : grid0.Coords) : BitVec 32 :=
  let arg2 : BitVec 32 := BitVec.ofNat 32 (i 2).val
  let c8_i32 : BitVec 32 := 8#32
  let v2 : BitVec 32 := Scalar.muli arg2 c8_i32
  let c2_i32_474 : BitVec 32 := 2#32
  let v919 : BitVec 32 := Scalar.subi v2 c2_i32_474
  let c6_i32_475 : BitVec 32 := 6#32
  let v920 : BitVec 32 := Scalar.subi v919 c6_i32_475
  let c0_i32_476 : BitVec 32 := 0#32
  let v921 : BitVec 32 := Scalar.maxsi v920 c0_i32_476
  let c256_i32_479 : BitVec 32 := 256#32
  let v924 : BitVec 32 := Scalar.muli v921 c256_i32_479
  v924
def k0_mult46 (i : grid0.Coords) : BitVec 32 :=
  let arg2 : BitVec 32 := BitVec.ofNat 32 (i 2).val
  let c8_i32 : BitVec 32 := 8#32
  let v2 : BitVec 32 := Scalar.muli arg2 c8_i32
  let c1_i32_503 : BitVec 32 := 1#32
  let v957 : BitVec 32 := Scalar.subi v2 c1_i32_503
  let c7_i32_504 : BitVec 32 := 7#32
  let v958 : BitVec 32 := Scalar.subi v957 c7_i32_504
  let c256_i32_505 : BitVec 32 := 256#32
  let v959 : BitVec 32 := Scalar.muli v958 c256_i32_505
  v959
def k0_mult47 (i : grid0.Coords) : BitVec 32 :=
  let arg2 : BitVec 32 := BitVec.ofNat 32 (i 2).val
  let c8_i32 : BitVec 32 := 8#32
  let v2 : BitVec 32 := Scalar.muli arg2 c8_i32
  let c2_i32_517 : BitVec 32 := 2#32
  let v985 : BitVec 32 := Scalar.subi v2 c2_i32_517
  let c7_i32_518 : BitVec 32 := 7#32
  let v986 : BitVec 32 := Scalar.subi v985 c7_i32_518
  let c0_i32_519 : BitVec 32 := 0#32
  let v987 : BitVec 32 := Scalar.maxsi v986 c0_i32_519
  let c256_i32_522 : BitVec 32 := 256#32
  let v990 : BitVec 32 := Scalar.muli v987 c256_i32_522
  v990
def k0_mult48 (i : grid0.Coords) (arg13 : BitVec 32) : BitVec 32 :=
  let arg2 : BitVec 32 := BitVec.ofNat 32 (i 2).val
  let c8_i32 : BitVec 32 := 8#32
  let v2 : BitVec 32 := Scalar.muli arg2 c8_i32
  let c1_i32_230 : BitVec 32 := 1#32
  let v533 : BitVec 32 := Scalar.subi v2 c1_i32_230
  let c8_i32_219 : BitVec 32 := 8#32
  let v525 : BitVec 32 := Scalar.muli arg13 c8_i32_219
  let c0_i32_220 : BitVec 32 := 0#32
  let v526 : BitVec 32 := Scalar.addi v525 c0_i32_220
  let v534 : BitVec 32 := Scalar.subi v533 v526
  let c256_i32_231 : BitVec 32 := 256#32
  let v535 : BitVec 32 := Scalar.muli v534 c256_i32_231
  v535

def k0_off8 (i : grid0.Coords) (arg13 : BitVec 32) (c0_i32_220 : BitVec 32) : Fin 2 → Nat :=
  let arg2 : BitVec 32 := BitVec.ofNat 32 (i 2).val
  let c8_i32 : BitVec 32 := 8#32
  let v2 : BitVec 32 := Scalar.muli arg2 c8_i32
  let c1_i32_230 : BitVec 32 := 1#32
  let v533 : BitVec 32 := Scalar.subi v2 c1_i32_230
  let c8_i32_219 : BitVec 32 := 8#32
  let v525 : BitVec 32 := Scalar.muli arg13 c8_i32_219
  let v526 : BitVec 32 := Scalar.addi v525 c0_i32_220
  let v534 : BitVec 32 := Scalar.subi v533 v526
  let c256_i32_231 : BitVec 32 := 256#32
  let v535 : BitVec 32 := Scalar.muli v534 c256_i32_231
  let v536 : BitVec 32 := v535
  let v537 : Index := Scalar.indexCast v536
  let c0_232 : Index := 0#32
  ![v537.toNat, 0]
def k0_mult49 (i : grid0.Coords) (arg13 : BitVec 32) : BitVec 32 :=
  let arg2 : BitVec 32 := BitVec.ofNat 32 (i 2).val
  let c8_i32 : BitVec 32 := 8#32
  let v2 : BitVec 32 := Scalar.muli arg2 c8_i32
  let c2_i32_243 : BitVec 32 := 2#32
  let v561 : BitVec 32 := Scalar.subi v2 c2_i32_243
  let c8_i32_219 : BitVec 32 := 8#32
  let v525 : BitVec 32 := Scalar.muli arg13 c8_i32_219
  let c0_i32_220 : BitVec 32 := 0#32
  let v526 : BitVec 32 := Scalar.addi v525 c0_i32_220
  let v562 : BitVec 32 := Scalar.subi v561 v526
  let c0_i32_244 : BitVec 32 := 0#32
  let v563 : BitVec 32 := Scalar.maxsi v562 c0_i32_244
  let c256_i32_247 : BitVec 32 := 256#32
  let v566 : BitVec 32 := Scalar.muli v563 c256_i32_247
  v566
def k0_off9 (i : grid0.Coords) (arg13 : BitVec 32) (c0_i32_220 : BitVec 32) : Fin 2 → Nat :=
  let arg2 : BitVec 32 := BitVec.ofNat 32 (i 2).val
  let c8_i32 : BitVec 32 := 8#32
  let v2 : BitVec 32 := Scalar.muli arg2 c8_i32
  let c2_i32_243 : BitVec 32 := 2#32
  let v561 : BitVec 32 := Scalar.subi v2 c2_i32_243
  let c8_i32_219 : BitVec 32 := 8#32
  let v525 : BitVec 32 := Scalar.muli arg13 c8_i32_219
  let v526 : BitVec 32 := Scalar.addi v525 c0_i32_220
  let v562 : BitVec 32 := Scalar.subi v561 v526
  let c0_i32_244 : BitVec 32 := 0#32
  let v563 : BitVec 32 := Scalar.maxsi v562 c0_i32_244
  let c256_i32_247 : BitVec 32 := 256#32
  let v566 : BitVec 32 := Scalar.muli v563 c256_i32_247
  let v567 : BitVec 32 := v566
  let v568 : Index := Scalar.indexCast v567
  let c0_248 : Index := 0#32
  ![v568.toNat, 0]
def k0_mult50 (i : grid0.Coords) (arg13 : BitVec 32) : BitVec 32 :=
  let arg2 : BitVec 32 := BitVec.ofNat 32 (i 2).val
  let c8_i32 : BitVec 32 := 8#32
  let v2 : BitVec 32 := Scalar.muli arg2 c8_i32
  let c1_i32_272 : BitVec 32 := 1#32
  let v601 : BitVec 32 := Scalar.subi v2 c1_i32_272
  let c8_i32_261 : BitVec 32 := 8#32
  let v593 : BitVec 32 := Scalar.muli arg13 c8_i32_261
  let c1_i32_262 : BitVec 32 := 1#32
  let v594 : BitVec 32 := Scalar.addi v593 c1_i32_262
  let v602 : BitVec 32 := Scalar.subi v601 v594
  let c256_i32_273 : BitVec 32 := 256#32
  let v603 : BitVec 32 := Scalar.muli v602 c256_i32_273
  v603
def k0_mult51 (i : grid0.Coords) (arg13 : BitVec 32) : BitVec 32 :=
  let arg2 : BitVec 32 := BitVec.ofNat 32 (i 2).val
  let c8_i32 : BitVec 32 := 8#32
  let v2 : BitVec 32 := Scalar.muli arg2 c8_i32
  let c2_i32_285 : BitVec 32 := 2#32
  let v629 : BitVec 32 := Scalar.subi v2 c2_i32_285
  let c8_i32_261 : BitVec 32 := 8#32
  let v593 : BitVec 32 := Scalar.muli arg13 c8_i32_261
  let c1_i32_262 : BitVec 32 := 1#32
  let v594 : BitVec 32 := Scalar.addi v593 c1_i32_262
  let v630 : BitVec 32 := Scalar.subi v629 v594
  let c0_i32_286 : BitVec 32 := 0#32
  let v631 : BitVec 32 := Scalar.maxsi v630 c0_i32_286
  let c256_i32_289 : BitVec 32 := 256#32
  let v634 : BitVec 32 := Scalar.muli v631 c256_i32_289
  v634
def k0_mult52 (i : grid0.Coords) (arg13 : BitVec 32) : BitVec 32 :=
  let arg2 : BitVec 32 := BitVec.ofNat 32 (i 2).val
  let c8_i32 : BitVec 32 := 8#32
  let v2 : BitVec 32 := Scalar.muli arg2 c8_i32
  let c1_i32_315 : BitVec 32 := 1#32
  let v669 : BitVec 32 := Scalar.subi v2 c1_i32_315
  let c8_i32_304 : BitVec 32 := 8#32
  let v661 : BitVec 32 := Scalar.muli arg13 c8_i32_304
  let c2_i32_305 : BitVec 32 := 2#32
  let v662 : BitVec 32 := Scalar.addi v661 c2_i32_305
  let v670 : BitVec 32 := Scalar.subi v669 v662
  let c256_i32_316 : BitVec 32 := 256#32
  let v671 : BitVec 32 := Scalar.muli v670 c256_i32_316
  v671
def k0_mult53 (i : grid0.Coords) (arg13 : BitVec 32) : BitVec 32 :=
  let arg2 : BitVec 32 := BitVec.ofNat 32 (i 2).val
  let c8_i32 : BitVec 32 := 8#32
  let v2 : BitVec 32 := Scalar.muli arg2 c8_i32
  let c2_i32_328 : BitVec 32 := 2#32
  let v697 : BitVec 32 := Scalar.subi v2 c2_i32_328
  let c8_i32_304 : BitVec 32 := 8#32
  let v661 : BitVec 32 := Scalar.muli arg13 c8_i32_304
  let c2_i32_305 : BitVec 32 := 2#32
  let v662 : BitVec 32 := Scalar.addi v661 c2_i32_305
  let v698 : BitVec 32 := Scalar.subi v697 v662
  let c0_i32_329 : BitVec 32 := 0#32
  let v699 : BitVec 32 := Scalar.maxsi v698 c0_i32_329
  let c256_i32_332 : BitVec 32 := 256#32
  let v702 : BitVec 32 := Scalar.muli v699 c256_i32_332
  v702
def k0_mult54 (i : grid0.Coords) (arg13 : BitVec 32) : BitVec 32 :=
  let arg2 : BitVec 32 := BitVec.ofNat 32 (i 2).val
  let c8_i32 : BitVec 32 := 8#32
  let v2 : BitVec 32 := Scalar.muli arg2 c8_i32
  let c1_i32_358 : BitVec 32 := 1#32
  let v737 : BitVec 32 := Scalar.subi v2 c1_i32_358
  let c8_i32_347 : BitVec 32 := 8#32
  let v729 : BitVec 32 := Scalar.muli arg13 c8_i32_347
  let c3_i32_348 : BitVec 32 := 3#32
  let v730 : BitVec 32 := Scalar.addi v729 c3_i32_348
  let v738 : BitVec 32 := Scalar.subi v737 v730
  let c256_i32_359 : BitVec 32 := 256#32
  let v739 : BitVec 32 := Scalar.muli v738 c256_i32_359
  v739
def k0_mult55 (i : grid0.Coords) (arg13 : BitVec 32) : BitVec 32 :=
  let arg2 : BitVec 32 := BitVec.ofNat 32 (i 2).val
  let c8_i32 : BitVec 32 := 8#32
  let v2 : BitVec 32 := Scalar.muli arg2 c8_i32
  let c2_i32_371 : BitVec 32 := 2#32
  let v765 : BitVec 32 := Scalar.subi v2 c2_i32_371
  let c8_i32_347 : BitVec 32 := 8#32
  let v729 : BitVec 32 := Scalar.muli arg13 c8_i32_347
  let c3_i32_348 : BitVec 32 := 3#32
  let v730 : BitVec 32 := Scalar.addi v729 c3_i32_348
  let v766 : BitVec 32 := Scalar.subi v765 v730
  let c0_i32_372 : BitVec 32 := 0#32
  let v767 : BitVec 32 := Scalar.maxsi v766 c0_i32_372
  let c256_i32_375 : BitVec 32 := 256#32
  let v770 : BitVec 32 := Scalar.muli v767 c256_i32_375
  v770
def k0_mult56 (i : grid0.Coords) (arg13 : BitVec 32) : BitVec 32 :=
  let arg2 : BitVec 32 := BitVec.ofNat 32 (i 2).val
  let c8_i32 : BitVec 32 := 8#32
  let v2 : BitVec 32 := Scalar.muli arg2 c8_i32
  let c1_i32_401 : BitVec 32 := 1#32
  let v805 : BitVec 32 := Scalar.subi v2 c1_i32_401
  let c8_i32_390 : BitVec 32 := 8#32
  let v797 : BitVec 32 := Scalar.muli arg13 c8_i32_390
  let c4_i32_391 : BitVec 32 := 4#32
  let v798 : BitVec 32 := Scalar.addi v797 c4_i32_391
  let v806 : BitVec 32 := Scalar.subi v805 v798
  let c256_i32_402 : BitVec 32 := 256#32
  let v807 : BitVec 32 := Scalar.muli v806 c256_i32_402
  v807
def k0_mult57 (i : grid0.Coords) (arg13 : BitVec 32) : BitVec 32 :=
  let arg2 : BitVec 32 := BitVec.ofNat 32 (i 2).val
  let c8_i32 : BitVec 32 := 8#32
  let v2 : BitVec 32 := Scalar.muli arg2 c8_i32
  let c2_i32_414 : BitVec 32 := 2#32
  let v833 : BitVec 32 := Scalar.subi v2 c2_i32_414
  let c8_i32_390 : BitVec 32 := 8#32
  let v797 : BitVec 32 := Scalar.muli arg13 c8_i32_390
  let c4_i32_391 : BitVec 32 := 4#32
  let v798 : BitVec 32 := Scalar.addi v797 c4_i32_391
  let v834 : BitVec 32 := Scalar.subi v833 v798
  let c0_i32_415 : BitVec 32 := 0#32
  let v835 : BitVec 32 := Scalar.maxsi v834 c0_i32_415
  let c256_i32_418 : BitVec 32 := 256#32
  let v838 : BitVec 32 := Scalar.muli v835 c256_i32_418
  v838
def k0_mult58 (i : grid0.Coords) (arg13 : BitVec 32) : BitVec 32 :=
  let arg2 : BitVec 32 := BitVec.ofNat 32 (i 2).val
  let c8_i32 : BitVec 32 := 8#32
  let v2 : BitVec 32 := Scalar.muli arg2 c8_i32
  let c1_i32_444 : BitVec 32 := 1#32
  let v873 : BitVec 32 := Scalar.subi v2 c1_i32_444
  let c8_i32_433 : BitVec 32 := 8#32
  let v865 : BitVec 32 := Scalar.muli arg13 c8_i32_433
  let c5_i32_434 : BitVec 32 := 5#32
  let v866 : BitVec 32 := Scalar.addi v865 c5_i32_434
  let v874 : BitVec 32 := Scalar.subi v873 v866
  let c256_i32_445 : BitVec 32 := 256#32
  let v875 : BitVec 32 := Scalar.muli v874 c256_i32_445
  v875
def k0_mult59 (i : grid0.Coords) (arg13 : BitVec 32) : BitVec 32 :=
  let arg2 : BitVec 32 := BitVec.ofNat 32 (i 2).val
  let c8_i32 : BitVec 32 := 8#32
  let v2 : BitVec 32 := Scalar.muli arg2 c8_i32
  let c2_i32_457 : BitVec 32 := 2#32
  let v901 : BitVec 32 := Scalar.subi v2 c2_i32_457
  let c8_i32_433 : BitVec 32 := 8#32
  let v865 : BitVec 32 := Scalar.muli arg13 c8_i32_433
  let c5_i32_434 : BitVec 32 := 5#32
  let v866 : BitVec 32 := Scalar.addi v865 c5_i32_434
  let v902 : BitVec 32 := Scalar.subi v901 v866
  let c0_i32_458 : BitVec 32 := 0#32
  let v903 : BitVec 32 := Scalar.maxsi v902 c0_i32_458
  let c256_i32_461 : BitVec 32 := 256#32
  let v906 : BitVec 32 := Scalar.muli v903 c256_i32_461
  v906
def k0_mult60 (i : grid0.Coords) (arg13 : BitVec 32) : BitVec 32 :=
  let arg2 : BitVec 32 := BitVec.ofNat 32 (i 2).val
  let c8_i32 : BitVec 32 := 8#32
  let v2 : BitVec 32 := Scalar.muli arg2 c8_i32
  let c1_i32_487 : BitVec 32 := 1#32
  let v941 : BitVec 32 := Scalar.subi v2 c1_i32_487
  let c8_i32_476 : BitVec 32 := 8#32
  let v933 : BitVec 32 := Scalar.muli arg13 c8_i32_476
  let c6_i32_477 : BitVec 32 := 6#32
  let v934 : BitVec 32 := Scalar.addi v933 c6_i32_477
  let v942 : BitVec 32 := Scalar.subi v941 v934
  let c256_i32_488 : BitVec 32 := 256#32
  let v943 : BitVec 32 := Scalar.muli v942 c256_i32_488
  v943
def k0_mult61 (i : grid0.Coords) (arg13 : BitVec 32) : BitVec 32 :=
  let arg2 : BitVec 32 := BitVec.ofNat 32 (i 2).val
  let c8_i32 : BitVec 32 := 8#32
  let v2 : BitVec 32 := Scalar.muli arg2 c8_i32
  let c2_i32_500 : BitVec 32 := 2#32
  let v969 : BitVec 32 := Scalar.subi v2 c2_i32_500
  let c8_i32_476 : BitVec 32 := 8#32
  let v933 : BitVec 32 := Scalar.muli arg13 c8_i32_476
  let c6_i32_477 : BitVec 32 := 6#32
  let v934 : BitVec 32 := Scalar.addi v933 c6_i32_477
  let v970 : BitVec 32 := Scalar.subi v969 v934
  let c0_i32_501 : BitVec 32 := 0#32
  let v971 : BitVec 32 := Scalar.maxsi v970 c0_i32_501
  let c256_i32_504 : BitVec 32 := 256#32
  let v974 : BitVec 32 := Scalar.muli v971 c256_i32_504
  v974
def k0_mult62 (i : grid0.Coords) (arg13 : BitVec 32) : BitVec 32 :=
  let arg2 : BitVec 32 := BitVec.ofNat 32 (i 2).val
  let c8_i32 : BitVec 32 := 8#32
  let v2 : BitVec 32 := Scalar.muli arg2 c8_i32
  let c1_i32_530 : BitVec 32 := 1#32
  let v1009 : BitVec 32 := Scalar.subi v2 c1_i32_530
  let c8_i32_519 : BitVec 32 := 8#32
  let v1001 : BitVec 32 := Scalar.muli arg13 c8_i32_519
  let c7_i32_520 : BitVec 32 := 7#32
  let v1002 : BitVec 32 := Scalar.addi v1001 c7_i32_520
  let v1010 : BitVec 32 := Scalar.subi v1009 v1002
  let c256_i32_531 : BitVec 32 := 256#32
  let v1011 : BitVec 32 := Scalar.muli v1010 c256_i32_531
  v1011
def k0_mult63 (i : grid0.Coords) (arg13 : BitVec 32) : BitVec 32 :=
  let arg2 : BitVec 32 := BitVec.ofNat 32 (i 2).val
  let c8_i32 : BitVec 32 := 8#32
  let v2 : BitVec 32 := Scalar.muli arg2 c8_i32
  let c2_i32_543 : BitVec 32 := 2#32
  let v1037 : BitVec 32 := Scalar.subi v2 c2_i32_543
  let c8_i32_519 : BitVec 32 := 8#32
  let v1001 : BitVec 32 := Scalar.muli arg13 c8_i32_519
  let c7_i32_520 : BitVec 32 := 7#32
  let v1002 : BitVec 32 := Scalar.addi v1001 c7_i32_520
  let v1038 : BitVec 32 := Scalar.subi v1037 v1002
  let c0_i32_544 : BitVec 32 := 0#32
  let v1039 : BitVec 32 := Scalar.maxsi v1038 c0_i32_544
  let c256_i32_547 : BitVec 32 := 256#32
  let v1042 : BitVec 32 := Scalar.muli v1039 c256_i32_547
  v1042

def k0_chk2 (i : grid0.Coords) (arg13 : BitVec 32) : Prop :=
  (256 ∣ (k0_mult48 i arg13).toNat) ∧
  (∀ (r : Fin 8), ∀ a, (k0_off8 i arg13 (BitVec.ofNat 32 r.val)) a + S256x128.size a ≤ S8192x128.size a) ∧
  (256 ∣ (k0_mult49 i arg13).toNat) ∧
  (∀ (r : Fin 8), ∀ a, (k0_off9 i arg13 (BitVec.ofNat 32 r.val)) a + S256x128.size a ≤ S8192x128.size a) ∧
  (256 ∣ (k0_mult50 i arg13).toNat) ∧
  (256 ∣ (k0_mult51 i arg13).toNat) ∧
  (256 ∣ (k0_mult52 i arg13).toNat) ∧
  (256 ∣ (k0_mult53 i arg13).toNat) ∧
  (256 ∣ (k0_mult54 i arg13).toNat) ∧
  (256 ∣ (k0_mult55 i arg13).toNat) ∧
  (256 ∣ (k0_mult56 i arg13).toNat) ∧
  (256 ∣ (k0_mult57 i arg13).toNat) ∧
  (256 ∣ (k0_mult58 i arg13).toNat) ∧
  (256 ∣ (k0_mult59 i arg13).toNat) ∧
  (256 ∣ (k0_mult60 i arg13).toNat) ∧
  (256 ∣ (k0_mult61 i arg13).toNat) ∧
  (256 ∣ (k0_mult62 i arg13).toNat) ∧
  (256 ∣ (k0_mult63 i arg13).toNat)
theorem k0_mult48_dvd : ∀ (i : grid0.Coords) (arg13 : BitVec 32) (k0_hw2 : k0_chk2 i arg13), 256 ∣ (k0_mult48 i arg13).toNat := fun i arg13 k0_hw2 => k0_hw2.1
theorem k0_off8_inb : ∀ (i : grid0.Coords) (arg13 : BitVec 32) (k0_hw2 : k0_chk2 i arg13), ∀ (r : Fin 8), ∀ a, (k0_off8 i arg13 (BitVec.ofNat 32 r.val)) a + S256x128.size a ≤ S8192x128.size a := fun i arg13 k0_hw2 r => k0_hw2.2.1 r
theorem k0_mult49_dvd : ∀ (i : grid0.Coords) (arg13 : BitVec 32) (k0_hw2 : k0_chk2 i arg13), 256 ∣ (k0_mult49 i arg13).toNat := fun i arg13 k0_hw2 => k0_hw2.2.2.1
theorem k0_off9_inb : ∀ (i : grid0.Coords) (arg13 : BitVec 32) (k0_hw2 : k0_chk2 i arg13), ∀ (r : Fin 8), ∀ a, (k0_off9 i arg13 (BitVec.ofNat 32 r.val)) a + S256x128.size a ≤ S8192x128.size a := fun i arg13 k0_hw2 r => k0_hw2.2.2.2.1 r
theorem k0_mult50_dvd : ∀ (i : grid0.Coords) (arg13 : BitVec 32) (k0_hw2 : k0_chk2 i arg13), 256 ∣ (k0_mult50 i arg13).toNat := fun i arg13 k0_hw2 => k0_hw2.2.2.2.2.1
theorem k0_mult51_dvd : ∀ (i : grid0.Coords) (arg13 : BitVec 32) (k0_hw2 : k0_chk2 i arg13), 256 ∣ (k0_mult51 i arg13).toNat := fun i arg13 k0_hw2 => k0_hw2.2.2.2.2.2.1
theorem k0_mult52_dvd : ∀ (i : grid0.Coords) (arg13 : BitVec 32) (k0_hw2 : k0_chk2 i arg13), 256 ∣ (k0_mult52 i arg13).toNat := fun i arg13 k0_hw2 => k0_hw2.2.2.2.2.2.2.1
theorem k0_mult53_dvd : ∀ (i : grid0.Coords) (arg13 : BitVec 32) (k0_hw2 : k0_chk2 i arg13), 256 ∣ (k0_mult53 i arg13).toNat := fun i arg13 k0_hw2 => k0_hw2.2.2.2.2.2.2.2.1
theorem k0_mult54_dvd : ∀ (i : grid0.Coords) (arg13 : BitVec 32) (k0_hw2 : k0_chk2 i arg13), 256 ∣ (k0_mult54 i arg13).toNat := fun i arg13 k0_hw2 => k0_hw2.2.2.2.2.2.2.2.2.1
theorem k0_mult55_dvd : ∀ (i : grid0.Coords) (arg13 : BitVec 32) (k0_hw2 : k0_chk2 i arg13), 256 ∣ (k0_mult55 i arg13).toNat := fun i arg13 k0_hw2 => k0_hw2.2.2.2.2.2.2.2.2.2.1
theorem k0_mult56_dvd : ∀ (i : grid0.Coords) (arg13 : BitVec 32) (k0_hw2 : k0_chk2 i arg13), 256 ∣ (k0_mult56 i arg13).toNat := fun i arg13 k0_hw2 => k0_hw2.2.2.2.2.2.2.2.2.2.2.1
theorem k0_mult57_dvd : ∀ (i : grid0.Coords) (arg13 : BitVec 32) (k0_hw2 : k0_chk2 i arg13), 256 ∣ (k0_mult57 i arg13).toNat := fun i arg13 k0_hw2 => k0_hw2.2.2.2.2.2.2.2.2.2.2.2.1
theorem k0_mult58_dvd : ∀ (i : grid0.Coords) (arg13 : BitVec 32) (k0_hw2 : k0_chk2 i arg13), 256 ∣ (k0_mult58 i arg13).toNat := fun i arg13 k0_hw2 => k0_hw2.2.2.2.2.2.2.2.2.2.2.2.2.1
theorem k0_mult59_dvd : ∀ (i : grid0.Coords) (arg13 : BitVec 32) (k0_hw2 : k0_chk2 i arg13), 256 ∣ (k0_mult59 i arg13).toNat := fun i arg13 k0_hw2 => k0_hw2.2.2.2.2.2.2.2.2.2.2.2.2.2.1
theorem k0_mult60_dvd : ∀ (i : grid0.Coords) (arg13 : BitVec 32) (k0_hw2 : k0_chk2 i arg13), 256 ∣ (k0_mult60 i arg13).toNat := fun i arg13 k0_hw2 => k0_hw2.2.2.2.2.2.2.2.2.2.2.2.2.2.2.1
theorem k0_mult61_dvd : ∀ (i : grid0.Coords) (arg13 : BitVec 32) (k0_hw2 : k0_chk2 i arg13), 256 ∣ (k0_mult61 i arg13).toNat := fun i arg13 k0_hw2 => k0_hw2.2.2.2.2.2.2.2.2.2.2.2.2.2.2.2.1
theorem k0_mult62_dvd : ∀ (i : grid0.Coords) (arg13 : BitVec 32) (k0_hw2 : k0_chk2 i arg13), 256 ∣ (k0_mult62 i arg13).toNat := fun i arg13 k0_hw2 => k0_hw2.2.2.2.2.2.2.2.2.2.2.2.2.2.2.2.2.1
theorem k0_mult63_dvd : ∀ (i : grid0.Coords) (arg13 : BitVec 32) (k0_hw2 : k0_chk2 i arg13), 256 ∣ (k0_mult63 i arg13).toNat := fun i arg13 k0_hw2 => k0_hw2.2.2.2.2.2.2.2.2.2.2.2.2.2.2.2.2.2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "dead_carry" => some ⊤
  | "exp2_arg_max" => some ⊤
  | "inv_ln2" => some (((Real.log 2)⁻¹ : ℝ) : EReal)
  | _ => none
-- ==== ReferenceIdeal.lean ====
abbrev S4x8192x6144 : Shape := ⟨3, ![4, 8192, 6144]⟩
abbrev S4x8192x3x16x128 : Shape := ⟨5, ![4, 8192, 3, 16, 128]⟩
abbrev S3x4x16x8192x128 : Shape := ⟨5, ![3, 4, 16, 8192, 128]⟩
abbrev S1x4x16x8192x128 : Shape := ⟨5, ![1, 4, 16, 8192, 128]⟩
abbrev S4x16x8192x128 : Shape := ⟨4, ![4, 16, 8192, 128]⟩
abbrev S_ : Shape := ⟨0, ![]⟩
abbrev S8192 : Shape := ⟨1, ![8192]⟩
abbrev S4x16x8192x8192 : Shape := ⟨4, ![4, 16, 8192, 8192]⟩
abbrev S1x8192 : Shape := ⟨2, ![1, 8192]⟩
abbrev S8192x1 : Shape := ⟨2, ![8192, 1]⟩
abbrev S8192x8192 : Shape := ⟨2, ![8192, 8192]⟩
abbrev S4x16x8192x8191 : Shape := ⟨4, ![4, 16, 8192, 8191]⟩
abbrev S4x16x8192x1 : Shape := ⟨4, ![4, 16, 8192, 1]⟩
abbrev S4x8192x16x128 : Shape := ⟨4, ![4, 8192, 16, 128]⟩
abbrev S32768x2048 : Shape := ⟨2, ![32768, 2048]⟩

abbrev nBuf : Space → Nat
  | .hbm => 76
  | .vmem => 0
  | .smem => 0
  | _ => 0

abbrev bufTy : (tb : Table) → Fin (tcTables nBuf tb) → BufTy
  | .hbm, ⟨0, _⟩ => ⟨S4x8192x6144, .f32⟩
  | .hbm, ⟨1, _⟩ => ⟨S4x8192x3x16x128, .f32⟩
  | .hbm, ⟨2, _⟩ => ⟨S3x4x16x8192x128, .f32⟩
  | .hbm, ⟨3, _⟩ => ⟨S1x4x16x8192x128, .f32⟩
  | .hbm, ⟨4, _⟩ => ⟨S4x16x8192x128, .f32⟩
  | .hbm, ⟨5, _⟩ => ⟨S1x4x16x8192x128, .f32⟩
  | .hbm, ⟨6, _⟩ => ⟨S4x16x8192x128, .f32⟩
  | .hbm, ⟨7, _⟩ => ⟨S1x4x16x8192x128, .f32⟩
  | .hbm, ⟨8, _⟩ => ⟨S4x16x8192x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192, .i32⟩
  | .hbm, ⟨14, _⟩ => ⟨S4x16x8192x8192, .f32⟩
  | .hbm, ⟨15, _⟩ => ⟨S4x16x8192x8192, .f32⟩
  | .hbm, ⟨16, _⟩ => ⟨S4x16x8192x8192, .f32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S4x16x8192x8192, .f32⟩
  | .hbm, ⟨24, _⟩ => ⟨S4x16x8192x8192, .f32⟩
  | .hbm, ⟨25, _⟩ => ⟨S4x16x8192x8192, .f32⟩
  | .hbm, ⟨26, _⟩ => ⟨S4x16x8192x8192, .f32⟩
  | .hbm, ⟨27, _⟩ => ⟨S4x16x8192x8192, .i1⟩
  | .hbm, ⟨28, _⟩ => ⟨S4x16x8192x8192, .f32⟩
  | .hbm, ⟨29, _⟩ => ⟨S4x16x8192x8192, .f32⟩
  | .hbm, ⟨30, _⟩ => ⟨S4x16x8192x8192, .f32⟩
  | .hbm, ⟨31, _⟩ => ⟨S4x16x8192x8192, .f32⟩
  | .hbm, ⟨32, _⟩ => ⟨S4x16x8192x8192, .f32⟩
  | .hbm, ⟨33, _⟩ => ⟨S4x16x8192x8192, .f32⟩
  | .hbm, ⟨34, _⟩ => ⟨S4x16x8192x8192, .f32⟩
  | .hbm, ⟨35, _⟩ => ⟨S4x16x8192x8192, .f32⟩
  | .hbm, ⟨36, _⟩ => ⟨S_, .f32⟩
  | .hbm, ⟨37, _⟩ => ⟨S_, .f32⟩
  | .hbm, ⟨38, _⟩ => ⟨S4x16x8192x8192, .i1⟩
  | .hbm, ⟨39, _⟩ => ⟨S4x16x8192x8192, .f32⟩
  | .hbm, ⟨40, _⟩ => ⟨S4x16x8192x8192, .f32⟩
  | .hbm, ⟨41, _⟩ => ⟨S4x16x8192x8191, .f32⟩
  | .hbm, ⟨42, _⟩ => ⟨S4x16x8192x1, .f32⟩
  | .hbm, ⟨43, _⟩ => ⟨S_, .f32⟩
  | .hbm, ⟨44, _⟩ => ⟨S4x16x8192x1, .f32⟩
  | .hbm, ⟨45, _⟩ => ⟨S4x16x8192x8192, .f32⟩
  | .hbm, ⟨46, _⟩ => ⟨S_, .f32⟩
  | .hbm, ⟨47, _⟩ => ⟨S_, .f32⟩
  | .hbm, ⟨48, _⟩ => ⟨S4x16x8192x8192, .f32⟩
  | .hbm, ⟨49, _⟩ => ⟨S4x16x8192x8192, .f32⟩
  | .hbm, ⟨50, _⟩ => ⟨S_, .f32⟩
  | .hbm, ⟨51, _⟩ => ⟨S4x16x8192x8192, .f32⟩
  | .hbm, ⟨52, _⟩ => ⟨S4x16x8192x8192, .f32⟩
  | .hbm, ⟨53, _⟩ => ⟨S4x16x8192x8192, .f32⟩
  | .hbm, ⟨54, _⟩ => ⟨S4x16x8192x8192, .f32⟩
  | .hbm, ⟨55, _⟩ => ⟨S4x16x8192x8192, .i1⟩
  | .hbm, ⟨56, _⟩ => ⟨S4x16x8192x8192, .f32⟩
  | .hbm, ⟨57, _⟩ => ⟨S4x16x8192x8192, .f32⟩
  | .hbm, ⟨58, _⟩ => ⟨S4x16x8192x8192, .f32⟩
  | .hbm, ⟨59, _⟩ => ⟨S4x16x8192x8192, .f32⟩
  | .hbm, ⟨60, _⟩ => ⟨S4x16x8192x8192, .f32⟩
  | .hbm, ⟨61, _⟩ => ⟨S4x16x8192x8192, .f32⟩
  | .hbm, ⟨62, _⟩ => ⟨S4x16x8192x8192, .f32⟩
  | .hbm, ⟨63, _⟩ => ⟨S4x16x8192x8192, .f32⟩
  | .hbm, ⟨64, _⟩ => ⟨S4x16x8192x8192, .f32⟩
  | .hbm, ⟨65, _⟩ => ⟨S4x16x8192x8192, .f32⟩
  | .hbm, ⟨66, _⟩ => ⟨S4x16x8192x8192, .f32⟩
  | .hbm, ⟨67, _⟩ => ⟨S_, .f32⟩
  | .hbm, ⟨68, _⟩ => ⟨S_, .f32⟩
  | .hbm, ⟨69, _⟩ => ⟨S4x16x8192x8192, .i1⟩
  | .hbm, ⟨70, _⟩ => ⟨S4x16x8192x8192, .f32⟩
  | .hbm, ⟨71, _⟩ => ⟨S4x16x8192x8192, .f32⟩
  | .hbm, ⟨72, _⟩ => ⟨S4x16x8192x128, .f32⟩
  | .hbm, ⟨73, _⟩ => ⟨S4x8192x16x128, .f32⟩
  | .hbm, ⟨74, _⟩ => ⟨S32768x2048, .f32⟩
  | .hbm, ⟨75, _⟩ => ⟨S32768x2048, .bf16⟩
  | _, _ => ⟨S4x8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v19 : Ref sig .tc := ⟨.hbm, 35, rfl⟩
abbrev main_cst_1 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_call2_cst : Ref sig .tc := ⟨.hbm, 46, rfl⟩
abbrev main_call2_v0 : Ref sig .tc := ⟨.hbm, 47, rfl⟩
abbrev main_v25 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_3 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩

abbrev nD : Nat := 1
abbrev τ : Topo := Topo.v7x

variable {F : FTy → Type} [FloatOps F]
-- ==== Kernel2.lean ====
abbrev S32768x2048 : Shape := ⟨2, ![32768, 2048]⟩
abbrev S2048x8192 : Shape := ⟨2, ![2048, 8192]⟩
abbrev S8192x2048 : Shape := ⟨2, ![8192, 2048]⟩
abbrev S2048 : Shape := ⟨1, ![2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S1x2048x1024 : Shape := ⟨3, ![1, 2048, 1024]⟩
abbrev S1x1024x2048 : Shape := ⟨3, ![1, 1024, 2048]⟩
abbrev S512x2048 : Shape := ⟨2, ![512, 2048]⟩
abbrev S2048x1024 : Shape := ⟨2, ![2048, 1024]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S2048x8192, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S2048x8192, .bf16⟩
  | .hbm, ⟨6, _⟩ => ⟨S1x2048x8192, .bf16⟩
  | .hbm, ⟨7, _⟩ => ⟨S8192x2048, .bf16⟩
  | .hbm, ⟨8, _⟩ => ⟨S1x8192x2048, .bf16⟩
  | .hbm, ⟨9, _⟩ => ⟨S1x2048, .f32⟩
  | .hbm, ⟨10, _⟩ => ⟨S1x2048, .f32⟩
  | .hbm, ⟨11, _⟩ => ⟨S32768x2048, .f32⟩
  | .hbm, ⟨12, _⟩ => ⟨S32768x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_14 : BitVec 32 := 0#32
  let v22 : BitVec 1 := Scalar.cmpi .ne v21 c0_i32_14
  v22

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S32768x2048 : Shape := ⟨2, ![32768, 2048]⟩
abbrev S2048x8192 : Shape := ⟨2, ![2048, 8192]⟩
abbrev S8192x2048 : Shape := ⟨2, ![8192, 2048]⟩
abbrev S2048 : Shape := ⟨1, ![2048]⟩
abbrev S32768x8192 : Shape := ⟨2, ![32768, 8192]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x8192, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S32768x8192, .f32⟩
  | .hbm, ⟨6, _⟩ => ⟨S_, .f32⟩
  | .hbm, ⟨7, _⟩ => ⟨S32768x8192, .f32⟩
  | .hbm, ⟨8, _⟩ => ⟨S32768x8192, .f32⟩
  | .hbm, ⟨9, _⟩ => ⟨S_, .f32⟩
  | .hbm, ⟨10, _⟩ => ⟨S32768x2048, .f32⟩
  | .hbm, ⟨11, _⟩ => ⟨S32768x2048, .f32⟩
  | .hbm, ⟨12, _⟩ => ⟨S32768x8192, .f32⟩
  | .hbm, ⟨13, _⟩ => ⟨S32768x2048, .f32⟩
  | .hbm, ⟨14, _⟩ => ⟨S32768x2048, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x2048, .f32⟩
  | .hbm, ⟨22, _⟩ => ⟨S32768x2048, .f32⟩
  | .hbm, ⟨23, _⟩ => ⟨S32768x2048, .f32⟩
  | .hbm, ⟨24, _⟩ => ⟨S_, .f32⟩
  | .hbm, ⟨25, _⟩ => ⟨S32768, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x2048, .f32⟩
  | .hbm, ⟨31, _⟩ => ⟨S32768x2048, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S32768x1, .f32⟩
  | .hbm, ⟨36, _⟩ => ⟨S32768x2048, .f32⟩
  | .hbm, ⟨37, _⟩ => ⟨S32768x2048, .f32⟩
  | .hbm, ⟨38, _⟩ => ⟨S1x2048, .f32⟩
  | .hbm, ⟨39, _⟩ => ⟨S32768x2048, .f32⟩
  | .hbm, ⟨40, _⟩ => ⟨S32768x2048, .f32⟩
  | .hbm, ⟨41, _⟩ => ⟨S1x2048, .f32⟩
  | .hbm, ⟨42, _⟩ => ⟨S32768x2048, .f32⟩
  | .hbm, ⟨43, _⟩ => ⟨S32768x2048, .f32⟩
  | .hbm, ⟨44, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel3.lean ====
abbrev S32768x2048 : Shape := ⟨2, ![32768, 2048]⟩
abbrev S2048x2048 : Shape := ⟨2, ![2048, 2048]⟩
abbrev S2048 : Shape := ⟨1, ![2048]⟩
abbrev S1x2048 : Shape := ⟨2, ![1, 2048]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S2048x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S32768x2048, .bf16⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | .local _ .vmem, ⟨5, _⟩ => ⟨S1x2048, .f32⟩
  | .local _ .vmem, ⟨6, _⟩ => ⟨S1x2048, .f32⟩
  | .local _ .vmem, ⟨7, _⟩ => ⟨S1024x2048, .f32⟩
  | .local _ .vmem, ⟨8, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S32768x2048 : Shape := ⟨2, ![32768, 2048]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1, .f32⟩
  | .hbm, ⟨31, _⟩ => ⟨S32768x2048, .f32⟩
  | .hbm, ⟨32, _⟩ => ⟨S32768x2048, .f32⟩
  | .hbm, ⟨33, _⟩ => ⟨S1x2048, .f32⟩
  | .hbm, ⟨34, _⟩ => ⟨S32768x2048, .f32⟩
  | .hbm, ⟨35, _⟩ => ⟨S32768x2048, .f32⟩
  | .hbm, ⟨36, _⟩ => ⟨S1x2048, .f32⟩
  | .hbm, ⟨37, _⟩ => ⟨S32768x2048, .f32⟩
  | .hbm, ⟨38, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel4.lean ====
abbrev S32768x2048 : Shape := ⟨2, ![32768, 2048]⟩
abbrev S2048x6144 : Shape := ⟨2, ![2048, 6144]⟩
abbrev S16 : Shape := ⟨1, ![16]⟩
abbrev S_ : Shape := ⟨0, ![]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S8192x96 : Shape := ⟨2, ![8192, 96]⟩
abbrev S8192x128 : Shape := ⟨2, ![8192, 128]⟩
abbrev S8192x112 : Shape := ⟨2, ![8192, 112]⟩
abbrev S32768x6144 : Shape := ⟨2, ![32768, 6144]⟩
abbrev S1024x2048 : Shape := ⟨2, ![1024, 2048]⟩
abbrev S2048x2048 : Shape := ⟨2, ![2048, 2048]⟩
abbrev S1024x128 : Shape := ⟨2, ![1024, 128]⟩
abbrev S256x2048 : Shape := ⟨2, ![256, 2048]⟩

abbrev nBuf : Space → Nat
  | .hbm => 38
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S2048x6144, .f32⟩
  | .hbm, ⟨2, _⟩ => ⟨S2048x6144, .bf16⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S8192, .f32⟩
  | .hbm, ⟨18, _⟩ => ⟨S8192x1, .f32⟩
  | .hbm, ⟨19, _⟩ => ⟨S1x16, .f32⟩
  | .hbm, ⟨20, _⟩ => ⟨S8192x16, .f32⟩
  | .hbm, ⟨21, _⟩ => ⟨S8192x16, .f32⟩
  | .hbm, ⟨22, _⟩ => ⟨S8192x16, .f32⟩
  | .hbm, ⟨23, _⟩ => ⟨S8192x16, .f32⟩
  | .hbm, ⟨24, _⟩ => ⟨S8192x16, .f32⟩
  | .hbm, ⟨25, _⟩ => ⟨S_, .f32⟩
  | .hbm, ⟨26, _⟩ => ⟨S8192x96, .f32⟩
  | .hbm, ⟨27, _⟩ => ⟨S8192x128, .f32⟩
  | .hbm, ⟨28, _⟩ => ⟨S8192x16, .f32⟩
  | .hbm, ⟨29, _⟩ => ⟨S_, .f32⟩
  | .hbm, ⟨30, _⟩ => ⟨S8192x112, .f32⟩
  | .hbm, ⟨31, _⟩ => ⟨S8192x128, .f32⟩
  | .hbm, ⟨32, _⟩ => ⟨S_, .f32⟩
  | .hbm, ⟨33, _⟩ => ⟨S8192x16, .f32⟩
  | .hbm, ⟨34, _⟩ => ⟨S_, .f32⟩
  | .hbm, ⟨35, _⟩ => ⟨S8192x96, .f32⟩
  | .hbm, ⟨36, _⟩ => ⟨S8192x128, .f32⟩
  | .hbm, ⟨37, _⟩ => ⟨S32768x6144, .bf16⟩
  | .local _ .vmem, ⟨0, _⟩ => ⟨S1024x2048, .f32⟩
  | .local _ .vmem, ⟨1, _⟩ => ⟨S1024x2048, .f32⟩
  | .local _ .vmem, ⟨2, _⟩ => ⟨S2048x2048, .bf16⟩
  | .local _ .vmem, ⟨3, _⟩ => ⟨S2048x2048, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | .local _ .vmem, ⟨11, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel4Ideal.lean ====
variable {F : FTy → Type} [FloatOps F] [Named F]
def κ : String → Option EReal := fun
  | "logit_scale_log2" => some ((((Real.sqrt 128) * (Real.log 2))⁻¹ : ℝ) : EReal)
  | _ => none
-- ==== Reference4Ideal.lean ====
abbrev S32768x2048 : Shape := ⟨2, ![32768, 2048]⟩
abbrev S2048x6144 : Shape := ⟨2, ![2048, 6144]⟩
abbrev S_ : Shape := ⟨0, ![]⟩
abbrev S32768x6144 : Shape := ⟨2, ![32768, 6144]⟩
abbrev S32768x4096 : Shape := ⟨2, ![32768, 4096]⟩

abbrev nBuf : Space → Nat
  | .hbm => 16
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x6144, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S32768x6144, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S32768x4096, .f32⟩
  | .hbm, ⟨14, _⟩ => ⟨S32768x6144, .f32⟩
  | .hbm, ⟨15, _⟩ => ⟨S32768x6144, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel5.lean ====
abbrev S32768x2048 : Shape := ⟨2, ![32768, 2048]⟩
abbrev S2048x2048 : Shape := ⟨2, ![2048, 2048]⟩
abbrev S2048x4096 : Shape := ⟨2, ![2048, 4096]⟩
abbrev S2048x6144 : Shape := ⟨2, ![2048, 6144]⟩
abbrev S16 : Shape := ⟨1, ![16]⟩
abbrev S_ : Shape := ⟨0, ![]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S8192x96 : Shape := ⟨2, ![8192, 96]⟩
abbrev S8192x128 : Shape := ⟨2, ![8192, 128]⟩
abbrev S8192x112 : Shape := ⟨2, ![8192, 112]⟩
abbrev S32768x6144 : Shape := ⟨2, ![32768, 6144]⟩
abbrev S1024x2048 : Shape := ⟨2, ![1024, 2048]⟩
abbrev S1024x128 : Shape := ⟨2, ![1024, 128]⟩
abbrev S256x2048 : Shape := ⟨2, ![256, 2048]⟩
abbrev S256x128 : Shape := ⟨2, ![256, 128]⟩

abbrev nBuf : Space → Nat
  | .hbm => 42
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S2048x2048, .f32⟩
  | .hbm, ⟨2, _⟩ => ⟨S2048x4096, .f32⟩
  | .hbm, ⟨3, _⟩ => ⟨S2048x2048, .bf16⟩
  | .hbm, ⟨4, _⟩ => ⟨S2048x4096, .bf16⟩
  | .hbm, ⟨5, _⟩ => ⟨S2048x6144, .bf16⟩
  | .hbm, ⟨6, _⟩ => ⟨S32768x2048, .bf16⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S8192, .f32⟩
  | .hbm, ⟨22, _⟩ => ⟨S8192x1, .f32⟩
  | .hbm, ⟨23, _⟩ => ⟨S1x16, .f32⟩
  | .hbm, ⟨24, _⟩ => ⟨S8192x16, .f32⟩
  | .hbm, ⟨25, _⟩ => ⟨S8192x16, .f32⟩
  | .hbm, ⟨26, _⟩ => ⟨S8192x16, .f32⟩
  | .hbm, ⟨27, _⟩ => ⟨S8192x16, .f32⟩
  | .hbm, ⟨28, _⟩ => ⟨S8192x16, .f32⟩
  | .hbm, ⟨29, _⟩ => ⟨S_, .f32⟩
  | .hbm, ⟨30, _⟩ => ⟨S8192x96, .f32⟩
  | .hbm, ⟨31, _⟩ => ⟨S8192x128, .f32⟩
  | .hbm, ⟨32, _⟩ => ⟨S8192x16, .f32⟩
  | .hbm, ⟨33, _⟩ => ⟨S_, .f32⟩
  | .hbm, ⟨34, _⟩ => ⟨S8192x112, .f32⟩
  | .hbm, ⟨35, _⟩ => ⟨S8192x128, .f32⟩
  | .hbm, ⟨36, _⟩ => ⟨S_, .f32⟩
  | .hbm, ⟨37, _⟩ => ⟨S8192x16, .f32⟩
  | .hbm, ⟨38, _⟩ => ⟨S_, .f32⟩
  | .hbm, ⟨39, _⟩ => ⟨S8192x96, .f32⟩
  | .hbm, ⟨40, _⟩ => ⟨S8192x128, .f32⟩
  | .hbm, ⟨41, _⟩ => ⟨S32768x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | .local _ .vmem, ⟨11, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 3], ![false, false]⟩

def k0_cond1 (i : grid0.Coords) : BitVec 1 :=
  let arg1 : BitVec 32 := BitVec.ofNat 32 (i 1).val
  let c2_i32 : BitVec 32 := 2#32
  let v2 : BitVec 1 := Scalar.cmpi .slt arg1 c2_i32
  let v3 : BitVec 32 := Scalar.extui v2
  let c0_i32 : BitVec 32 := 0#32
  let v4 : BitVec 1 := Scalar.cmpi .ne v3 c0_i32
  v4

def k0_cond2 (i : grid0.Coords) : BitVec 1 :=
  let arg1 : BitVec 32 := BitVec.ofNat 32 (i 1).val
  let c2_i32_1 : BitVec 32 := 2#32
  let v5 : BitVec 1 := Scalar.cmpi .sge arg1 c2_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel5Ideal.lean ====
variable {F : FTy → Type} [FloatOps F] [Named F]
def κ : String → Option EReal := fun
  | "logit_scale_log2" => some ((((Real.sqrt 128) * (Real.log 2))⁻¹ : ℝ) : EReal)
  | _ => none
-- ==== Reference5Ideal.lean ====
abbrev S32768x2048 : Shape := ⟨2, ![32768, 2048]⟩
abbrev S2048x2048 : Shape := ⟨2, ![2048, 2048]⟩
abbrev S2048x4096 : Shape := ⟨2, ![2048, 4096]⟩
abbrev S_ : Shape := ⟨0, ![]⟩
abbrev S16 : Shape := ⟨1, ![16]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S1x8192x1x16 : Shape := ⟨4, ![1, 8192, 1, 16]⟩
abbrev S4x8192x16x128 : Shape := ⟨4, ![4, 8192, 16, 128]⟩
abbrev S4x8192x16x16 : Shape := ⟨4, ![4, 8192, 16, 16]⟩
abbrev S4x8192x16x96 : Shape := ⟨4, ![4, 8192, 16, 96]⟩
abbrev S32768x4096 : Shape := ⟨2, ![32768, 4096]⟩
abbrev S32768x6144 : Shape := ⟨2, ![32768, 6144]⟩

abbrev nBuf : Space → Nat
  | .hbm => 74
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x2048, .f32⟩
  | .hbm, ⟨2, _⟩ => ⟨S2048x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S8192, .f32⟩
  | .hbm, ⟨25, _⟩ => ⟨S8192x1, .f32⟩
  | .hbm, ⟨26, _⟩ => ⟨S1x16, .f32⟩
  | .hbm, ⟨27, _⟩ => ⟨S8192x16, .f32⟩
  | .hbm, ⟨28, _⟩ => ⟨S8192x16, .f32⟩
  | .hbm, ⟨29, _⟩ => ⟨S8192x16, .f32⟩
  | .hbm, ⟨30, _⟩ => ⟨S8192x16, .f32⟩
  | .hbm, ⟨31, _⟩ => ⟨S1x8192x1x16, .f32⟩
  | .hbm, ⟨32, _⟩ => ⟨S8192x16, .f32⟩
  | .hbm, ⟨33, _⟩ => ⟨S1x8192x1x16, .f32⟩
  | .hbm, ⟨34, _⟩ => ⟨S32768x2048, .f32⟩
  | .hbm, ⟨35, _⟩ => ⟨S32768x2048, .f32⟩
  | .hbm, ⟨36, _⟩ => ⟨S32768x2048, .f32⟩
  | .hbm, ⟨37, _⟩ => ⟨S4x8192x16x128, .f32⟩
  | .hbm, ⟨38, _⟩ => ⟨S4x8192x16x16, .f32⟩
  | .hbm, ⟨39, _⟩ => ⟨S4x8192x16x16, .f32⟩
  | .hbm, ⟨40, _⟩ => ⟨S4x8192x16x16, .f32⟩
  | .hbm, ⟨41, _⟩ => ⟨S4x8192x16x16, .f32⟩
  | .hbm, ⟨42, _⟩ => ⟨S4x8192x16x16, .f32⟩
  | .hbm, ⟨43, _⟩ => ⟨S4x8192x16x16, .f32⟩
  | .hbm, ⟨44, _⟩ => ⟨S4x8192x16x16, .f32⟩
  | .hbm, ⟨45, _⟩ => ⟨S4x8192x16x16, .f32⟩
  | .hbm, ⟨46, _⟩ => ⟨S4x8192x16x16, .f32⟩
  | .hbm, ⟨47, _⟩ => ⟨S4x8192x16x16, .f32⟩
  | .hbm, ⟨48, _⟩ => ⟨S4x8192x16x16, .f32⟩
  | .hbm, ⟨49, _⟩ => ⟨S4x8192x16x16, .f32⟩
  | .hbm, ⟨50, _⟩ => ⟨S4x8192x16x96, .f32⟩
  | .hbm, ⟨51, _⟩ => ⟨S4x8192x16x128, .f32⟩
  | .hbm, ⟨52, _⟩ => ⟨S32768x2048, .f32⟩
  | .hbm, ⟨53, _⟩ => ⟨S32768x4096, .f32⟩
  | .hbm, ⟨54, _⟩ => ⟨S32768x2048, .f32⟩
  | .hbm, ⟨55, _⟩ => ⟨S4x8192x16x128, .f32⟩
  | .hbm, ⟨56, _⟩ => ⟨S4x8192x16x16, .f32⟩
  | .hbm, ⟨57, _⟩ => ⟨S4x8192x16x16, .f32⟩
  | .hbm, ⟨58, _⟩ => ⟨S4x8192x16x16, .f32⟩
  | .hbm, ⟨59, _⟩ => ⟨S4x8192x16x16, .f32⟩
  | .hbm, ⟨60, _⟩ => ⟨S4x8192x16x16, .f32⟩
  | .hbm, ⟨61, _⟩ => ⟨S4x8192x16x16, .f32⟩
  | .hbm, ⟨62, _⟩ => ⟨S4x8192x16x16, .f32⟩
  | .hbm, ⟨63, _⟩ => ⟨S4x8192x16x16, .f32⟩
  | .hbm, ⟨64, _⟩ => ⟨S4x8192x16x16, .f32⟩
  | .hbm, ⟨65, _⟩ => ⟨S4x8192x16x16, .f32⟩
  | .hbm, ⟨66, _⟩ => ⟨S4x8192x16x16, .f32⟩
  | .hbm, ⟨67, _⟩ => ⟨S4x8192x16x16, .f32⟩
  | .hbm, ⟨68, _⟩ => ⟨S4x8192x16x96, .f32⟩
  | .hbm, ⟨69, _⟩ => ⟨S4x8192x16x128, .f32⟩
  | .hbm, ⟨70, _⟩ => ⟨S32768x2048, .f32⟩
  | .hbm, ⟨71, _⟩ => ⟨S32768x2048, .f32⟩
  | .hbm, ⟨72, _⟩ => ⟨S32768x6144, .f32⟩
  | .hbm, ⟨73, _⟩ => ⟨S32768x6144, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩

abbrev nD : Nat := 1
abbrev τ : Topo := Topo.v7x

variable {F : FTy → Type} [FloatOps F]
-- ==== Proof.Tile.lean ====
/-
  The mathematics of one tile of the stick-breaking attention, for any number of query rows `n`: what the kernel computes
  of `n` rows of queries, one tile of 256 keys and values, and the rows' accumulator and carry, at any float values. The
  printed payloads are these functions at `n = 256, 512, …, 2048`.
-/
module

public import Idealize.ShloMosaic.Lib.MatmulPlain
public import Idealize.ShloMosaic.Lib.Pipeline.FrameBody
public import Idealize.ShloMosaic.Lib.VecWindow

@[expose] public section

noncomputable section

namespace Cert.Proof.SB

open Idealize.ShloMosaic

/-- `n` rows of 128 lanes. -/
abbrev Sh (n : ℕ) : Shape := ⟨2, ![n, 128]⟩
/-- `n` rows of 256 keys. -/
abbrev Sk (n : ℕ) : Shape := ⟨2, ![n, 256]⟩
/-- `n` rows of one number. -/
abbrev S1 (n : ℕ) : Shape := ⟨2, ![n, 1]⟩

theorem casts_refl (s : Shape) : s.ShapeCasts s := rfl

theorem cat_ok (n : ℕ) : Shape.Concatenates [Sh n, Sh n] (Sk n) 1 := by
  refine ⟨le_refl 2, ?_, rfl⟩
  intro s hs
  have : s = Sh n := by simpa using hs
  subst this
  refine ⟨rfl, fun b hb => ?_⟩
  fin_cases b
  · rfl
  · exact absurd rfl hb

theorem slice_half (n : ℕ) : (Sk n).Slices ![0, 0] (Sh n) :=
  ⟨rfl, fun a => by fin_cases a <;> simp⟩
theorem slice_col (n : ℕ) : (Sk n).Slices ![0, 0] (S1 n) :=
  ⟨rfl, fun a => by fin_cases a <;> simp⟩
theorem slice_lane (n : ℕ) : (Sh n).Slices ![0, 0] (S1 n) :=
  ⟨rfl, fun a => by fin_cases a <;> simp⟩
theorem broad_col (n : ℕ) : (S1 n).Broadcasts (Sh n) :=
  ⟨le_refl _, fun a => by
    fin_cases a
    · exact Or.inr fun _ => rfl
    · exact Or.inl rfl⟩

section Tile

variable {F : FTy → Type} [FloatOps F]

/-- The logits of `n` rows of queries against a tile of keys, on the scale of powers of two. -/
def zT (n : ℕ) (q : Vec F (Sh n) .bf16) (k : Vec F (Sh 256) .bf16) : FVec F (Sk n) .f32 :=
  matmul (DotDims.transposedRhs n 128 256) none (shapeCast (Sh n) q (casts_refl _)) (shapeCast (Sh 256) k (casts_refl _)) (constant (Sk n) .f32 0x00000000#32)

/-- The softplus of logits `z`, on that scale (`cm` the argument's bound, `ci` the inverse of `log 2`). -/
def spZ (cm ci : F .f32) {s : Shape} (z : FVec F s .f32) : FVec F s .f32 :=
  maximumf z (mulf (log (addf (broadcast s (Scalar.ofBits .f32 0x3F800000#32)) (exp2 (minimumf z (broadcast s cm))))) (broadcast s ci))

/-- A value under an optional mask, zero where the mask says no. -/
def masked {s : Shape} (m : Option (IVec s 1)) (x : FVec F s .f32) : FVec F s .f32 :=
  match m with
  | none => x
  | some b => select b x (broadcast s (Scalar.ofBits .f32 0x00000000#32))

/-- The sums of the softplus over the later keys of the tile. -/
def exclT (n : ℕ) (u : Vec F (Sk 256) .bf16) (spb : FVec F (Sk n) .bf16) : FVec F (Sk n) .f32 :=
  matmul (DotDims.plain n 256 256) none spb (shapeCast (Sk 256) u (casts_refl _)) (constant (Sk n) .f32 0x00000000#32)

/-- The accumulator's rows after a tile. -/
def accT (n : ℕ) (m : Option (IVec (Sk n) 1)) (u : Vec F (Sk 256) .bf16) (ls : FVec F (Sk n) .f32) (spb : FVec F (Sk n) .bf16)
    (v : Vec F (Sh 256) .bf16) (c a : Vec F (Sh n) .f32) : FVec F (Sh n) .f32 :=
  shapeCast (Sh n) (addf a (matmul (DotDims.plain n 256 128) none
    (truncf .bf16 (masked m (exp2 (subf (subf ls (concatenate (Sk n) 1 [⟨Sh n, c⟩, ⟨Sh n, c⟩] (cat_ok n))) (exclT n u spb)))) (by decide))
    (shapeCast (Sh 256) v (casts_refl _)) (constant (Sh n) .f32 0x00000000#32))) (casts_refl _)

/-- The carry's rows after a tile: every lane of a row gains the tile's whole softplus sum. -/
def carT (n : ℕ) (u : Vec F (Sk 256) .bf16) (spb : FVec F (Sk n) .bf16) (sp0 : FVec F (Sh n) .f32) (c : Vec F (Sh n) .f32) : FVec F (Sh n) .f32 :=
  shapeCast (Sh n) (addf c (broadcastTo (Sh n)
    (addf (extractStridedSlice (S1 n) ![0, 0] (exclT n u spb) (slice_col n)) (extractStridedSlice (S1 n) ![0, 0] sp0 (slice_lane n))) (broad_col n)))
    (casts_refl _)

/-- The softplus of a tile under its mask, -/
def spM (cm ci : F .f32) (n : ℕ) (m : Option (IVec (Sk n) 1)) (q : Vec F (Sh n) .bf16) (k : Vec F (Sh 256) .bf16) : FVec F (Sk n) .f32 :=
  masked m (spZ cm ci (zT n q k))
/-- its log-sigmoid, -/
def lsT (cm ci : F .f32) (n : ℕ) (q : Vec F (Sh n) .bf16) (k : Vec F (Sh 256) .bf16) : FVec F (Sk n) .f32 :=
  subf (zT n q k) (spZ cm ci (zT n q k))
/-- its softplus as the matrix unit takes it, -/
def spbT (cm ci : F .f32) (n : ℕ) (m : Option (IVec (Sk n) 1)) (q : Vec F (Sh n) .bf16) (k : Vec F (Sh 256) .bf16) : FVec F (Sk n) .bf16 :=
  truncf .bf16 (spM cm ci n m q k) (by decide)
/-- and its first 128 columns. -/
def sp0T (cm ci : F .f32) (n : ℕ) (m : Option (IVec (Sk n) 1)) (q : Vec F (Sh n) .bf16) (k : Vec F (Sh 256) .bf16) : FVec F (Sh n) .f32 :=
  extractStridedSlice (Sh n) ![0, 0] (spM cm ci n m q k) (slice_half n)

/-- What the kernel reads of its operands at one grid point: the queries, the keys, the values, the strict lower triangle,
    and its two named constants. -/
structure Env (F : FTy → Type) where
  q : Vec F (Sh 2048) .bf16
  k : Vec F (Sh 8192) .bf16
  v : Vec F (Sh 8192) .bf16
  u : Vec F (Sk 256) .bf16
  cm : F .f32
  ci : F .f32

/-- `n` query rows from row `r`. -/
abbrev rows (n r : ℕ) (h : ∀ a, ![r, 0] a + (Sh n).size a ≤ (Sh 2048).size a) : Rect (Sh 2048) := Rect.unit (s := Sh 2048) ![r, 0] (Sh n).size h
/-- 256 keys from offset `o`. -/
abbrev keys (o : Fin 2 → ℕ) (h : ∀ a, o a + (Sh 256).size a ≤ (Sh 8192).size a) : Rect (Sh 8192) := Rect.unit (s := Sh 8192) o (Sh 256).size h

/-- The accumulator and the carry of a block's rows. -/
abbrev St (F : FTy → Type) := Vec F (Sh 2048) .f32 × Vec F (Sh 2048) .f32

/-- The accumulator after the rows `r … r + n` have taken the keys at `o`, -/
def tileA (e : Env F) (n r : ℕ) (h : ∀ a, ![r, 0] a + (Sh n).size a ≤ (Sh 2048).size a) (m : Option (IVec (Sk n) 1))
    (o : Fin 2 → ℕ) (ho : ∀ a, o a + (Sh 256).size a ≤ (Sh 8192).size a) (s : St F) : Vec F (Sh 2048) .f32 :=
  (rows n r h).overlay s.1 (accT n m e.u (lsT e.cm e.ci n (View.ld e.q (rows n r h)) (View.ld e.k (keys o ho)))
    (spbT e.cm e.ci n m (View.ld e.q (rows n r h)) (View.ld e.k (keys o ho))) (View.ld e.v (keys o ho)) (View.ld s.2 (rows n r h)) (View.ld s.1 (rows n r h)))
/-- and the carry. -/
def tileC (e : Env F) (n r : ℕ) (h : ∀ a, ![r, 0] a + (Sh n).size a ≤ (Sh 2048).size a) (m : Option (IVec (Sk n) 1))
    (o : Fin 2 → ℕ) (ho : ∀ a, o a + (Sh 256).size a ≤ (Sh 8192).size a) (s : St F) : Vec F (Sh 2048) .f32 :=
  (rows n r h).overlay s.2 (carT n e.u (spbT e.cm e.ci n m (View.ld e.q (rows n r h)) (View.ld e.k (keys o ho)))
    (sp0T e.cm e.ci n m (View.ld e.q (rows n r h)) (View.ld e.k (keys o ho))) (View.ld s.2 (rows n r h)))

/-- The state after a tile. -/
def tile (e : Env F) (n r : ℕ) (h : ∀ a, ![r, 0] a + (Sh n).size a ≤ (Sh 2048).size a) (m : Option (IVec (Sk n) 1))
    (o : Fin 2 → ℕ) (ho : ∀ a, o a + (Sh 256).size a ≤ (Sh 8192).size a) (s : St F) : St F :=
  (tileA e n r h m o ho s, tileC e n r h m o ho s)

/-! ### The tiles whose logits were computed one step ahead, in two slots -/

/-- Two slots of `n` lanes for each of a block's rows. -/
abbrev S2k (n : ℕ) : Shape := ⟨3, ![2, 2048, n]⟩
/-- One of them. -/
abbrev S1k (n : ℕ) : Shape := ⟨3, ![1, 2048, n]⟩

theorem slot_inb (n p : ℕ) (h : p < 2) : ∀ a, ![p, 0, 0] a + (S1k n).size a ≤ (S2k n).size a := fun a => by
  fin_cases a
  · show p + 1 ≤ 2; omega
  · show 0 + 2048 ≤ 2048; omega
  · show 0 + n ≤ n; omega

/-- Slot `p`. -/
abbrev slot (n p : ℕ) (h : p < 2) : Rect (S2k n) := Rect.unit (s := S2k n) ![p, 0, 0] (S1k n).size (slot_inb n p h)

theorem casts_in (n : ℕ) : (⟨2, ![2048, n]⟩ : Shape).ShapeCasts (S1k n) := by
  show Shape.numel _ = Shape.numel _
  simp [Shape.numel, Fin.prod_univ_succ]
theorem casts_out (n : ℕ) : (S1k n).ShapeCasts (⟨2, ![2048, n]⟩ : Shape) := (casts_in n).symm

/-- The two slots: the log-sigmoid of a tile, its softplus as the matrix unit takes it, its softplus' first columns. -/
structure Sl (F : FTy → Type) where
  ls : Vec F (S2k 256) .f32
  sb : Vec F (S2k 256) .bf16
  s0 : Vec F (S2k 128) .f32

theorem whole_inb : ∀ a, ![0, 0] a + (Sh 2048).size a ≤ (Sh 2048).size a := fun a => by fin_cases a <;> simp

/-- All of a block's rows. -/
abbrev allRows : Rect (Sh 2048) := rows 2048 0 whole_inb

/-- The slots after the logits of the keys at `o` are put into slot `p`. -/
def lgts (e : Env F) (p : ℕ) (hp : p < 2) (o : Fin 2 → ℕ) (ho : ∀ a, o a + (Sh 256).size a ≤ (Sh 8192).size a) (x : Sl F) : Sl F :=
  ⟨(slot 256 p hp).overlay x.ls (shapeCast (S1k 256) (lsT e.cm e.ci 2048 (View.ld e.q allRows) (View.ld e.k (keys o ho))) (casts_in 256)),
   (slot 256 p hp).overlay x.sb (shapeCast (S1k 256) (spbT e.cm e.ci 2048 none (View.ld e.q allRows) (View.ld e.k (keys o ho))) (casts_in 256)),
   (slot 128 p hp).overlay x.s0 (shapeCast (S1k 128) (sp0T e.cm e.ci 2048 none (View.ld e.q allRows) (View.ld e.k (keys o ho))) (casts_in 128))⟩

/-- The state after all rows have taken the tile held in slot `p`, its values at `o`. -/
def posT (e : Env F) (p : ℕ) (hp : p < 2) (o : Fin 2 → ℕ) (ho : ∀ a, o a + (Sh 256).size a ≤ (Sh 8192).size a) (s : St F) (x : Sl F) : St F :=
  (allRows.overlay s.1 (accT 2048 none e.u (shapeCast (Sk 2048) (View.ld x.ls (slot 256 p hp)) (casts_out 256))
      (shapeCast (Sk 2048) (View.ld x.sb (slot 256 p hp)) (casts_out 256)) (View.ld e.v (keys o ho)) (View.ld s.2 allRows) (View.ld s.1 allRows)),
   allRows.overlay s.2 (carT 2048 e.u (shapeCast (Sk 2048) (View.ld x.sb (slot 256 p hp)) (casts_out 256))
      (shapeCast (Sh 2048) (View.ld x.s0 (slot 128 p hp)) (casts_out 128)) (View.ld s.2 allRows)))

/-- One position of the sweep: the tile in slot `p` is taken, the next one's logits go into slot `p'`. -/
def half (e : Env F) (p p' : ℕ) (hp : p < 2) (hp' : p' < 2) (o o' : Fin 2 → ℕ) (ho : ∀ a, o a + (Sh 256).size a ≤ (Sh 8192).size a)
    (ho' : ∀ a, o' a + (Sh 256).size a ≤ (Sh 8192).size a) (y : St F × Sl F) : St F × Sl F :=
  (posT e p hp o ho y.1 y.2, lgts e p' hp' o' ho' y.2)

/-- A store over a whole array leaves the stored value. -/
theorem overlay_whole {s : Shape} {α : Type} {off : Fin s.rank → ℕ} (inb : ∀ a, off a + s.size a ≤ s.size a) (X w : s.Idx → α) :
    (Rect.unit off s.size inb).overlay X w = w := by
  funext j
  have h := Rect.overlay_emb (Rect.unit off s.size inb) X w j
  rwa [Rect.emb_unit_full] at h

end Tile

end Cert.Proof.SB

end
-- ==== Proof.Step.lean ====
/-
  Two rules of a kernel body's run, stated of what a memref READS: a load through a rectangle continues at the contents read
  there, a store through one leaves the contents overlaid by the stored value.
-/
module

public import Idealize.ShloMosaic.Lib.Memref
public import Idealize.ShloMosaic.Lib.Pipeline.FrameBody
public import Idealize.ShloMosaic.Rules.Step

@[expose] public section

noncomputable section

namespace Cert.Proof.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

variable {defs : Defs nD τ sig Val Λ} (𝒱 : Variants) (c : Thread nD τ) (bd : Option 𝒱.V) (E : Set Name)
variable {α : Type} {s : Shape} {e : EltTy}

/-- Reading a memref after a store through one of its rectangles: the old contents overlaid by the stored value. -/
theorem read_write_access {κ : Kind} {sp : Space} (m : Memref sig κ sp s e) (r : Rect s) (f : m.view.ty.Contents Val) (w : r.shape.Idx → Val e) :
    m.view.read Val ((m.access r).write Val f w Finset.univ) = r.overlay (m.view.read Val f) w := by
  funext j
  by_cases hj : j ∈ r.set
  · obtain ⟨x, rfl⟩ : ∃ x, r.emb x = j := r.exists_idx_of_mem hj
    rw [Rect.overlay_emb]
    exact View.read_slice_write_emb r f w (Finset.mem_univ x)
  · rw [Rect.overlay_of_not_mem _ _ _ hj]
    exact View.read_slice_write_of_not_mem r f w _ (by rwa [Rect.map_emb_univ])

/-- A load through a rectangle of a memref that reads `X` continues at `X` there. -/
theorem run_load {cs : CoreSpace} {m : Memref sig c.2.kind cs s e} {r : Rect s} {hl : m.view.LoadsAt r.toLoadRect}
    {Q : α → sProp 𝕄} {k : (r.shape.Idx → Val e) → Prog (TpuEff nD τ sig Val Λ c.2) α} {q : PosShare TreeShare} {X : s.Idx → Val e} :
    (owns c m q X : sProp 𝕄)
      ⊢ iprop(((owns c m q X) -∗ wp frame (wpE defs 𝒱 c bd) E (k (View.ld X r)) Q)
        -∗ wp frame (wpE defs 𝒱 c bd) E (.op (.load m r.toLoadRect hl) k) Q) := by
  unfold owns
  iintro ⟨%f, %hf, H⟩ Hk
  subst hf
  have hS : m.view.setOn r.toLoadRect.set ⊆ m.view.set := View.setOn_subset_set _ _
  iapply (wp_load 𝒱 c bd E (m := m) (r := r.toLoadRect) (S := m.view.set) (q := q) (f := f) hS) $$ H
  iintro H
  iapply Hk
  iexists f
  isplitr; · ipureintro; rfl
  iexact H

/-- A store through a rectangle of a memref that reads `X` leaves it reading `X'`, `X` overlaid by the stored value. -/
theorem run_store {cs : CoreSpace} {m : Memref sig c.2.kind cs s e} {r : Rect s} {w : r.shape.Idx → Val e} {hx : (m.access r).Stores Finset.univ}
    {hm : (Finset.univ : Finset r.shape.Idx) = Finset.univ ∨ ∀ a, r.stride a = 1}
    {Q : α → sProp 𝕄} {k : PUnit → Prog (TpuEff nD τ sig Val Λ c.2) α} {X X' : s.Idx → Val e} (h : r.overlay X w = X') :
    (owns c m fullShare X : sProp 𝕄)
      ⊢ iprop(((owns c m fullShare X') -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  subst hf
  have hS : (m.access r).setOn Finset.univ ⊆ m.view.set := by
    rw [View.setOn_univ]; exact View.set_slice_subset _ r
  iapply (wp_store 𝒱 c bd E (m := m) (r := r) (w := w) (S := m.view.set) (f := f) hS) $$ H
  iintro H
  iapply Hk
  iexists _
  isplitr
  · ipureintro; rw [← h, ← read_write_access]
  iexact H

end Cert.Proof.SB

end
-- ==== Proof.P.Held.lean ====
/-
  What a grid point's body holds while it runs.
-/
module

public import proofs.«01_k».proof.Proof.P.State
public import proofs.«01_k».proof.Proof.Step
public import proofs.«01_k».proof.Proof.Gen.Kernel.Launch
public import Idealize.ShloMosaic.Lib.Pipeline.Frame

@[expose] public section

set_option maxRecDepth 16384

noncomputable section

namespace Cert.Proof.SB.P

open Cert.Kernel Cert.Kernel.Gen Cert.Proof.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The calls' variants: how often the loop's label may still be entered. -/
abbrev 𝒱₀ : Variants := Variants.nat

/-- The four operands' buffers, at their contents, -/
def ins (c : Dev nD) (q : Vec F S2048x128 .bf16) (k v : Vec F S8192x128 .bf16) (u : Vec F S256x256 .bf16)
    (arg3 : Memref sig .tc .vmem S2048x128 .bf16) (arg4 : Memref sig .tc .vmem S8192x128 .bf16) (arg5 : Memref sig .tc .vmem S8192x128 .bf16) (arg6 : Memref sig .tc .vmem S256x256 .bf16) : sProp 𝕄 :=
  iprop((owns (c : Thread nD τ) arg3 fullShare q) ∗ (owns (c : Thread nD τ) arg4 fullShare k) ∗ (owns (c : Thread nD τ) arg5 fullShare v) ∗ (owns (c : Thread nD τ) arg6 fullShare u))

/-- the accumulator and the carry, -/
def sts (c : Dev nD) (s : St F) (arg8 arg9 : Memref sig .tc .vmem S2048x128 .f32) : sProp 𝕄 :=
  iprop((owns (c : Thread nD τ) arg8 fullShare s.1) ∗ (owns (c : Thread nD τ) arg9 fullShare s.2))

/-- and the slots. -/
def sls (c : Dev nD) (x : Sl F) (arg10 : Memref sig .tc .vmem S2x2048x256 .f32) (arg11 : Memref sig .tc .vmem S2x2048x256 .bf16) (arg12 : Memref sig .tc .vmem S2x2048x128 .f32) : sProp 𝕄 :=
  iprop((owns (c : Thread nD τ) arg10 fullShare x.ls) ∗ (owns (c : Thread nD τ) arg11 fullShare x.sb) ∗ (owns (c : Thread nD τ) arg12 fullShare x.s0))

end Cert.Proof.SB.P

end
-- ==== Proof.PI.State.lean ====
/-
  What the kernel's body does at one grid point, as functions on the accumulator, the carry and the two slots: the straight
  part's nine tiles, the rest of the band, the first sweep and the loop's groups, each tile where the program puts it.
-/
module

public import proofs.«01_k».proof.Proof.Tile
public import proofs.«01_k».proof.Proof.Gen.KernelIdeal.Skeleton

@[expose] public section

set_option maxRecDepth 16384

noncomputable section

namespace Cert.Proof.SB.PI

open Cert.KernelIdeal Cert.KernelIdeal.Gen Cert.Proof.SB

open Idealize.ShloMosaic Idealize.ShloMosaic.TcCoe Idealize.ShloMosaic.Tactic

variable {F : FTy → Type} [FloatOps F] [Named F]

/-- The bound of the softplus' argument. -/
abbrev cMax : F .f32 := Named.named κ "exp2_arg_max" 0x42FC0000#32
/-- The inverse of `log 2`. -/
abbrev cInv : F .f32 := Named.named κ "inv_ln2" 0x3FB8AA3B#32
/-- The carry from which a tile counts as dead. -/
abbrev cDead : F .f32 := Named.named κ "dead_carry" 0x43160000#32

/-- What the body reads at a point: the blocks of queries, keys and values, and the triangle. -/
def envOf (q : Vec F S2048x128 .bf16) (k v : Vec F S8192x128 .bf16) (u : Vec F S256x256 .bf16) : Env F :=
  ⟨q, k, v, View.ld u (Rect.unit (s := S256x256) ![0, 0] S256x256.size inb_S256x256_S256x256_0_0), cMax, cInv⟩

/-- The block's first tile: `%2`. -/
abbrev base (i : grid0.Coords) : BitVec 32 := Scalar.muli (BitVec.ofNat 32 (i 2).val) 8#32

variable (e : Env F) (i : grid0.Coords)

/-- Accumulator and carry at zero, -/
def st0 : St F := (k0_pay146, k0_pay147)

/-- after the diagonal tile 7, -/
def st1 : St F := tile e 256 1792 inb_S2048x128_S256x128_1792_0 (some k0_pay148) (k0_off1 i 7#32) (k0_off1_inb i 7) st0

/-- after the diagonal tile 6, -/
def st2 : St F := tile e 512 1536 inb_S2048x128_S512x128_1536_0 (some k0_pay157) (k0_off1 i 6#32) (k0_off1_inb i 6) (st1 e i)

/-- after the diagonal tile 5, -/
def st3 : St F := tile e 512 1280 inb_S2048x128_S512x128_1280_0 (some k0_pay157) (k0_off1 i 5#32) (k0_off1_inb i 5) (st2 e i)

/-- after the diagonal tile 4, -/
def st4 : St F := tile e 512 1024 inb_S2048x128_S512x128_1024_0 (some k0_pay157) (k0_off1 i 4#32) (k0_off1_inb i 4) (st3 e i)

/-- after the diagonal tile 3, -/
def st5 : St F := tile e 512 768 inb_S2048x128_S512x128_768_0 (some k0_pay157) (k0_off1 i 3#32) (k0_off1_inb i 3) (st4 e i)

/-- after the diagonal tile 2, -/
def st6 : St F := tile e 512 512 inb_S2048x128_S512x128_512_0 (some k0_pay157) (k0_off1 i 2#32) (k0_off1_inb i 2) (st5 e i)

/-- after the diagonal tile 1, -/
def st7 : St F := tile e 512 256 inb_S2048x128_S512x128_256_0 (some k0_pay157) (k0_off1 i 1#32) (k0_off1_inb i 1) (st6 e i)

/-- after the diagonal tile 0, -/
def st8 : St F := tile e 512 0 inb_S2048x128_S512x128_0_0 (some k0_pay157) (k0_off1 i 0#32) (k0_off1_inb i 0) (st7 e i)

/-- and after the tile before the block, which counts only if there is one. -/
def st9 : St F := tile e 256 0 inb_S2048x128_S256x128_0_0 (some (k0_pay222 (base i))) (k0_off2 i) (k0_off2_inb i) (st8 e i)

/-- The rest of the band: after tile 5, -/
def re1 : St F := tile e 256 1792 inb_S2048x128_S256x128_1792_0 none (k0_off3 i 5#32) (k0_off3_inb i 5) (st9 e i)

/-- The rest of the band: after tile 4, -/
def re2 : St F := tile e 512 1536 inb_S2048x128_S512x128_1536_0 none (k0_off3 i 4#32) (k0_off3_inb i 4) (re1 e i)

/-- The rest of the band: after tile 3, -/
def re3 : St F := tile e 768 1280 inb_S2048x128_S768x128_1280_0 none (k0_off3 i 3#32) (k0_off3_inb i 3) (re2 e i)

/-- The rest of the band: after tile 2, -/
def re4 : St F := tile e 1024 1024 inb_S2048x128_S1024x128_1024_0 none (k0_off3 i 2#32) (k0_off3_inb i 2) (re3 e i)

/-- The rest of the band: after tile 1, -/
def re5 : St F := tile e 1280 768 inb_S2048x128_S1280x128_768_0 none (k0_off3 i 1#32) (k0_off3_inb i 1) (re4 e i)

/-- The rest of the band: after tile 0, -/
def re6 : St F := tile e 1536 512 inb_S2048x128_S1536x128_512_0 none (k0_off3 i 0#32) (k0_off3_inb i 0) (re5 e i)

/-- and after the tile before the block. -/
def re7 (h : k0_cond2 i = 1#1) : St F := tile e 1792 256 inb_S2048x128_S1792x128_256_0 none (k0_off4 i) (k0_off4_inb i h) (re6 e i)

/-- The rest of the band, whole. -/
def band : St F := if h : k0_cond2 i = 1#1 then re7 e i h else re6 e i

/-- The rows behind the first tile. -/
abbrev lowRows : Rect (Sh 2048) := rows 1792 256 inb_S2048x128_S1792x128_256_0

/-- Whether the rest of the band runs: some row's carry is below the bound. -/
abbrev live1 : BitVec 1 := Scalar.cmpf .olt (k0_pay231 (View.ld (st9 e i).2 lowRows)) cDead

/-- The state after the conditional, -/
def st10 : St F := if Scalar.cmpi .ne (Scalar.extui (live1 e i) : BitVec 32) 0#32 = 1#1 then band e i else st9 e i
/-- and the number it returns. -/
def low : F .f32 := if Scalar.cmpi .ne (Scalar.extui (live1 e i) : BitVec 32) 0#32 = 1#1 then k0_pay233 (View.ld (band e i).2 lowRows) else k0_pay231 (View.ld (st9 e i).2 lowRows)

/-- Whether some row is alive after the band. -/
abbrev live2 : BitVec 1 := Scalar.cmpf .olt (k0_pay234 (View.ld (st9 e i).2 (rows 256 0 inb_S2048x128_S256x128_0_0)) (low e i)) cDead

section First

variable (b : BitVec 1) (hw : k0_chk1 i b) (h : k0_cond3 i b = 1#1) (x : Sl F)

/-- The first sweep: the slots primed, -/
def fu0 (s : St F) : St F × Sl F := (s, lgts e 1 (by decide) (k0_off5 i) (k0_off5_inb i b hw h) x)

/-- position 1 taken, -/
def fu1 (s : St F) : St F × Sl F := half e 1 0 (by decide) (by decide) (k0_off6 i 1#32) (k0_off7 i 1#32) (k0_off6_inb i b hw h 0) (k0_off7_inb i 0) (fu0 e i b hw h x s)

/-- position 2 taken, -/
def fu2 (s : St F) : St F × Sl F := half e 0 1 (by decide) (by decide) (k0_off6 i 2#32) (k0_off7 i 2#32) (k0_off6_inb i b hw h 1) (k0_off7_inb i 1) (fu1 e i b hw h x s)

/-- position 3 taken, -/
def fu3 (s : St F) : St F × Sl F := half e 1 0 (by decide) (by decide) (k0_off6 i 3#32) (k0_off7 i 3#32) (k0_off6_inb i b hw h 2) (k0_off7_inb i 2) (fu2 e i b hw h x s)

/-- position 4 taken, -/
def fu4 (s : St F) : St F × Sl F := half e 0 1 (by decide) (by decide) (k0_off6 i 4#32) (k0_off7 i 4#32) (k0_off6_inb i b hw h 3) (k0_off7_inb i 3) (fu3 e i b hw h x s)

/-- position 5 taken, -/
def fu5 (s : St F) : St F × Sl F := half e 1 0 (by decide) (by decide) (k0_off6 i 5#32) (k0_off7 i 5#32) (k0_off6_inb i b hw h 4) (k0_off7_inb i 4) (fu4 e i b hw h x s)

/-- position 6 taken, -/
def fu6 (s : St F) : St F × Sl F := half e 0 1 (by decide) (by decide) (k0_off6 i 6#32) (k0_off7 i 6#32) (k0_off6_inb i b hw h 5) (k0_off7_inb i 5) (fu5 e i b hw h x s)

/-- position 7 taken. -/
def fu7 (s : St F) : St F × Sl F := half e 1 0 (by decide) (by decide) (k0_off6 i 7#32) (k0_off7 i 7#32) (k0_off6_inb i b hw h 6) (k0_off7_inb i 6) (fu6 e i b hw h x s)

end First

/-- The state and the slots after the first sweep, when it runs. -/
def sweep (x : Sl F) (hw : k0_chk1 i (live2 e i)) : St F × Sl F :=
  if h : k0_cond3 i (live2 e i) = 1#1 then fu7 e i (live2 e i) hw h x (st10 e i) else (st10 e i, x)

section Group

variable (g : BitVec 32) (hg : k0_chk2 i g)

/-- Group `g`: position 0 taken, -/
def gr1 (y : St F × Sl F) : St F × Sl F := half e 0 1 (by decide) (by decide) (k0_off8 i g 0#32) (k0_off9 i g 0#32) (k0_off8_inb i g hg 0) (k0_off9_inb i g hg 0) y

/-- Group `g`: position 1 taken, -/
def gr2 (y : St F × Sl F) : St F × Sl F := half e 1 0 (by decide) (by decide) (k0_off8 i g 1#32) (k0_off9 i g 1#32) (k0_off8_inb i g hg 1) (k0_off9_inb i g hg 1) (gr1 e i g hg y)

/-- Group `g`: position 2 taken, -/
def gr3 (y : St F × Sl F) : St F × Sl F := half e 0 1 (by decide) (by decide) (k0_off8 i g 2#32) (k0_off9 i g 2#32) (k0_off8_inb i g hg 2) (k0_off9_inb i g hg 2) (gr2 e i g hg y)

/-- Group `g`: position 3 taken, -/
def gr4 (y : St F × Sl F) : St F × Sl F := half e 1 0 (by decide) (by decide) (k0_off8 i g 3#32) (k0_off9 i g 3#32) (k0_off8_inb i g hg 3) (k0_off9_inb i g hg 3) (gr3 e i g hg y)

/-- Group `g`: position 4 taken, -/
def gr5 (y : St F × Sl F) : St F × Sl F := half e 0 1 (by decide) (by decide) (k0_off8 i g 4#32) (k0_off9 i g 4#32) (k0_off8_inb i g hg 4) (k0_off9_inb i g hg 4) (gr4 e i g hg y)

/-- Group `g`: position 5 taken, -/
def gr6 (y : St F × Sl F) : St F × Sl F := half e 1 0 (by decide) (by decide) (k0_off8 i g 5#32) (k0_off9 i g 5#32) (k0_off8_inb i g hg 5) (k0_off9_inb i g hg 5) (gr5 e i g hg y)

/-- Group `g`: position 6 taken, -/
def gr7 (y : St F × Sl F) : St F × Sl F := half e 0 1 (by decide) (by decide) (k0_off8 i g 6#32) (k0_off9 i g 6#32) (k0_off8_inb i g hg 6) (k0_off9_inb i g hg 6) (gr6 e i g hg y)

/-- Group `g`: position 7 taken. -/
def gr8 (y : St F × Sl F) : St F × Sl F := half e 1 0 (by decide) (by decide) (k0_off8 i g 7#32) (k0_off9 i g 7#32) (k0_off8_inb i g hg 7) (k0_off9_inb i g hg 7) (gr7 e i g hg y)

end Group

/-- Whether some row is alive. -/
def alive (s : St F) : BitVec 1 := Scalar.cmpf .olt (k0_pay6 (View.ld s.2 (Rect.unit (s := S2048x128) ![0, 0] S2048x128.size inb_S2048x128_S2048x128_0_0))) cDead

/-- The loop from group `g`, with `k` groups to run at most. -/
def loop : ℕ → BitVec 32 → BitVec 1 → St F × Sl F → St F × Sl F
  | 0, _, _, y => y
  | k + 1, g, go, y =>
    if Scalar.andi (Scalar.cmpi .slt g (BitVec.ofNat 32 (i 2).val)) go = 1#1 then
      if hg : k0_chk2 i g then loop k (Scalar.addi g 1#32) (alive (gr8 e i g hg y).1) (gr8 e i g hg y) else y
    else y

/-- The loop's first flag: the block is not the first, a row is alive after the band and one after the sweep. -/
abbrev go1 (y : St F × Sl F) : BitVec 1 :=
  Scalar.andi (Scalar.andi (Scalar.cmpi .sgt (base i) 0#32) (live2 e i)) (Scalar.cmpf .olt (k0_pay237 (View.ld y.1.2 (Rect.unit (s := S2048x128) ![0, 0] S2048x128.size inb_S2048x128_S2048x128_0_0))) cDead)

/-- The state and the slots at the body's end. -/
def fin (x : Sl F) (hw : k0_chk1 i (live2 e i)) : St F × Sl F :=
  loop e i 3 1#32 (go1 e i (sweep e i x hw)) (sweep e i x hw)

/-- The block the body stores. -/
def outV (x : Sl F) (hw : k0_chk1 i (live2 e i)) : Vec F S2048x128 .bf16 :=
  k0_pay1 (View.ld (fin e i x hw).1.1 (Rect.unit (s := S2048x128) ![0, 0] S2048x128.size inb_S2048x128_S2048x128_0_0))

end Cert.Proof.SB.PI

end
-- ==== Proof.PI.Held.lean ====
/-
  What a grid point's body holds while it runs.
-/
module

public import proofs.«01_k».proof.Proof.PI.State
public import proofs.«01_k».proof.Proof.Step
public import proofs.«01_k».proof.Proof.Gen.KernelIdeal.Launch
public import Idealize.ShloMosaic.Lib.Pipeline.Frame

@[expose] public section

set_option maxRecDepth 16384

noncomputable section

namespace Cert.Proof.SB.PI

open Cert.KernelIdeal Cert.KernelIdeal.Gen Cert.Proof.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The calls' variants: how often the loop's label may still be entered. -/
abbrev 𝒱₀ : Variants := Variants.nat

/-- The four operands' buffers, at their contents, -/
def ins (c : Dev nD) (q : Vec F S2048x128 .bf16) (k v : Vec F S8192x128 .bf16) (u : Vec F S256x256 .bf16)
    (arg3 : Memref sig .tc .vmem S2048x128 .bf16) (arg4 : Memref sig .tc .vmem S8192x128 .bf16) (arg5 : Memref sig .tc .vmem S8192x128 .bf16) (arg6 : Memref sig .tc .vmem S256x256 .bf16) : sProp 𝕄 :=
  iprop((owns (c : Thread nD τ) arg3 fullShare q) ∗ (owns (c : Thread nD τ) arg4 fullShare k) ∗ (owns (c : Thread nD τ) arg5 fullShare v) ∗ (owns (c : Thread nD τ) arg6 fullShare u))

/-- the accumulator and the carry, -/
def sts (c : Dev nD) (s : St F) (arg8 arg9 : Memref sig .tc .vmem S2048x128 .f32) : sProp 𝕄 :=
  iprop((owns (c : Thread nD τ) arg8 fullShare s.1) ∗ (owns (c : Thread nD τ) arg9 fullShare s.2))

/-- and the slots. -/
def sls (c : Dev nD) (x : Sl F) (arg10 : Memref sig .tc .vmem S2x2048x256 .f32) (arg11 : Memref sig .tc .vmem S2x2048x256 .bf16) (arg12 : Memref sig .tc .vmem S2x2048x128 .f32) : sProp 𝕄 :=
  iprop((owns (c : Thread nD τ) arg10 fullShare x.ls) ∗ (owns (c : Thread nD τ) arg11 fullShare x.sb) ∗ (owns (c : Thread nD τ) arg12 fullShare x.s0))

end Cert.Proof.SB.PI

end
-- ==== Proof.PI.Cut.lean ====
/-
  The part of the body from the conditional on, cut where its two conditionals end.
-/
module

public import proofs.«01_k».proof.Proof.PI.Held

@[expose] public section

set_option maxRecDepth 16384

noncomputable section

namespace Cert.Proof.SB.PI

open Cert.KernelIdeal Cert.KernelIdeal.Gen Cert.Proof.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- After the first sweep: whether the loop starts. -/
def tail2 (i : grid0.Coords) (arg3 : Memref sig .tc .vmem S2048x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x256 .bf16) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x2048x256 .f32) (harg10 : arg10.IsWhole) (arg11 : Memref sig .tc .vmem S2x2048x256 .bf16) (harg11 : arg11.IsWhole) (arg12 : Memref sig .tc .vmem S2x2048x128 .f32) (harg12 : arg12.IsWhole) (v505 v511 : BitVec 1) (k0_hw1 : k0_chk1 i v511) (v512 : BitVec 1) :
    Prog (TpuEff nD τ sig (Elt F) (Λ₀ F) .tc) (Σ' (v505 : BitVec 1) (v511 : BitVec 1) (k0_hw1 : k0_chk1 i v511) (v520 : BitVec 1), BitVec 32) := do
  let v515 : Vec F S2048x128 .f32 ← Prog.lift (.load arg9 (Rect.unit (s := S2048x128) ![0, 0] S2048x128.size inb_S2048x128_S2048x128_0_0).toLoadRect (View.loadsAt_vmem h_S2048x128))
  have cst_213 : F .f32 := Named.named κ "dead_carry" 0x43160000#32
  let v519 : BitVec 1 := Scalar.cmpf .olt (k0_pay237 v515) cst_213
  let v520 : BitVec 1 := Scalar.andi v512 v519
  pure ⟨v505, v511, k0_hw1, v520, 1#32⟩

/-- After the rest of the band: the first sweep, when it runs, and what follows. -/
def tail1 (i : grid0.Coords) (arg3 : Memref sig .tc .vmem S2048x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x256 .bf16) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x2048x256 .f32) (harg10 : arg10.IsWhole) (arg11 : Memref sig .tc .vmem S2x2048x256 .bf16) (harg11 : arg11.IsWhole) (arg12 : Memref sig .tc .vmem S2x2048x128 .f32) (harg12 : arg12.IsWhole) (v1 : FVec F S256x256 .bf16) (v2 : BitVec 32) (v497 : Vec F S256x128 .f32) (v505 : BitVec 1) (v508 : F .f32) :
    Prog (TpuEff nD τ sig (Elt F) (Λ₀ F) .tc) (Σ' (v505 : BitVec 1) (v511 : BitVec 1) (k0_hw1 : k0_chk1 i v511) (v520 : BitVec 1), BitVec 32) := do
  let v509 : BitVec 1 := Scalar.cmpi .sgt v2 0#32
  have cst_208 : F .f32 := Named.named κ "dead_carry" 0x43160000#32
  let v511 : BitVec 1 := Scalar.cmpf .olt (k0_pay234 v497 v508) cst_208
  have k0_hw1 : k0_chk1 i v511 := (← Prog.lift (TpuEff.assume (k0_chk1 i v511) (k0_chk1.dec i v511))).down
  let v512 : BitVec 1 := Scalar.andi v509 v511
  if k0_h3 : k0_cond3 i v511 = 1#1 then do
    let ⟨v556, v557⟩ : Σ' (v556 : FVec F S2048x256 .f32), Vec F S1x2048x256 .bf16 ← k0_part9 i arg3 harg3 arg4 harg4 arg5 harg5 arg6 harg6 arg7 harg7 arg8 harg8 arg9 harg9 arg10 harg10 arg11 harg11 arg12 harg12 v2 v511 k0_hw1 k0_h3
    let ⟨v591, v593⟩ : Σ' (v591 : BitVec 32), FVec F S2048x128 .bf16 ← k0_part10 i arg3 harg3 arg4 harg4 arg5 harg5 arg6 harg6 arg7 harg7 arg8 harg8 arg9 harg9 arg10 harg10 arg11 harg11 arg12 harg12 v1 v2 v511 k0_hw1 k0_h3 v556 v557
    let ⟨v622, v624, v626⟩ : Σ' (v622 : FVec F S2048x256 .f32) (v624 : FVec F S2048x256 .bf16), FVec F S2048x128 .f32 ← k0_part11 i arg3 harg3 arg4 harg4 arg5 harg5 arg6 harg6 arg7 harg7 arg8 harg8 arg9 harg9 arg10 harg10 arg11 harg11 arg12 harg12 v591 v593
    let ⟨v659, v663⟩ : Σ' (v659 : FVec F S2048x128 .bf16), Vec F S256x128 .bf16 ← k0_part12 i arg3 harg3 arg4 harg4 arg5 harg5 arg6 harg6 arg7 harg7 arg8 harg8 arg9 harg9 arg10 harg10 arg11 harg11 arg12 harg12 v1 v2 v511 k0_hw1 k0_h3 v622 v624 v626
    let ⟨v688, v690, v692, v695⟩ : Σ' (v688 : FVec F S2048x256 .f32) (v690 : FVec F S2048x256 .bf16) (v692 : FVec F S2048x128 .f32), BitVec 32 ← k0_part13 i arg3 harg3 arg4 harg4 arg5 harg5 arg6 harg6 arg7 harg7 arg8 harg8 arg9 harg9 arg10 harg10 arg11 harg11 arg12 harg12 v2 v659 v663
    let ⟨v731, v733⟩ : Σ' (v731 : FVec F S2048x256 .f32), FVec F S2048x256 .f32 ← k0_part14 i arg3 harg3 arg4 harg4 arg5 harg5 arg6 harg6 arg7 harg7 arg8 harg8 arg9 harg9 arg10 harg10 arg11 harg11 arg12 harg12 v1 v2 v511 k0_hw1 k0_h3 v688 v690 v692 v695
    let ⟨v754, v756, v758, v765, cst_378⟩ : Σ' (v754 : FVec F S2048x256 .f32) (v756 : FVec F S2048x256 .bf16) (v758 : FVec F S2048x128 .f32) (v765 : FVec F S256x128 .bf16), FVec F S2048x256 .f32 ← k0_part15 i arg3 harg3 arg4 harg4 arg5 harg5 arg6 harg6 arg7 harg7 arg8 harg8 arg9 harg9 arg10 harg10 arg11 harg11 arg12 harg12 v2 v511 k0_hw1 k0_h3 v731 v733
    let ⟨v797, v803, cst_398⟩ : Σ' (v797 : FVec F S2048x256 .f32) (v803 : FVec F S2048x256 .f32), F .f32 ← k0_part16 i arg3 harg3 arg4 harg4 arg5 harg5 arg6 harg6 arg7 harg7 arg8 harg8 arg9 harg9 arg10 harg10 arg11 harg11 arg12 harg12 v1 v2 v754 v756 v758 v765 cst_378
    let ⟨v824, v831, v832, v833, v835⟩ : Σ' (v824 : FVec F S2048x128 .f32) (v831 : FVec F S256x128 .bf16) (v832 : FVec F S2048x256 .f32) (v833 : Vec F S2048x128 .f32), FVec F S2048x256 .f32 ← k0_part17 i arg3 harg3 arg4 harg4 arg5 harg5 arg6 harg6 arg7 harg7 arg8 harg8 arg9 harg9 arg10 harg10 arg11 harg11 arg12 harg12 v1 v2 v511 k0_hw1 k0_h3 v797 v803 cst_398
    let ⟨v873, v874, v875⟩ : Σ' (v873 : FVec F S2048x256 .f32) (v874 : FVec F S2048x256 .bf16), FVec F S2048x128 .f32 ← k0_part18 i arg3 harg3 arg4 harg4 arg5 harg5 arg6 harg6 arg7 harg7 arg8 harg8 arg9 harg9 arg10 harg10 arg11 harg11 arg12 harg12 v2 v824 v831 v832 v833 v835
    let ⟨v890, v897, v898, v899, v904, v905⟩ : Σ' (v890 : FVec F S2048x128 .f32) (v897 : FVec F S256x128 .bf16) (v898 : FVec F S2048x256 .f32) (v899 : Vec F S2048x128 .f32) (v904 : Vec F S2048x128 .f32), FVec F S2048x256 .bf16 ← k0_part19 i arg3 harg3 arg4 harg4 arg5 harg5 arg6 harg6 arg7 harg7 arg8 harg8 arg9 harg9 arg10 harg10 arg11 harg11 arg12 harg12 v1 v2 v511 k0_hw1 k0_h3 v873 v874 v875
    let ⟨v940, v941, v944⟩ : Σ' (v940 : FVec F S2048x256 .bf16) (v941 : FVec F S2048x128 .f32), FVec F S1x2048x256 .f32 ← k0_part20 i arg3 harg3 arg4 harg4 arg5 harg5 arg6 harg6 arg7 harg7 arg8 harg8 arg9 harg9 arg10 harg10 arg11 harg11 arg12 harg12 v2 v890 v897 v898 v899 v904 v905
    let ⟨v956, v964, v965, v973, v974⟩ : Σ' (v956 : FVec F S2048x128 .f32) (v964 : FVec F S2048x256 .f32) (v965 : Vec F S2048x128 .f32) (v973 : FVec F S2048x128 .f32), Vec F S2048x128 .f32 ← k0_part21 i arg3 harg3 arg4 harg4 arg5 harg5 arg6 harg6 arg7 harg7 arg8 harg8 arg9 harg9 arg10 harg10 arg11 harg11 arg12 harg12 v1 v2 v511 k0_hw1 k0_h3 v940 v941 v944
    let ⟨v1006, v1007⟩ : Σ' (v1006 : FVec F S2048x256 .bf16), FVec F S2048x128 .f32 ← k0_part22 i arg3 harg3 arg4 harg4 arg5 harg5 arg6 harg6 arg7 harg7 arg8 harg8 arg9 harg9 arg10 harg10 arg11 harg11 arg12 harg12 v2 v956 v964 v965 v973 v974
    Prog.lift (.store arg11 (Rect.unit (s := S2x2048x256) ![0, 0, 0] S1x2048x256.size inb_S2x2048x256_S1x2048x256_0_0_0) (k0_pay235 v1006) Finset.univ (View.stores_vmem h_S1x2048x256 (harg11.storeExact_slice rfl _ packedbf16_S2x2048x256_S1x2048x256_0_0_0) (fun _ => rfl)) (.inl rfl))
    let v1014 : Vec F S1x2048x128 .f32 ← Prog.lift (.load arg12 (Rect.unit (s := S2x2048x128) ![0, 0, 0] S1x2048x128.size inb_S2x2048x128_S1x2048x128_0_0_0).toLoadRect (View.loadsAt_vmem h_S1x2048x128))
    Prog.lift (.store arg12 (Rect.unit (s := S2x2048x128) ![0, 0, 0] S1x2048x128.size inb_S2x2048x128_S1x2048x128_0_0_0) (k0_pay236 v1007) Finset.univ (View.stores_vmem_bits_univ h_S1x2048x128 rfl) (.inl rfl))
    pure ⟨⟩
  else do
    pure ⟨⟩
  tail2 i arg3 harg3 arg4 harg4 arg5 harg5 arg6 harg6 arg7 harg7 arg8 harg8 arg9 harg9 arg10 harg10 arg11 harg11 arg12 harg12 v505 v511 k0_hw1 v512

/-- The part, so cut. -/
def cut35 (i : grid0.Coords) (arg3 : Memref sig .tc .vmem S2048x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x256 .bf16) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x2048x256 .f32) (harg10 : arg10.IsWhole) (arg11 : Memref sig .tc .vmem S2x2048x256 .bf16) (harg11 : arg11.IsWhole) (arg12 : Memref sig .tc .vmem S2x2048x128 .f32) (harg12 : arg12.IsWhole) (v1 : FVec F S256x256 .bf16) (v2 : BitVec 32) (v468 : FVec F S256x128 .f32) (v474 : FVec F S256x256 .f32) (v475 : Vec F S256x128 .f32) (v482 : Vec F S256x128 .f32) (v484 : FVec F S256x128 .f32) :
    Prog (TpuEff nD τ sig (Elt F) (Λ₀ F) .tc) (Σ' (v505 : BitVec 1) (v511 : BitVec 1) (k0_hw1 : k0_chk1 i v511) (v520 : BitVec 1), BitVec 32) := do
  let v486 : Vec F S256x128 .f32 ← Prog.lift (.load arg8 (Rect.unit (s := S2048x128) ![0, 0] S256x128.size inb_S2048x128_S256x128_0_0).toLoadRect (View.loadsAt_vmem h_S256x128))
  Prog.lift (.store arg8 (Rect.unit (s := S2048x128) ![0, 0] S256x128.size inb_S2048x128_S256x128_0_0) (k0_pay229 v482 v484) Finset.univ (View.stores_vmem_bits_univ h_S256x128 rfl) (.inl rfl))
  let v494 : Vec F S256x128 .f32 ← Prog.lift (.load arg9 (Rect.unit (s := S2048x128) ![0, 0] S256x128.size inb_S2048x128_S256x128_0_0).toLoadRect (View.loadsAt_vmem h_S256x128))
  Prog.lift (.store arg9 (Rect.unit (s := S2048x128) ![0, 0] S256x128.size inb_S2048x128_S256x128_0_0) (k0_pay230 v468 v474 v475) Finset.univ (View.stores_vmem_bits_univ h_S256x128 rfl) (.inl rfl))
  let v497 : Vec F S256x128 .f32 ← Prog.lift (.load arg9 (Rect.unit (s := S2048x128) ![0, 0] S256x128.size inb_S2048x128_S256x128_0_0).toLoadRect (View.loadsAt_vmem h_S256x128))
  let v501 : Vec F S1792x128 .f32 ← Prog.lift (.load arg9 (Rect.unit (s := S2048x128) ![256, 0] S1792x128.size inb_S2048x128_S1792x128_256_0).toLoadRect (View.loadsAt_vmem h_S1792x128))
  have cst_205 : F .f32 := Named.named κ "dead_carry" 0x43160000#32
  let v505 : BitVec 1 := Scalar.cmpf .olt (k0_pay231 v501) cst_205
  let v506 : BitVec 32 := Scalar.extui v505
  let v507 : BitVec 1 := Scalar.cmpi .ne v506 0#32
  let v508 : F .f32 ← if v507 = 1#1 then do
      let ⟨v545, v552, v564⟩ : Σ' (v545 : FVec F S256x128 .f32) (v552 : Vec F S256x128 .f32), FVec F S256x1 .f32 ← k0_part2 i arg3 harg3 arg4 harg4 arg5 harg5 arg6 harg6 arg7 harg7 arg8 harg8 arg9 harg9 arg10 harg10 arg11 harg11 arg12 harg12 v1 v2
      let ⟨v592, v597, v598, v599, v604, v605⟩ : Σ' (v592 : FVec F S512x128 .f32) (v597 : FVec F S256x128 .bf16) (v598 : FVec F S512x256 .f32) (v599 : Vec F S512x128 .f32) (v604 : Vec F S512x128 .f32), FVec F S512x256 .bf16 ← k0_part3 i arg3 harg3 arg4 harg4 arg5 harg5 arg6 harg6 arg7 harg7 arg8 harg8 arg9 harg9 arg10 harg10 arg11 harg11 arg12 harg12 v1 v2 v545 v552 v564
      let ⟨v637, v639, v644, v645⟩ : Σ' (v637 : FVec F S768x256 .f32) (v639 : FVec F S768x128 .f32) (v644 : FVec F S256x128 .bf16), FVec F S768x256 .f32 ← k0_part4 i arg3 harg3 arg4 harg4 arg5 harg5 arg6 harg6 arg7 harg7 arg8 harg8 arg9 harg9 arg10 harg10 arg11 harg11 arg12 harg12 v1 v2 v592 v597 v598 v599 v604 v605
      let ⟨v666, v684, v685, v686⟩ : Σ' (v666 : BitVec 32) (v684 : FVec F S1024x256 .f32) (v685 : FVec F S1024x256 .bf16), FVec F S1024x128 .f32 ← k0_part5 i arg3 harg3 arg4 harg4 arg5 harg5 arg6 harg6 arg7 harg7 arg8 harg8 arg9 harg9 arg10 harg10 arg11 harg11 arg12 harg12 v2 v637 v639 v644 v645
      let ⟨v713, v721, v724, cst_310⟩ : Σ' (v713 : BitVec 32) (v721 : FVec F S1280x256 .f32) (v724 : FVec F S1280x256 .f32), F .f32 ← k0_part6 i arg3 harg3 arg4 harg4 arg5 harg5 arg6 harg6 arg7 harg7 arg8 harg8 arg9 harg9 arg10 harg10 arg11 harg11 arg12 harg12 v1 v2 v666 v684 v685 v686
      let ⟨v760, v762⟩ : Σ' (v760 : BitVec 32), FVec F S1536x128 .bf16 ← k0_part7 i arg3 harg3 arg4 harg4 arg5 harg5 arg6 harg6 arg7 harg7 arg8 harg8 arg9 harg9 arg10 harg10 arg11 harg11 arg12 harg12 v1 v2 v713 v721 v724 cst_310
      k0_part8 i arg3 harg3 arg4 harg4 arg5 harg5 arg6 harg6 arg7 harg7 arg8 harg8 arg9 harg9 arg10 harg10 arg11 harg11 arg12 harg12 v1 v760 v762
      if k0_h2 : k0_cond2 i = 1#1 then do
        let ⟨v834, v841, v853⟩ : Σ' (v834 : FVec F S1792x128 .f32) (v841 : Vec F S1792x128 .f32), FVec F S1792x1 .f32 ← k0_part1 i arg3 harg3 arg4 harg4 arg5 harg5 arg6 harg6 arg7 harg7 arg8 harg8 arg9 harg9 arg10 harg10 arg11 harg11 arg12 harg12 v1 v2 k0_h2
        let v858 : Vec F S1792x128 .f32 ← Prog.lift (.load arg9 (Rect.unit (s := S2048x128) ![256, 0] S1792x128.size inb_S2048x128_S1792x128_256_0).toLoadRect (View.loadsAt_vmem h_S1792x128))
        Prog.lift (.store arg9 (Rect.unit (s := S2048x128) ![256, 0] S1792x128.size inb_S2048x128_S1792x128_256_0) (k0_pay232 v834 v841 v853) Finset.univ (View.stores_vmem_bits_univ h_S1792x128 rfl) (.inl rfl))
        pure ⟨⟩
      else do
        pure ⟨⟩
      let v810 : Vec F S1792x128 .f32 ← Prog.lift (.load arg9 (Rect.unit (s := S2048x128) ![256, 0] S1792x128.size inb_S2048x128_S1792x128_256_0).toLoadRect (View.loadsAt_vmem h_S1792x128))
      pure (k0_pay233 v810)
    else do
      pure (k0_pay231 v501)
  tail1 i arg3 harg3 arg4 harg4 arg5 harg5 arg6 harg6 arg7 harg7 arg8 harg8 arg9 harg9 arg10 harg10 arg11 harg11 arg12 harg12 v1 v2 v497 v505 v508

theorem part35_eq : k0_part35 (F := F) = cut35 (F := F) := rfl

end Cert.Proof.SB.PI

end
-- ==== Proof.PI.Sweep.lean ====
/-
  The first sweep, which runs when there are tiles before the band and a row is alive.
-/
module

public import proofs.«01_k».proof.Proof.PI.Cut

@[expose] public section

set_option maxRecDepth 16384

noncomputable section

namespace Cert.Proof.SB.PI

open Cert.KernelIdeal Cert.KernelIdeal.Gen Cert.Proof.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (q : Vec F S2048x128 .bf16) (k v : Vec F S8192x128 .bf16) (u : Vec F S256x256 .bf16)

set_option maxHeartbeats 8000000 in
/-- From the end of the rest of the band to the loop: the first sweep runs from `st10` and the slots at `x` to `sweep`. -/
theorem run_tail1 (bd : Option ℕ) (lo : F .f32) (hlo : lo = low (envOf q k v u) i) (x : Sl F) (hw : k0_chk1 i (live2 (envOf q k v u) i)) (arg3 : Memref sig .tc .vmem S2048x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x256 .bf16) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x2048x256 .f32) (harg10 : arg10.IsWhole) (arg11 : Memref sig .tc .vmem S2x2048x256 .bf16) (harg11 : arg11.IsWhole) (arg12 : Memref sig .tc .vmem S2x2048x128 .f32) (harg12 : arg12.IsWhole) (Φ : _ → sProp 𝕄) :
    iprop((ins c q k v u arg3 arg4 arg5 arg6 ∗ sts c (st10 (envOf q k v u) i) arg8 arg9 ∗ sls c x arg10 arg11 arg12)
      ∗ ((ins c q k v u arg3 arg4 arg5 arg6 ∗ sts c (sweep (envOf q k v u) i x hw).1 arg8 arg9 ∗ sls c (sweep (envOf q k v u) i x hw).2 arg10 arg11 arg12) -∗ Φ ⟨live1 (envOf q k v u) i, live2 (envOf q k v u) i, hw, go1 (envOf q k v u) i (sweep (envOf q k v u) i x hw), 1#32⟩))
    ⊢ wp frame (wpE (defs₀ (F := F)) 𝒱₀ (c : Thread nD τ) bd) Set.univ
        (tail1 i arg3 harg3 arg4 harg4 arg5 harg5 arg6 harg6 arg7 harg7 arg8 harg8 arg9 harg9 arg10 harg10 arg11 harg11 arg12 harg12 (k0_pay145 (View.ld u (Rect.unit (s := S256x256) ![0, 0] S256x256.size inb_S256x256_S256x256_0_0))) (base i) (View.ld (st9 (envOf q k v u) i).2 (rows 256 0 inb_S2048x128_S256x128_0_0)) (live1 (envOf q k v u) i) lo) Φ := by
  subst hlo
  unfold ins sts sls tail1 tail2
  iintro ⟨⟨⟨H3, H4, H5, H6⟩, ⟨H8, H9⟩, H10, H11, H12⟩, Hk⟩
  simp only [Prog.lift, Prog.bind_op, Prog.bind_ret, Prog.pure_eq_ret]
  iapply (wp_assume 𝒱₀ (c : Thread nD τ) bd Set.univ hw)
  by_cases hc : k0_cond3 i (live2 (envOf q k v u) i) = 1#1
  · rw [dif_pos hc]
    have hs : (sweep (envOf q k v u) i x hw) = (fu7 (envOf q k v u) i (live2 (envOf q k v u) i) hw hc x (st10 (envOf q k v u) i)) := by unfold sweep; rw [dif_pos hc]
    rw [hs]
    rw [wp_bind, k0_part9_eq_skeleton]; unfold k0_part9_skel
    simp only [Prog.lift, Prog.bind_op, Prog.bind_ret, Prog.pure_eq_ret]
    iapply (run_load 𝒱₀ (c : Thread nD τ) bd Set.univ) $$ H3; iintro H3
    iapply (run_load 𝒱₀ (c : Thread nD τ) bd Set.univ) $$ H4; iintro H4
    iapply (run_load 𝒱₀ (c : Thread nD τ) bd Set.univ) $$ H10; iintro H10
    iapply (run_store 𝒱₀ (c : Thread nD τ) bd Set.univ (X' := (fu0 (envOf q k v u) i (live2 (envOf q k v u) i) hw hc x (st10 (envOf q k v u) i)).2.ls) (by rfl)) $$ H10; iintro H10
    iapply (run_load 𝒱₀ (c : Thread nD τ) bd Set.univ) $$ H11; iintro H11
    iapply (run_store 𝒱₀ (c : Thread nD τ) bd Set.univ (X' := (fu0 (envOf q k v u) i (live2 (envOf q k v u) i) hw hc x (st10 (envOf q k v u) i)).2.sb) (by rfl)) $$ H11; iintro H11
    iapply (run_load 𝒱₀ (c : Thread nD τ) bd Set.univ) $$ H12; iintro H12
    iapply (run_store 𝒱₀ (c : Thread nD τ) bd Set.univ (X' := (fu0 (envOf q k v u) i (live2 (envOf q k v u) i) hw hc x (st10 (envOf q k v u) i)).2.s0) (by rfl)) $$ H12; iintro H12
    iapply (run_load 𝒱₀ (c : Thread nD τ) bd Set.univ) $$ H10; iintro H10
    iapply (run_load 𝒱₀ (c : Thread nD τ) bd Set.univ) $$ H11; iintro H11
    rw [wp_ret]; imodintro
    try dsimp only
    rw [wp_bind, k0_part10_eq_skeleton]; unfold k0_part10_skel
    simp only [Prog.lift, Prog.bind_op, Prog.bind_ret, Prog.pure_eq_ret]
    iapply (run_load 𝒱₀ (c : Thread nD τ) bd Set.univ) $$ H12; iintro H12
    iapply (run_load 𝒱₀ (c : Thread nD τ) bd Set.univ) $$ H5; iintro H5
    iapply (run_load 𝒱₀ (c : Thread nD τ) bd Set.univ) $$ H9; iintro H9
    iapply (run_load 𝒱₀ (c : Thread nD τ) bd Set.univ) $$ H8; iintro H8
    iapply (run_load 𝒱₀ (c : Thread nD τ) bd Set.univ) $$ H8; iintro H8
    iapply (run_store 𝒱₀ (c : Thread nD τ) bd Set.univ (X' := (fu1 (envOf q k v u) i (live2 (envOf q k v u) i) hw hc x (st10 (envOf q k v u) i)).1.1) (by rfl)) $$ H8; iintro H8
    iapply (run_load 𝒱₀ (c : Thread nD τ) bd Set.univ) $$ H9; iintro H9
    iapply (run_store 𝒱₀ (c : Thread nD τ) bd Set.univ (X' := (fu1 (envOf q k v u) i (live2 (envOf q k v u) i) hw hc x (st10 (envOf q k v u) i)).1.2) (by rfl)) $$ H9; iintro H9
    iapply (run_load 𝒱₀ (c : Thread nD τ) bd Set.univ) $$ H3; iintro H3
    rw [wp_ret]; imodintro
    try dsimp only
    rw [wp_bind, k0_part11_eq_skeleton]; unfold k0_part11_skel
    simp only [Prog.lift, Prog.bind_op, Prog.bind_ret, Prog.pure_eq_ret]
    iapply (run_load 𝒱₀ (c : Thread nD τ) bd Set.univ) $$ H4; iintro H4
    iapply (run_load 𝒱₀ (c : Thread nD τ) bd Set.univ) $$ H10; iintro H10
    iapply (run_store 𝒱₀ (c : Thread nD τ) bd Set.univ (X' := (fu1 (envOf q k v u) i (live2 (envOf q k v u) i) hw hc x (st10 (envOf q k v u) i)).2.ls) (by rfl)) $$ H10; iintro H10
    iapply (run_load 𝒱₀ (c : Thread nD τ) bd Set.univ) $$ H11; iintro H11
    iapply (run_store 𝒱₀ (c : Thread nD τ) bd Set.univ (X' := (fu1 (envOf q k v u) i (live2 (envOf q k v u) i) hw hc x (st10 (envOf q k v u) i)).2.sb) (by rfl)) $$ H11; iintro H11
    iapply (run_load 𝒱₀ (c : Thread nD τ) bd Set.univ) $$ H12; iintro H12
    iapply (run_store 𝒱₀ (c : Thread nD τ) bd Set.univ (X' := (fu1 (envOf q k v u) i (live2 (envOf q k v u) i) hw hc x (st10 (envOf q k v u) i)).2.s0) (by rfl)) $$ H12; iintro H12
    iapply (run_load 𝒱₀ (c : Thread nD τ) bd Set.univ) $$ H10; iintro H10
    iapply (run_load 𝒱₀ (c : Thread nD τ) bd Set.univ) $$ H11; iintro H11
    iapply (run_load 𝒱₀ (c : Thread nD τ) bd Set.univ) $$ H12; iintro H12
    rw [wp_ret]; imodintro
    try dsimp only
    rw [wp_bind, k0_part12_eq_skeleton]; unfold k0_part12_skel
    simp only [Prog.lift, Prog.bind_op, Prog.bind_ret, Prog.pure_eq_ret]
    iapply (run_load 𝒱₀ (c : Thread nD τ) bd Set.univ) $$ H5; iintro H5
    iapply (run_load 𝒱₀ (c : Thread nD τ) bd Set.univ) $$ H9; iintro H9
    iapply (run_load 𝒱₀ (c : Thread nD τ) bd Set.univ) $$ H8; iintro H8
    iapply (run_load 𝒱₀ (c : Thread nD τ) bd Set.univ) $$ H8; iintro H8
    iapply (run_store 𝒱₀ (c : Thread nD τ) bd Set.univ (X' := (fu2 (envOf q k v u) i (live2 (envOf q k v u) i) hw hc x (st10 (envOf q k v u) i)).1.1) (by rfl)) $$ H8; iintro H8
    iapply (run_load 𝒱₀ (c : Thread nD τ) bd Set.univ) $$ H9; iintro H9
    iapply (run_store 𝒱₀ (c : Thread nD τ) bd Set.univ (X' := (fu2 (envOf q k v u) i (live2 (envOf q k v u) i) hw hc x (st10 (envOf q k v u) i)).1.2) (by rfl)) $$ H9; iintro H9
    iapply (run_load 𝒱₀ (c : Thread nD τ) bd Set.univ) $$ H3; iintro H3
    iapply (run_load 𝒱₀ (c : Thread nD τ) bd Set.univ) $$ H4; iintro H4
    rw [wp_ret]; imodintro
    try dsimp only
    rw [wp_bind, k0_part13_eq_skeleton]; unfold k0_part13_skel
    simp only [Prog.lift, Prog.bind_op, Prog.bind_ret, Prog.pure_eq_ret]
    iapply (run_load 𝒱₀ (c : Thread nD τ) bd Set.univ) $$ H10; iintro H10
    iapply (run_store 𝒱₀ (c : Thread nD τ) bd Set.univ (X' := (fu2 (envOf q k v u) i (live2 (envOf q k v u) i) hw hc x (st10 (envOf q k v u) i)).2.ls) (by rfl)) $$ H10; iintro H10
    iapply (run_load 𝒱₀ (c : Thread nD τ) bd Set.univ) $$ H11; iintro H11
    iapply (run_store 𝒱₀ (c : Thread nD τ) bd Set.univ (X' := (fu2 (envOf q k v u) i (live2 (envOf q k v u) i) hw hc x (st10 (envOf q k v u) i)).2.sb) (by rfl)) $$ H11; iintro H11
    iapply (run_load 𝒱₀ (c : Thread nD τ) bd Set.univ) $$ H12; iintro H12
    iapply (run_store 𝒱₀ (c : Thread nD τ) bd Set.univ (X' := (fu2 (envOf q k v u) i (live2 (envOf q k v u) i) hw hc x (st10 (envOf q k v u) i)).2.s0) (by rfl)) $$ H12; iintro H12
    iapply (run_load 𝒱₀ (c : Thread nD τ) bd Set.univ) $$ H10; iintro H10
    iapply (run_load 𝒱₀ (c : Thread nD τ) bd Set.univ) $$ H11; iintro H11
    iapply (run_load 𝒱₀ (c : Thread nD τ) bd Set.univ) $$ H12; iintro H12
    rw [wp_ret]; imodintro
    try dsimp only
    rw [wp_bind, k0_part14_eq_skeleton]; unfold k0_part14_skel
    simp only [Prog.lift, Prog.bind_op, Prog.bind_ret, Prog.pure_eq_ret]
    iapply (run_load 𝒱₀ (c : Thread nD τ) bd Set.univ) $$ H5; iintro H5
    iapply (run_load 𝒱₀ (c : Thread nD τ) bd Set.univ) $$ H9; iintro H9
    iapply (run_load 𝒱₀ (c : Thread nD τ) bd Set.univ) $$ H8; iintro H8
    iapply (run_load 𝒱₀ (c : Thread nD τ) bd Set.univ) $$ H8; iintro H8
    iapply (run_store 𝒱₀ (c : Thread nD τ) bd Set.univ (X' := (fu3 (envOf q k v u) i (live2 (envOf q k v u) i) hw hc x (st10 (envOf q k v u) i)).1.1) (by rfl)) $$ H8; iintro H8
    iapply (run_load 𝒱₀ (c : Thread nD τ) bd Set.univ) $$ H9; iintro H9
    iapply (run_store 𝒱₀ (c : Thread nD τ) bd Set.univ (X' := (fu3 (envOf q k v u) i (live2 (envOf q k v u) i) hw hc x (st10 (envOf q k v u) i)).1.2) (by rfl)) $$ H9; iintro H9
    iapply (run_load 𝒱₀ (c : Thread nD τ) bd Set.univ) $$ H3; iintro H3
    iapply (run_load 𝒱₀ (c : Thread nD τ) bd Set.univ) $$ H4; iintro H4
    rw [wp_ret]; imodintro
    try dsimp only
    rw [wp_bind, k0_part15_eq_skeleton]; unfold k0_part15_skel
    simp only [Prog.lift, Prog.bind_op, Prog.bind_ret, Prog.pure_eq_ret]
    iapply (run_load 𝒱₀ (c : Thread nD τ) bd Set.univ) $$ H10; iintro H10
    iapply (run_store 𝒱₀ (c : Thread nD τ) bd Set.univ (X' := (fu3 (envOf q k v u) i (live2 (envOf q k v u) i) hw hc x (st10 (envOf q k v u) i)).2.ls) (by rfl)) $$ H10; iintro H10
    iapply (run_load 𝒱₀ (c : Thread nD τ) bd Set.univ) $$ H11; iintro H11
    iapply (run_store 𝒱₀ (c : Thread nD τ) bd Set.univ (X' := (fu3 (envOf q k v u) i (live2 (envOf q k v u) i) hw hc x (st10 (envOf q k v u) i)).2.sb) (by rfl)) $$ H11; iintro H11
    iapply (run_load 𝒱₀ (c : Thread nD τ) bd Set.univ) $$ H12; iintro H12
    iapply (run_store 𝒱₀ (c : Thread nD τ) bd Set.univ (X' := (fu3 (envOf q k v u) i (live2 (envOf q k v u) i) hw hc x (st10 (envOf q k v u) i)).2.s0) (by rfl)) $$ H12; iintro H12
    iapply (run_load 𝒱₀ (c : Thread nD τ) bd Set.univ) $$ H10; iintro H10
    iapply (run_load 𝒱₀ (c : Thread nD τ) bd Set.univ) $$ H11; iintro H11
    iapply (run_load 𝒱₀ (c : Thread nD τ) bd Set.univ) $$ H12; iintro H12
    iapply (run_load 𝒱₀ (c : Thread nD τ) bd Set.univ) $$ H5; iintro H5
    rw [wp_ret]; imodintro
    try dsimp only
    rw [wp_bind, k0_part16_eq_skeleton]; unfold k0_part16_skel
    simp only [Prog.lift, Prog.bind_op, Prog.bind_ret, Prog.pure_eq_ret]
    iapply (run_load 𝒱₀ (c : Thread nD τ) bd Set.univ) $$ H9; iintro H9
    iapply (run_load 𝒱₀ (c : Thread nD τ) bd Set.univ) $$ H8; iintro H8
    iapply (run_load 𝒱₀ (c : Thread nD τ) bd Set.univ) $$ H8; iintro H8
    iapply (run_store 𝒱₀ (c : Thread nD τ) bd Set.univ (X' := (fu4 (envOf q k v u) i (live2 (envOf q k v u) i) hw hc x (st10 (envOf q k v u) i)).1.1) (by rfl)) $$ H8; iintro H8
    iapply (run_load 𝒱₀ (c : Thread nD τ) bd Set.univ) $$ H9; iintro H9
    iapply (run_store 𝒱₀ (c : Thread nD τ) bd Set.univ (X' := (fu4 (envOf q k v u) i (live2 (envOf q k v u) i) hw hc x (st10 (envOf q k v u) i)).1.2) (by rfl)) $$ H9; iintro H9
    iapply (run_load 𝒱₀ (c : Thread nD τ) bd Set.univ) $$ H3; iintro H3
    iapply (run_load 𝒱₀ (c : Thread nD τ) bd Set.univ) $$ H4; iintro H4
    rw [wp_ret]; imodintro
    try dsimp only
    rw [wp_bind, k0_part17_eq_skeleton]; unfold k0_part17_skel
    simp only [Prog.lift, Prog.bind_op, Prog.bind_ret, Prog.pure_eq_ret]
    iapply (run_load 𝒱₀ (c : Thread nD τ) bd Set.univ) $$ H10; iintro H10
    iapply (run_store 𝒱₀ (c : Thread nD τ) bd Set.univ (X' := (fu4 (envOf q k v u) i (live2 (envOf q k v u) i) hw hc x (st10 (envOf q k v u) i)).2.ls) (by rfl)) $$ H10; iintro H10
    iapply (run_load 𝒱₀ (c : Thread nD τ) bd Set.univ) $$ H11; iintro H11
    iapply (run_store 𝒱₀ (c : Thread nD τ) bd Set.univ (X' := (fu4 (envOf q k v u) i (live2 (envOf q k v u) i) hw hc x (st10 (envOf q k v u) i)).2.sb) (by rfl)) $$ H11; iintro H11
    iapply (run_load 𝒱₀ (c : Thread nD τ) bd Set.univ) $$ H12; iintro H12
    iapply (run_store 𝒱₀ (c : Thread nD τ) bd Set.univ (X' := (fu4 (envOf q k v u) i (live2 (envOf q k v u) i) hw hc x (st10 (envOf q k v u) i)).2.s0) (by rfl)) $$ H12; iintro H12
    iapply (run_load 𝒱₀ (c : Thread nD τ) bd Set.univ) $$ H10; iintro H10
    iapply (run_load 𝒱₀ (c : Thread nD τ) bd Set.univ) $$ H11; iintro H11
    iapply (run_load 𝒱₀ (c : Thread nD τ) bd Set.univ) $$ H12; iintro H12
    iapply (run_load 𝒱₀ (c : Thread nD τ) bd Set.univ) $$ H5; iintro H5
    iapply (run_load 𝒱₀ (c : Thread nD τ) bd Set.univ) $$ H9; iintro H9
    rw [wp_ret]; imodintro
    try dsimp only
    rw [wp_bind, k0_part18_eq_skeleton]; unfold k0_part18_skel
    simp only [Prog.lift, Prog.bind_op, Prog.bind_ret, Prog.pure_eq_ret]
    iapply (run_load 𝒱₀ (c : Thread nD τ) bd Set.univ) $$ H8; iintro H8
    iapply (run_load 𝒱₀ (c : Thread nD τ) bd Set.univ) $$ H8; iintro H8
    iapply (run_store 𝒱₀ (c : Thread nD τ) bd Set.univ (X' := (fu5 (envOf q k v u) i (live2 (envOf q k v u) i) hw hc x (st10 (envOf q k v u) i)).1.1) (by rfl)) $$ H8; iintro H8
    iapply (run_load 𝒱₀ (c : Thread nD τ) bd Set.univ) $$ H9; iintro H9
    iapply (run_store 𝒱₀ (c : Thread nD τ) bd Set.univ (X' := (fu5 (envOf q k v u) i (live2 (envOf q k v u) i) hw hc x (st10 (envOf q k v u) i)).1.2) (by rfl)) $$ H9; iintro H9
    iapply (run_load 𝒱₀ (c : Thread nD τ) bd Set.univ) $$ H3; iintro H3
    iapply (run_load 𝒱₀ (c : Thread nD τ) bd Set.univ) $$ H4; iintro H4
    rw [wp_ret]; imodintro
    try dsimp only
    rw [wp_bind, k0_part19_eq_skeleton]; unfold k0_part19_skel
    simp only [Prog.lift, Prog.bind_op, Prog.bind_ret, Prog.pure_eq_ret]
    iapply (run_load 𝒱₀ (c : Thread nD τ) bd Set.univ) $$ H10; iintro H10
    iapply (run_store 𝒱₀ (c : Thread nD τ) bd Set.univ (X' := (fu5 (envOf q k v u) i (live2 (envOf q k v u) i) hw hc x (st10 (envOf q k v u) i)).2.ls) (by rfl)) $$ H10; iintro H10
    iapply (run_load 𝒱₀ (c : Thread nD τ) bd Set.univ) $$ H11; iintro H11
    iapply (run_store 𝒱₀ (c : Thread nD τ) bd Set.univ (X' := (fu5 (envOf q k v u) i (live2 (envOf q k v u) i) hw hc x (st10 (envOf q k v u) i)).2.sb) (by rfl)) $$ H11; iintro H11
    iapply (run_load 𝒱₀ (c : Thread nD τ) bd Set.univ) $$ H12; iintro H12
    iapply (run_store 𝒱₀ (c : Thread nD τ) bd Set.univ (X' := (fu5 (envOf q k v u) i (live2 (envOf q k v u) i) hw hc x (st10 (envOf q k v u) i)).2.s0) (by rfl)) $$ H12; iintro H12
    iapply (run_load 𝒱₀ (c : Thread nD τ) bd Set.univ) $$ H10; iintro H10
    iapply (run_load 𝒱₀ (c : Thread nD τ) bd Set.univ) $$ H11; iintro H11
    iapply (run_load 𝒱₀ (c : Thread nD τ) bd Set.univ) $$ H12; iintro H12
    iapply (run_load 𝒱₀ (c : Thread nD τ) bd Set.univ) $$ H5; iintro H5
    iapply (run_load 𝒱₀ (c : Thread nD τ) bd Set.univ) $$ H9; iintro H9
    iapply (run_load 𝒱₀ (c : Thread nD τ) bd Set.univ) $$ H8; iintro H8
    rw [wp_ret]; imodintro
    try dsimp only
    rw [wp_bind, k0_part20_eq_skeleton]; unfold k0_part20_skel
    simp only [Prog.lift, Prog.bind_op, Prog.bind_ret, Prog.pure_eq_ret]
    iapply (run_load 𝒱₀ (c : Thread nD τ) bd Set.univ) $$ H8; iintro H8
    iapply (run_store 𝒱₀ (c : Thread nD τ) bd Set.univ (X' := (fu6 (envOf q k v u) i (live2 (envOf q k v u) i) hw hc x (st10 (envOf q k v u) i)).1.1) (by rfl)) $$ H8; iintro H8
    iapply (run_load 𝒱₀ (c : Thread nD τ) bd Set.univ) $$ H9; iintro H9
    iapply (run_store 𝒱₀ (c : Thread nD τ) bd Set.univ (X' := (fu6 (envOf q k v u) i (live2 (envOf q k v u) i) hw hc x (st10 (envOf q k v u) i)).1.2) (by rfl)) $$ H9; iintro H9
    iapply (run_load 𝒱₀ (c : Thread nD τ) bd Set.univ) $$ H3; iintro H3
    iapply (run_load 𝒱₀ (c : Thread nD τ) bd Set.univ) $$ H4; iintro H4
    iapply (run_load 𝒱₀ (c : Thread nD τ) bd Set.univ) $$ H10; iintro H10
    rw [wp_ret]; imodintro
    try dsimp only
    rw [wp_bind, k0_part21_eq_skeleton]; unfold k0_part21_skel
    simp only [Prog.lift, Prog.bind_op, Prog.bind_ret, Prog.pure_eq_ret]
    iapply (run_store 𝒱₀ (c : Thread nD τ) bd Set.univ (X' := (fu6 (envOf q k v u) i (live2 (envOf q k v u) i) hw hc x (st10 (envOf q k v u) i)).2.ls) (by rfl)) $$ H10; iintro H10
    iapply (run_load 𝒱₀ (c : Thread nD τ) bd Set.univ) $$ H11; iintro H11
    iapply (run_store 𝒱₀ (c : Thread nD τ) bd Set.univ (X' := (fu6 (envOf q k v u) i (live2 (envOf q k v u) i) hw hc x (st10 (envOf q k v u) i)).2.sb) (by rfl)) $$ H11; iintro H11
    iapply (run_load 𝒱₀ (c : Thread nD τ) bd Set.univ) $$ H12; iintro H12
    iapply (run_store 𝒱₀ (c : Thread nD τ) bd Set.univ (X' := (fu6 (envOf q k v u) i (live2 (envOf q k v u) i) hw hc x (st10 (envOf q k v u) i)).2.s0) (by rfl)) $$ H12; iintro H12
    iapply (run_load 𝒱₀ (c : Thread nD τ) bd Set.univ) $$ H10; iintro H10
    iapply (run_load 𝒱₀ (c : Thread nD τ) bd Set.univ) $$ H11; iintro H11
    iapply (run_load 𝒱₀ (c : Thread nD τ) bd Set.univ) $$ H12; iintro H12
    iapply (run_load 𝒱₀ (c : Thread nD τ) bd Set.univ) $$ H5; iintro H5
    iapply (run_load 𝒱₀ (c : Thread nD τ) bd Set.univ) $$ H9; iintro H9
    iapply (run_load 𝒱₀ (c : Thread nD τ) bd Set.univ) $$ H8; iintro H8
    iapply (run_load 𝒱₀ (c : Thread nD τ) bd Set.univ) $$ H8; iintro H8
    rw [wp_ret]; imodintro
    try dsimp only
    rw [wp_bind, k0_part22_eq_skeleton]; unfold k0_part22_skel
    simp only [Prog.lift, Prog.bind_op, Prog.bind_ret, Prog.pure_eq_ret]
    iapply (run_store 𝒱₀ (c : Thread nD τ) bd Set.univ (X' := (fu7 (envOf q k v u) i (live2 (envOf q k v u) i) hw hc x (st10 (envOf q k v u) i)).1.1) (by rfl)) $$ H8; iintro H8
    iapply (run_load 𝒱₀ (c : Thread nD τ) bd Set.univ) $$ H9; iintro H9
    iapply (run_store 𝒱₀ (c : Thread nD τ) bd Set.univ (X' := (fu7 (envOf q k v u) i (live2 (envOf q k v u) i) hw hc x (st10 (envOf q k v u) i)).1.2) (by rfl)) $$ H9; iintro H9
    iapply (run_load 𝒱₀ (c : Thread nD τ) bd Set.univ) $$ H3; iintro H3
    iapply (run_load 𝒱₀ (c : Thread nD τ) bd Set.univ) $$ H4; iintro H4
    iapply (run_load 𝒱₀ (c : Thread nD τ) bd Set.univ) $$ H10; iintro H10
    iapply (run_store 𝒱₀ (c : Thread nD τ) bd Set.univ (X' := (fu7 (envOf q k v u) i (live2 (envOf q k v u) i) hw hc x (st10 (envOf q k v u) i)).2.ls) (by rfl)) $$ H10; iintro H10
    iapply (run_load 𝒱₀ (c : Thread nD τ) bd Set.univ) $$ H11; iintro H11
    rw [wp_ret]; imodintro
    try dsimp only
    iapply (run_store 𝒱₀ (c : Thread nD τ) bd Set.univ (X' := (fu7 (envOf q k v u) i (live2 (envOf q k v u) i) hw hc x (st10 (envOf q k v u) i)).2.sb) (by rfl)) $$ H11; iintro H11
    iapply (run_load 𝒱₀ (c : Thread nD τ) bd Set.univ) $$ H12; iintro H12
    iapply (run_store 𝒱₀ (c : Thread nD τ) bd Set.univ (X' := (fu7 (envOf q k v u) i (live2 (envOf q k v u) i) hw hc x (st10 (envOf q k v u) i)).2.s0) (by rfl)) $$ H12; iintro H12
    iapply (run_load 𝒱₀ (c : Thread nD τ) bd Set.univ) $$ H9; iintro H9
    rw [wp_ret]; imodintro
    iapply Hk
    isplitl [H3 H4 H5 H6]
    · isplitl [H3]; · iexact H3
      isplitl [H4]; · iexact H4
      isplitl [H5]; · iexact H5
      iexact H6
    isplitl [H8 H9]
    · isplitl [H8]; · iexact H8
      iexact H9
    isplitl [H10]; · iexact H10
    isplitl [H11]; · iexact H11
    iexact H12
  · rw [dif_neg hc]
    have hs : (sweep (envOf q k v u) i x hw) = (st10 (envOf q k v u) i, x) := by unfold sweep; rw [dif_neg hc]
    rw [hs]
    iapply (run_load 𝒱₀ (c : Thread nD τ) bd Set.univ) $$ H9; iintro H9
    rw [wp_ret]; imodintro
    iapply Hk
    isplitl [H3 H4 H5 H6]
    · isplitl [H3]; · iexact H3
      isplitl [H4]; · iexact H4
      isplitl [H5]; · iexact H5
      iexact H6
    isplitl [H8 H9]
    · isplitl [H8]; · iexact H8
      iexact H9
    isplitl [H10]; · iexact H10
    isplitl [H11]; · iexact H11
    iexact H12

end Cert.Proof.SB.PI

end
-- ==== Proof.PI.Band.lean ====
/-
  The conditional that runs the rest of the band when some row is alive: it leaves the state `st10` and returns `low`.
-/
module

public import proofs.«01_k».proof.Proof.PI.Sweep

@[expose] public section

set_option maxRecDepth 16384

noncomputable section

namespace Cert.Proof.SB.PI

open Cert.KernelIdeal Cert.KernelIdeal.Gen Cert.Proof.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (q : Vec F S2048x128 .bf16) (k v : Vec F S8192x128 .bf16) (u : Vec F S256x256 .bf16)

set_option maxHeartbeats 4000000 in
/-- The body's part from the tile before the block to the loop. -/
theorem run_part35 (bd : Option ℕ) (x : Sl F) (hw : k0_chk1 i (live2 (envOf q k v u) i)) (arg3 : Memref sig .tc .vmem S2048x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x256 .bf16) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x2048x256 .f32) (harg10 : arg10.IsWhole) (arg11 : Memref sig .tc .vmem S2x2048x256 .bf16) (harg11 : arg11.IsWhole) (arg12 : Memref sig .tc .vmem S2x2048x128 .f32) (harg12 : arg12.IsWhole) (Φ : _ → sProp 𝕄) :
    iprop((ins c q k v u arg3 arg4 arg5 arg6 ∗ sts c (st8 (envOf q k v u) i) arg8 arg9 ∗ sls c x arg10 arg11 arg12)
      ∗ ((ins c q k v u arg3 arg4 arg5 arg6 ∗ sts c (sweep (envOf q k v u) i x hw).1 arg8 arg9 ∗ sls c (sweep (envOf q k v u) i x hw).2 arg10 arg11 arg12) -∗ Φ ⟨live1 (envOf q k v u) i, live2 (envOf q k v u) i, hw, go1 (envOf q k v u) i (sweep (envOf q k v u) i x hw), 1#32⟩))
    ⊢ wp frame (wpE (defs₀ (F := F)) 𝒱₀ (c : Thread nD τ) bd) Set.univ
        (k0_part35 i arg3 harg3 arg4 harg4 arg5 harg5 arg6 harg6 arg7 harg7 arg8 harg8 arg9 harg9 arg10 harg10 arg11 harg11 arg12 harg12 (k0_pay145 (View.ld u (Rect.unit (s := S256x256) ![0, 0] S256x256.size inb_S256x256_S256x256_0_0))) (base i) (k0_pay226 (base i) (View.ld q (rows 256 0 inb_S2048x128_S256x128_0_0)) (View.ld k (keys (k0_off2 i) (k0_off2_inb i)))) (k0_pay227 (k0_pay145 (View.ld u (Rect.unit (s := S256x256) ![0, 0] S256x256.size inb_S256x256_S256x256_0_0))) (base i) (View.ld q (rows 256 0 inb_S2048x128_S256x128_0_0)) (View.ld k (keys (k0_off2 i) (k0_off2_inb i)))) (View.ld (st8 (envOf q k v u) i).2 (rows 256 0 inb_S2048x128_S256x128_0_0)) (View.ld (st8 (envOf q k v u) i).1 (rows 256 0 inb_S2048x128_S256x128_0_0)) (k0_pay228 (k0_pay145 (View.ld u (Rect.unit (s := S256x256) ![0, 0] S256x256.size inb_S256x256_S256x256_0_0))) (base i) (View.ld q (rows 256 0 inb_S2048x128_S256x128_0_0)) (View.ld k (keys (k0_off2 i) (k0_off2_inb i))) (View.ld v (keys (k0_off2 i) (k0_off2_inb i))) (View.ld (st8 (envOf q k v u) i).2 (rows 256 0 inb_S2048x128_S256x128_0_0)))) Φ := by
  rw [part35_eq]; unfold cut35
  iintro ⟨⟨Hi, Hs, Hx⟩, Hk⟩
  simp only [Prog.lift, Prog.bind_op, Prog.bind_ret, Prog.pure_eq_ret]
  unfold ins sts
  icases Hi with ⟨H3, H4, H5, H6⟩
  icases Hs with ⟨H8, H9⟩
  iapply (run_load 𝒱₀ (c : Thread nD τ) bd Set.univ) $$ H8; iintro H8
  iapply (run_store 𝒱₀ (c : Thread nD τ) bd Set.univ (X' := (st9 (envOf q k v u) i).1) (by rfl)) $$ H8; iintro H8
  iapply (run_load 𝒱₀ (c : Thread nD τ) bd Set.univ) $$ H9; iintro H9
  iapply (run_store 𝒱₀ (c : Thread nD τ) bd Set.univ (X' := (st9 (envOf q k v u) i).2) (by rfl)) $$ H9; iintro H9
  iapply (run_load 𝒱₀ (c : Thread nD τ) bd Set.univ) $$ H9; iintro H9
  iapply (run_load 𝒱₀ (c : Thread nD τ) bd Set.univ) $$ H9; iintro H9
  by_cases hl : Scalar.cmpi .ne (Scalar.extui (live1 (envOf q k v u) i) : BitVec 32) 0#32 = 1#1
  · rw [if_pos hl]
    rw [wp_bind, k0_part2_eq_skeleton]; unfold k0_part2_skel
    simp only [Prog.lift, Prog.bind_op, Prog.bind_ret, Prog.pure_eq_ret]
    iapply (run_load 𝒱₀ (c : Thread nD τ) bd Set.univ) $$ H3; iintro H3
    iapply (run_load 𝒱₀ (c : Thread nD τ) bd Set.univ) $$ H4; iintro H4
    iapply (run_load 𝒱₀ (c : Thread nD τ) bd Set.univ) $$ H5; iintro H5
    iapply (run_load 𝒱₀ (c : Thread nD τ) bd Set.univ) $$ H9; iintro H9
    iapply (run_load 𝒱₀ (c : Thread nD τ) bd Set.univ) $$ H8; iintro H8
    iapply (run_load 𝒱₀ (c : Thread nD τ) bd Set.univ) $$ H8; iintro H8
    iapply (run_store 𝒱₀ (c : Thread nD τ) bd Set.univ (X' := (re1 (envOf q k v u) i).1) (by rfl)) $$ H8; iintro H8
    rw [wp_ret]; imodintro
    try dsimp only
    rw [wp_bind, k0_part3_eq_skeleton]; unfold k0_part3_skel
    simp only [Prog.lift, Prog.bind_op, Prog.bind_ret, Prog.pure_eq_ret]
    iapply (run_load 𝒱₀ (c : Thread nD τ) bd Set.univ) $$ H9; iintro H9
    iapply (run_store 𝒱₀ (c : Thread nD τ) bd Set.univ (X' := (re1 (envOf q k v u) i).2) (by rfl)) $$ H9; iintro H9
    iapply (run_load 𝒱₀ (c : Thread nD τ) bd Set.univ) $$ H3; iintro H3
    iapply (run_load 𝒱₀ (c : Thread nD τ) bd Set.univ) $$ H4; iintro H4
    iapply (run_load 𝒱₀ (c : Thread nD τ) bd Set.univ) $$ H5; iintro H5
    iapply (run_load 𝒱₀ (c : Thread nD τ) bd Set.univ) $$ H9; iintro H9
    iapply (run_load 𝒱₀ (c : Thread nD τ) bd Set.univ) $$ H8; iintro H8
    rw [wp_ret]; imodintro
    try dsimp only
    rw [wp_bind, k0_part4_eq_skeleton]; unfold k0_part4_skel
    simp only [Prog.lift, Prog.bind_op, Prog.bind_ret, Prog.pure_eq_ret]
    iapply (run_load 𝒱₀ (c : Thread nD τ) bd Set.univ) $$ H8; iintro H8
    iapply (run_store 𝒱₀ (c : Thread nD τ) bd Set.univ (X' := (re2 (envOf q k v u) i).1) (by rfl)) $$ H8; iintro H8
    iapply (run_load 𝒱₀ (c : Thread nD τ) bd Set.univ) $$ H9; iintro H9
    iapply (run_store 𝒱₀ (c : Thread nD τ) bd Set.univ (X' := (re2 (envOf q k v u) i).2) (by rfl)) $$ H9; iintro H9
    iapply (run_load 𝒱₀ (c : Thread nD τ) bd Set.univ) $$ H3; iintro H3
    iapply (run_load 𝒱₀ (c : Thread nD τ) bd Set.univ) $$ H4; iintro H4
    iapply (run_load 𝒱₀ (c : Thread nD τ) bd Set.univ) $$ H5; iintro H5
    rw [wp_ret]; imodintro
    try dsimp only
    rw [wp_bind, k0_part5_eq_skeleton]; unfold k0_part5_skel
    simp only [Prog.lift, Prog.bind_op, Prog.bind_ret, Prog.pure_eq_ret]
    iapply (run_load 𝒱₀ (c : Thread nD τ) bd Set.univ) $$ H9; iintro H9
    iapply (run_load 𝒱₀ (c : Thread nD τ) bd Set.univ) $$ H8; iintro H8
    iapply (run_load 𝒱₀ (c : Thread nD τ) bd Set.univ) $$ H8; iintro H8
    iapply (run_store 𝒱₀ (c : Thread nD τ) bd Set.univ (X' := (re3 (envOf q k v u) i).1) (by rfl)) $$ H8; iintro H8
    iapply (run_load 𝒱₀ (c : Thread nD τ) bd Set.univ) $$ H9; iintro H9
    iapply (run_store 𝒱₀ (c : Thread nD τ) bd Set.univ (X' := (re3 (envOf q k v u) i).2) (by rfl)) $$ H9; iintro H9
    iapply (run_load 𝒱₀ (c : Thread nD τ) bd Set.univ) $$ H3; iintro H3
    iapply (run_load 𝒱₀ (c : Thread nD τ) bd Set.univ) $$ H4; iintro H4
    rw [wp_ret]; imodintro
    try dsimp only
    rw [wp_bind, k0_part6_eq_skeleton]; unfold k0_part6_skel
    simp only [Prog.lift, Prog.bind_op, Prog.bind_ret, Prog.pure_eq_ret]
    iapply (run_load 𝒱₀ (c : Thread nD τ) bd Set.univ) $$ H5; iintro H5
    iapply (run_load 𝒱₀ (c : Thread nD τ) bd Set.univ) $$ H9; iintro H9
    iapply (run_load 𝒱₀ (c : Thread nD τ) bd Set.univ) $$ H8; iintro H8
    iapply (run_load 𝒱₀ (c : Thread nD τ) bd Set.univ) $$ H8; iintro H8
    iapply (run_store 𝒱₀ (c : Thread nD τ) bd Set.univ (X' := (re4 (envOf q k v u) i).1) (by rfl)) $$ H8; iintro H8
    iapply (run_load 𝒱₀ (c : Thread nD τ) bd Set.univ) $$ H9; iintro H9
    iapply (run_store 𝒱₀ (c : Thread nD τ) bd Set.univ (X' := (re4 (envOf q k v u) i).2) (by rfl)) $$ H9; iintro H9
    iapply (run_load 𝒱₀ (c : Thread nD τ) bd Set.univ) $$ H3; iintro H3
    iapply (run_load 𝒱₀ (c : Thread nD τ) bd Set.univ) $$ H4; iintro H4
    rw [wp_ret]; imodintro
    try dsimp only
    rw [wp_bind, k0_part7_eq_skeleton]; unfold k0_part7_skel
    simp only [Prog.lift, Prog.bind_op, Prog.bind_ret, Prog.pure_eq_ret]
    iapply (run_load 𝒱₀ (c : Thread nD τ) bd Set.univ) $$ H5; iintro H5
    iapply (run_load 𝒱₀ (c : Thread nD τ) bd Set.univ) $$ H9; iintro H9
    iapply (run_load 𝒱₀ (c : Thread nD τ) bd Set.univ) $$ H8; iintro H8
    iapply (run_load 𝒱₀ (c : Thread nD τ) bd Set.univ) $$ H8; iintro H8
    iapply (run_store 𝒱₀ (c : Thread nD τ) bd Set.univ (X' := (re5 (envOf q k v u) i).1) (by rfl)) $$ H8; iintro H8
    iapply (run_load 𝒱₀ (c : Thread nD τ) bd Set.univ) $$ H9; iintro H9
    iapply (run_store 𝒱₀ (c : Thread nD τ) bd Set.univ (X' := (re5 (envOf q k v u) i).2) (by rfl)) $$ H9; iintro H9
    iapply (run_load 𝒱₀ (c : Thread nD τ) bd Set.univ) $$ H3; iintro H3
    rw [wp_ret]; imodintro
    try dsimp only
    rw [wp_bind, k0_part8_eq_skeleton]; unfold k0_part8_skel
    simp only [Prog.lift, Prog.bind_op, Prog.bind_ret, Prog.pure_eq_ret]
    iapply (run_load 𝒱₀ (c : Thread nD τ) bd Set.univ) $$ H4; iintro H4
    iapply (run_load 𝒱₀ (c : Thread nD τ) bd Set.univ) $$ H5; iintro H5
    iapply (run_load 𝒱₀ (c : Thread nD τ) bd Set.univ) $$ H9; iintro H9
    iapply (run_load 𝒱₀ (c : Thread nD τ) bd Set.univ) $$ H8; iintro H8
    iapply (run_load 𝒱₀ (c : Thread nD τ) bd Set.univ) $$ H8; iintro H8
    iapply (run_store 𝒱₀ (c : Thread nD τ) bd Set.univ (X' := (re6 (envOf q k v u) i).1) (by rfl)) $$ H8; iintro H8
    iapply (run_load 𝒱₀ (c : Thread nD τ) bd Set.univ) $$ H9; iintro H9
    iapply (run_store 𝒱₀ (c : Thread nD τ) bd Set.univ (X' := (re6 (envOf q k v u) i).2) (by rfl)) $$ H9; iintro H9
    rw [wp_ret]; imodintro
    try dsimp only
    by_cases hc : k0_cond2 i = 1#1
    · rw [dif_pos hc]
      rw [wp_bind, k0_part1_eq_skeleton]; unfold k0_part1_skel
      simp only [Prog.lift, Prog.bind_op, Prog.bind_ret, Prog.pure_eq_ret]
      iapply (run_load 𝒱₀ (c : Thread nD τ) bd Set.univ) $$ H3; iintro H3
      iapply (run_load 𝒱₀ (c : Thread nD τ) bd Set.univ) $$ H4; iintro H4
      iapply (run_load 𝒱₀ (c : Thread nD τ) bd Set.univ) $$ H5; iintro H5
      iapply (run_load 𝒱₀ (c : Thread nD τ) bd Set.univ) $$ H9; iintro H9
      iapply (run_load 𝒱₀ (c : Thread nD τ) bd Set.univ) $$ H8; iintro H8
      iapply (run_load 𝒱₀ (c : Thread nD τ) bd Set.univ) $$ H8; iintro H8
      iapply (run_store 𝒱₀ (c : Thread nD τ) bd Set.univ (X' := (re7 (envOf q k v u) i hc).1) (by rfl)) $$ H8; iintro H8
      rw [wp_ret]; imodintro
      try dsimp only
      iapply (run_load 𝒱₀ (c : Thread nD τ) bd Set.univ) $$ H9; iintro H9
      iapply (run_store 𝒱₀ (c : Thread nD τ) bd Set.univ (X' := (re7 (envOf q k v u) i hc).2) (by rfl)) $$ H9; iintro H9
      iapply (run_load 𝒱₀ (c : Thread nD τ) bd Set.univ) $$ H9; iintro H9
      have hb : band (envOf q k v u) i = re7 (envOf q k v u) i hc := by unfold band; rw [dif_pos hc]
      have hs : st10 (envOf q k v u) i = re7 (envOf q k v u) i hc := by unfold st10; rw [if_pos hl, hb]
      have hlow : low (envOf q k v u) i = k0_pay233 (View.ld (re7 (envOf q k v u) i hc).2 lowRows) := by unfold low; rw [if_pos hl, hb]
      iapply (run_tail1 c i q k v u bd _ hlow.symm x hw arg3 harg3 arg4 harg4 arg5 harg5 arg6 harg6 arg7 harg7 arg8 harg8 arg9 harg9 arg10 harg10 arg11 harg11 arg12 harg12 Φ)
      unfold ins sts
      rw [hs]
      isplitr [Hk]
      · isplitl [H3 H4 H5 H6]
        · isplitl [H3]; · iexact H3
          isplitl [H4]; · iexact H4
          isplitl [H5]; · iexact H5
          iexact H6
        isplitl [H8 H9]
        · isplitl [H8]; · iexact H8
          iexact H9
        iexact Hx
      iexact Hk
    · rw [dif_neg hc]
      iapply (run_load 𝒱₀ (c : Thread nD τ) bd Set.univ) $$ H9; iintro H9
      have hb : band (envOf q k v u) i = re6 (envOf q k v u) i := by unfold band; rw [dif_neg hc]
      have hs : st10 (envOf q k v u) i = re6 (envOf q k v u) i := by unfold st10; rw [if_pos hl, hb]
      have hlow : low (envOf q k v u) i = k0_pay233 (View.ld (re6 (envOf q k v u) i).2 lowRows) := by unfold low; rw [if_pos hl, hb]
      iapply (run_tail1 c i q k v u bd _ hlow.symm x hw arg3 harg3 arg4 harg4 arg5 harg5 arg6 harg6 arg7 harg7 arg8 harg8 arg9 harg9 arg10 harg10 arg11 harg11 arg12 harg12 Φ)
      unfold ins sts
      rw [hs]
      isplitr [Hk]
      · isplitl [H3 H4 H5 H6]
        · isplitl [H3]; · iexact H3
          isplitl [H4]; · iexact H4
          isplitl [H5]; · iexact H5
          iexact H6
        isplitl [H8 H9]
        · isplitl [H8]; · iexact H8
          iexact H9
        iexact Hx
      iexact Hk
  · rw [if_neg hl]
    have hs : st10 (envOf q k v u) i = st9 (envOf q k v u) i := by unfold st10; rw [if_neg hl]
    have hlow : low (envOf q k v u) i = k0_pay231 (View.ld (st9 (envOf q k v u) i).2 lowRows) := by unfold low; rw [if_neg hl]
    iapply (run_tail1 c i q k v u bd _ hlow.symm x hw arg3 harg3 arg4 harg4 arg5 harg5 arg6 harg6 arg7 harg7 arg8 harg8 arg9 harg9 arg10 harg10 arg11 harg11 arg12 harg12 Φ)
    unfold ins sts
    rw [hs]
    isplitr [Hk]
    · isplitl [H3 H4 H5 H6]
      · isplitl [H3]; · iexact H3
        isplitl [H4]; · iexact H4
        isplitl [H5]; · iexact H5
        iexact H6
      isplitl [H8 H9]
      · isplitl [H8]; · iexact H8
        iexact H9
      iexact Hx
    iexact Hk

end Cert.Proof.SB.PI

end
-- ==== Proof.PI.Loop.lean ====
/-
  The loop over the groups of tiles before the band: its label's specification, met by its body.
-/
module

public import proofs.«01_k».proof.Proof.PI.Held
public import Idealize.ShloMosaic.Lib.Tactic

@[expose] public section

set_option maxRecDepth 16384

noncomputable section

namespace Cert.Proof.SB.PI

open Cert.KernelIdeal Cert.KernelIdeal.Gen Cert.Proof.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (q : Vec F S2048x128 .bf16) (k v : Vec F S8192x128 .bf16) (u : Vec F S256x256 .bf16)

/-- The label's specification: from the state `y` it returns something and leaves the state `y'`. -/
def spec (y y' : St F × Sl F) (arg3 : Memref sig .tc .vmem S2048x128 .bf16) (arg4 arg5 : Memref sig .tc .vmem S8192x128 .bf16) (arg6 : Memref sig .tc .vmem S256x256 .bf16)
    (arg8 arg9 : Memref sig .tc .vmem S2048x128 .f32) (arg10 : Memref sig .tc .vmem S2x2048x256 .f32) (arg11 : Memref sig .tc .vmem S2x2048x256 .bf16) (arg12 : Memref sig .tc .vmem S2x2048x128 .f32) :
    sWPT 𝕄 (BitVec 32 × BitVec 1) := do
  sWPT.consume iprop(ins c q k v u arg3 arg4 arg5 arg6 ∗ sts c y.1 arg8 arg9 ∗ sls c y.2 arg10 arg11 arg12)
  let r ← sWPT.arbitrary
  sWPT.produce iprop(ins c q k v u arg3 arg4 arg5 arg6 ∗ sts c y'.1 arg8 arg9 ∗ sls c y'.2 arg10 arg11 arg12)
  pure r

theorem spec_apply (y y' : St F × Sl F) (arg3 : Memref sig .tc .vmem S2048x128 .bf16) (arg4 arg5 : Memref sig .tc .vmem S8192x128 .bf16) (arg6 : Memref sig .tc .vmem S256x256 .bf16)
    (arg8 arg9 : Memref sig .tc .vmem S2048x128 .f32) (arg10 : Memref sig .tc .vmem S2x2048x256 .f32) (arg11 : Memref sig .tc .vmem S2x2048x256 .bf16) (arg12 : Memref sig .tc .vmem S2x2048x128 .f32)
    (K : BitVec 32 × BitVec 1 → sProp 𝕄) :
    spec c q k v u y y' arg3 arg4 arg5 arg6 arg8 arg9 arg10 arg11 arg12 K
      = iprop((ins c q k v u arg3 arg4 arg5 arg6 ∗ sts c y.1 arg8 arg9 ∗ sls c y.2 arg10 arg11 arg12) ∗ ∀ r : BitVec 32 × BitVec 1, (ins c q k v u arg3 arg4 arg5 arg6 ∗ sts c y'.1 arg8 arg9 ∗ sls c y'.2 arg10 arg11 arg12) -∗ K r) := rfl

/-- The counter goes up by one. -/
theorem addi_ofNat (j : ℕ) : Scalar.addi (BitVec.ofNat 32 j) 1#32 = BitVec.ofNat 32 (j + 1) := by
  show BitVec.ofNat 32 j + BitVec.ofNat 32 1 = _
  rw [← BitVec.ofNat_add]

set_option maxHeartbeats 8000000 in
/-- From group `j`, `n` groups to run at most, the label's body goes from `y` to `loop`. -/
theorem run_loop (b5 b : BitVec 1) (hw : k0_chk1 i b)
    (hchk : ∀ j : ℕ, j < 4 → Scalar.cmpi .slt (BitVec.ofNat 32 j) (BitVec.ofNat 32 (i 2).val) = 1#1 → k0_chk2 i (BitVec.ofNat 32 j))
    (hend : ¬Scalar.cmpi .slt (BitVec.ofNat 32 4) (BitVec.ofNat 32 (i 2).val) = 1#1) (arg3 : Memref sig .tc .vmem S2048x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x256 .bf16) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x2048x256 .f32) (harg10 : arg10.IsWhole) (arg11 : Memref sig .tc .vmem S2x2048x256 .bf16) (harg11 : arg11.IsWhole) (arg12 : Memref sig .tc .vmem S2x2048x128 .f32) (harg12 : arg12.IsWhole) :
    ∀ n j : ℕ, j + n = 4 → ∀ (go : BitVec 1) (y : St F × Sl F) (K : BitVec 32 × BitVec 1 → sProp 𝕄),
      spec c q k v u y (loop (envOf q k v u) i n (BitVec.ofNat 32 j) go y) arg3 arg4 arg5 arg6 arg8 arg9 arg10 arg11 arg12 K
      ⊢ wp frame (wpE (defs₀ (F := F)) 𝒱₀ (c : Thread nD τ) (some n)) Set.univ
          (defs₀ (F := F) .tc 1 ⟨i, b5, b, hw, arg10, harg10, arg11, harg11, arg12, harg12, arg5, harg5, k0_pay145 (View.ld u (Rect.unit (s := S256x256) ![0, 0] S256x256.size inb_S256x256_S256x256_0_0)), arg9, harg9, arg8, harg8, arg3, harg3, arg4, harg4, BitVec.ofNat 32 j, go⟩) K := by
  intro n
  induction n with
  | zero =>
    intro j hj go y K
    rw [spec_apply]
    show _ ⊢ wp frame (wpE (defs₀ (F := F)) 𝒱₀ (c : Thread nD τ) (some 0)) Set.univ (cc0_while1 i b5 b hw arg10 harg10 arg11 harg11 arg12 harg12 arg5 harg5 (k0_pay145 (View.ld u (Rect.unit (s := S256x256) ![0, 0] S256x256.size inb_S256x256_S256x256_0_0))) arg9 harg9 arg8 harg8 arg3 harg3 arg4 harg4 (BitVec.ofNat 32 j) go) K
    rw [cc0_while1_eq_skeleton]; unfold cc0_while1_skel
    obtain rfl : j = 4 := by omega
    have ht : ¬Scalar.andi (Scalar.cmpi .slt (BitVec.ofNat 32 4) (BitVec.ofNat 32 (i 2).val)) go = 1#1 := fun h => hend (by
      revert h; generalize Scalar.cmpi .slt (BitVec.ofNat 32 4) (BitVec.ofNat 32 (i 2).val) = a; revert a go; decide)
    dsimp only
    rw [if_neg ht]
    simp only [loop]
    iintro ⟨⟨H, H8, H10⟩, Hk⟩
    rw [Prog.pure_eq_ret, wp_ret]; imodintro
    iapply Hk
    isplitl [H]; · iexact H
    isplitl [H8]; · iexact H8
    iexact H10
  | succ n ih =>
    intro j hj go y K
    rw [spec_apply]
    show _ ⊢ wp frame (wpE (defs₀ (F := F)) 𝒱₀ (c : Thread nD τ) (some (n + 1))) Set.univ (cc0_while1 i b5 b hw arg10 harg10 arg11 harg11 arg12 harg12 arg5 harg5 (k0_pay145 (View.ld u (Rect.unit (s := S256x256) ![0, 0] S256x256.size inb_S256x256_S256x256_0_0))) arg9 harg9 arg8 harg8 arg3 harg3 arg4 harg4 (BitVec.ofNat 32 j) go) K
    rw [cc0_while1_eq_skeleton]; unfold cc0_while1_skel
    dsimp only
    by_cases ht : Scalar.andi (Scalar.cmpi .slt (BitVec.ofNat 32 j) (BitVec.ofNat 32 (i 2).val)) go = 1#1
    swap
    · rw [if_neg ht]
      rw [show loop (envOf q k v u) i (n + 1) (BitVec.ofNat 32 j) go y = y by rw [loop, if_neg ht]]
      iintro ⟨⟨H, H8, H10⟩, Hk⟩
      rw [Prog.pure_eq_ret, wp_ret]; imodintro
      iapply Hk
      isplitl [H]; · iexact H
      isplitl [H8]; · iexact H8
      iexact H10
    rw [if_pos ht]
    have hs : Scalar.cmpi .slt (BitVec.ofNat 32 j) (BitVec.ofNat 32 (i 2).val) = 1#1 := by
      revert ht; generalize Scalar.cmpi .slt (BitVec.ofNat 32 j) (BitVec.ofNat 32 (i 2).val) = a; revert a go; decide
    have hg : k0_chk2 i (BitVec.ofNat 32 j) := hchk j (by omega) hs
    rw [show loop (envOf q k v u) i (n + 1) (BitVec.ofNat 32 j) go y = loop (envOf q k v u) i n (BitVec.ofNat 32 (j + 1)) (alive (gr8 (envOf q k v u) i (BitVec.ofNat 32 j) hg y).1) (gr8 (envOf q k v u) i (BitVec.ofNat 32 j) hg y) by rw [loop, if_pos ht, dif_pos hg, addi_ofNat]]
    unfold ins sts sls
    iintro ⟨⟨⟨H3, H4, H5, H6⟩, ⟨H8, H9⟩, H10, H11, H12⟩, Hk⟩
    rw [wp_bind, k0_part36_eq_skeleton]; unfold k0_part36_skel
    simp only [Prog.lift, Prog.bind_op, Prog.bind_ret, Prog.pure_eq_ret]
    iapply (wp_assume 𝒱₀ (c : Thread nD τ) (some (n + 1)) Set.univ hg)
    iapply (run_load 𝒱₀ (c : Thread nD τ) (some (n + 1)) Set.univ) $$ H10; iintro H10
    iapply (run_load 𝒱₀ (c : Thread nD τ) (some (n + 1)) Set.univ) $$ H11; iintro H11
    iapply (run_load 𝒱₀ (c : Thread nD τ) (some (n + 1)) Set.univ) $$ H12; iintro H12
    iapply (run_load 𝒱₀ (c : Thread nD τ) (some (n + 1)) Set.univ) $$ H5; iintro H5
    iapply (run_load 𝒱₀ (c : Thread nD τ) (some (n + 1)) Set.univ) $$ H9; iintro H9
    iapply (run_load 𝒱₀ (c : Thread nD τ) (some (n + 1)) Set.univ) $$ H8; iintro H8
    iapply (run_load 𝒱₀ (c : Thread nD τ) (some (n + 1)) Set.univ) $$ H8; iintro H8
    iapply (run_store 𝒱₀ (c : Thread nD τ) (some (n + 1)) Set.univ (X' := (gr1 (envOf q k v u) i (BitVec.ofNat 32 j) hg y).1.1) (by rfl)) $$ H8; iintro H8
    iapply (run_load 𝒱₀ (c : Thread nD τ) (some (n + 1)) Set.univ) $$ H9; iintro H9
    rw [wp_ret]; imodintro
    try dsimp only
    rw [wp_bind, k0_part37_eq_skeleton]; unfold k0_part37_skel
    simp only [Prog.lift, Prog.bind_op, Prog.bind_ret, Prog.pure_eq_ret]
    iapply (run_store 𝒱₀ (c : Thread nD τ) (some (n + 1)) Set.univ (X' := (gr1 (envOf q k v u) i (BitVec.ofNat 32 j) hg y).1.2) (by rfl)) $$ H9; iintro H9
    iapply (run_load 𝒱₀ (c : Thread nD τ) (some (n + 1)) Set.univ) $$ H3; iintro H3
    iapply (run_load 𝒱₀ (c : Thread nD τ) (some (n + 1)) Set.univ) $$ H4; iintro H4
    iapply (run_load 𝒱₀ (c : Thread nD τ) (some (n + 1)) Set.univ) $$ H10; iintro H10
    iapply (run_store 𝒱₀ (c : Thread nD τ) (some (n + 1)) Set.univ (X' := (gr1 (envOf q k v u) i (BitVec.ofNat 32 j) hg y).2.ls) (by rfl)) $$ H10; iintro H10
    iapply (run_load 𝒱₀ (c : Thread nD τ) (some (n + 1)) Set.univ) $$ H11; iintro H11
    iapply (run_store 𝒱₀ (c : Thread nD τ) (some (n + 1)) Set.univ (X' := (gr1 (envOf q k v u) i (BitVec.ofNat 32 j) hg y).2.sb) (by rfl)) $$ H11; iintro H11
    iapply (run_load 𝒱₀ (c : Thread nD τ) (some (n + 1)) Set.univ) $$ H12; iintro H12
    iapply (run_store 𝒱₀ (c : Thread nD τ) (some (n + 1)) Set.univ (X' := (gr1 (envOf q k v u) i (BitVec.ofNat 32 j) hg y).2.s0) (by rfl)) $$ H12; iintro H12
    rw [wp_ret]; imodintro
    try dsimp only
    rw [wp_bind, k0_part38_eq_skeleton]; unfold k0_part38_skel
    simp only [Prog.lift, Prog.bind_op, Prog.bind_ret, Prog.pure_eq_ret]
    iapply (run_load 𝒱₀ (c : Thread nD τ) (some (n + 1)) Set.univ) $$ H10; iintro H10
    iapply (run_load 𝒱₀ (c : Thread nD τ) (some (n + 1)) Set.univ) $$ H11; iintro H11
    iapply (run_load 𝒱₀ (c : Thread nD τ) (some (n + 1)) Set.univ) $$ H12; iintro H12
    iapply (run_load 𝒱₀ (c : Thread nD τ) (some (n + 1)) Set.univ) $$ H5; iintro H5
    iapply (run_load 𝒱₀ (c : Thread nD τ) (some (n + 1)) Set.univ) $$ H9; iintro H9
    iapply (run_load 𝒱₀ (c : Thread nD τ) (some (n + 1)) Set.univ) $$ H8; iintro H8
    iapply (run_load 𝒱₀ (c : Thread nD τ) (some (n + 1)) Set.univ) $$ H8; iintro H8
    iapply (run_store 𝒱₀ (c : Thread nD τ) (some (n + 1)) Set.univ (X' := (gr2 (envOf q k v u) i (BitVec.ofNat 32 j) hg y).1.1) (by rfl)) $$ H8; iintro H8
    iapply (run_load 𝒱₀ (c : Thread nD τ) (some (n + 1)) Set.univ) $$ H9; iintro H9
    iapply (run_store 𝒱₀ (c : Thread nD τ) (some (n + 1)) Set.univ (X' := (gr2 (envOf q k v u) i (BitVec.ofNat 32 j) hg y).1.2) (by rfl)) $$ H9; iintro H9
    rw [wp_ret]; imodintro
    try dsimp only
    rw [wp_bind, k0_part39_eq_skeleton]; unfold k0_part39_skel
    simp only [Prog.lift, Prog.bind_op, Prog.bind_ret, Prog.pure_eq_ret]
    iapply (run_load 𝒱₀ (c : Thread nD τ) (some (n + 1)) Set.univ) $$ H3; iintro H3
    iapply (run_load 𝒱₀ (c : Thread nD τ) (some (n + 1)) Set.univ) $$ H4; iintro H4
    iapply (run_load 𝒱₀ (c : Thread nD τ) (some (n + 1)) Set.univ) $$ H10; iintro H10
    iapply (run_store 𝒱₀ (c : Thread nD τ) (some (n + 1)) Set.univ (X' := (gr2 (envOf q k v u) i (BitVec.ofNat 32 j) hg y).2.ls) (by rfl)) $$ H10; iintro H10
    iapply (run_load 𝒱₀ (c : Thread nD τ) (some (n + 1)) Set.univ) $$ H11; iintro H11
    iapply (run_store 𝒱₀ (c : Thread nD τ) (some (n + 1)) Set.univ (X' := (gr2 (envOf q k v u) i (BitVec.ofNat 32 j) hg y).2.sb) (by rfl)) $$ H11; iintro H11
    iapply (run_load 𝒱₀ (c : Thread nD τ) (some (n + 1)) Set.univ) $$ H12; iintro H12
    iapply (run_store 𝒱₀ (c : Thread nD τ) (some (n + 1)) Set.univ (X' := (gr2 (envOf q k v u) i (BitVec.ofNat 32 j) hg y).2.s0) (by rfl)) $$ H12; iintro H12
    rw [wp_ret]; imodintro
    try dsimp only
    rw [wp_bind, k0_part40_eq_skeleton]; unfold k0_part40_skel
    simp only [Prog.lift, Prog.bind_op, Prog.bind_ret, Prog.pure_eq_ret]
    iapply (run_load 𝒱₀ (c : Thread nD τ) (some (n + 1)) Set.univ) $$ H10; iintro H10
    iapply (run_load 𝒱₀ (c : Thread nD τ) (some (n + 1)) Set.univ) $$ H11; iintro H11
    iapply (run_load 𝒱₀ (c : Thread nD τ) (some (n + 1)) Set.univ) $$ H12; iintro H12
    iapply (run_load 𝒱₀ (c : Thread nD τ) (some (n + 1)) Set.univ) $$ H5; iintro H5
    iapply (run_load 𝒱₀ (c : Thread nD τ) (some (n + 1)) Set.univ) $$ H9; iintro H9
    iapply (run_load 𝒱₀ (c : Thread nD τ) (some (n + 1)) Set.univ) $$ H8; iintro H8
    iapply (run_load 𝒱₀ (c : Thread nD τ) (some (n + 1)) Set.univ) $$ H8; iintro H8
    iapply (run_store 𝒱₀ (c : Thread nD τ) (some (n + 1)) Set.univ (X' := (gr3 (envOf q k v u) i (BitVec.ofNat 32 j) hg y).1.1) (by rfl)) $$ H8; iintro H8
    iapply (run_load 𝒱₀ (c : Thread nD τ) (some (n + 1)) Set.univ) $$ H9; iintro H9
    iapply (run_store 𝒱₀ (c : Thread nD τ) (some (n + 1)) Set.univ (X' := (gr3 (envOf q k v u) i (BitVec.ofNat 32 j) hg y).1.2) (by rfl)) $$ H9; iintro H9
    rw [wp_ret]; imodintro
    try dsimp only
    rw [wp_bind, k0_part41_eq_skeleton]; unfold k0_part41_skel
    simp only [Prog.lift, Prog.bind_op, Prog.bind_ret, Prog.pure_eq_ret]
    iapply (run_load 𝒱₀ (c : Thread nD τ) (some (n + 1)) Set.univ) $$ H3; iintro H3
    iapply (run_load 𝒱₀ (c : Thread nD τ) (some (n + 1)) Set.univ) $$ H4; iintro H4
    iapply (run_load 𝒱₀ (c : Thread nD τ) (some (n + 1)) Set.univ) $$ H10; iintro H10
    iapply (run_store 𝒱₀ (c : Thread nD τ) (some (n + 1)) Set.univ (X' := (gr3 (envOf q k v u) i (BitVec.ofNat 32 j) hg y).2.ls) (by rfl)) $$ H10; iintro H10
    iapply (run_load 𝒱₀ (c : Thread nD τ) (some (n + 1)) Set.univ) $$ H11; iintro H11
    iapply (run_store 𝒱₀ (c : Thread nD τ) (some (n + 1)) Set.univ (X' := (gr3 (envOf q k v u) i (BitVec.ofNat 32 j) hg y).2.sb) (by rfl)) $$ H11; iintro H11
    iapply (run_load 𝒱₀ (c : Thread nD τ) (some (n + 1)) Set.univ) $$ H12; iintro H12
    iapply (run_store 𝒱₀ (c : Thread nD τ) (some (n + 1)) Set.univ (X' := (gr3 (envOf q k v u) i (BitVec.ofNat 32 j) hg y).2.s0) (by rfl)) $$ H12; iintro H12
    iapply (run_load 𝒱₀ (c : Thread nD τ) (some (n + 1)) Set.univ) $$ H10; iintro H10
    rw [wp_ret]; imodintro
    try dsimp only
    rw [wp_bind, k0_part42_eq_skeleton]; unfold k0_part42_skel
    simp only [Prog.lift, Prog.bind_op, Prog.bind_ret, Prog.pure_eq_ret]
    iapply (run_load 𝒱₀ (c : Thread nD τ) (some (n + 1)) Set.univ) $$ H11; iintro H11
    iapply (run_load 𝒱₀ (c : Thread nD τ) (some (n + 1)) Set.univ) $$ H12; iintro H12
    iapply (run_load 𝒱₀ (c : Thread nD τ) (some (n + 1)) Set.univ) $$ H5; iintro H5
    iapply (run_load 𝒱₀ (c : Thread nD τ) (some (n + 1)) Set.univ) $$ H9; iintro H9
    iapply (run_load 𝒱₀ (c : Thread nD τ) (some (n + 1)) Set.univ) $$ H8; iintro H8
    iapply (run_load 𝒱₀ (c : Thread nD τ) (some (n + 1)) Set.univ) $$ H8; iintro H8
    iapply (run_store 𝒱₀ (c : Thread nD τ) (some (n + 1)) Set.univ (X' := (gr4 (envOf q k v u) i (BitVec.ofNat 32 j) hg y).1.1) (by rfl)) $$ H8; iintro H8
    iapply (run_load 𝒱₀ (c : Thread nD τ) (some (n + 1)) Set.univ) $$ H9; iintro H9
    iapply (run_store 𝒱₀ (c : Thread nD τ) (some (n + 1)) Set.univ (X' := (gr4 (envOf q k v u) i (BitVec.ofNat 32 j) hg y).1.2) (by rfl)) $$ H9; iintro H9
    iapply (run_load 𝒱₀ (c : Thread nD τ) (some (n + 1)) Set.univ) $$ H3; iintro H3
    rw [wp_ret]; imodintro
    try dsimp only
    rw [wp_bind, k0_part43_eq_skeleton]; unfold k0_part43_skel
    simp only [Prog.lift, Prog.bind_op, Prog.bind_ret, Prog.pure_eq_ret]
    iapply (run_load 𝒱₀ (c : Thread nD τ) (some (n + 1)) Set.univ) $$ H4; iintro H4
    iapply (run_load 𝒱₀ (c : Thread nD τ) (some (n + 1)) Set.univ) $$ H10; iintro H10
    iapply (run_store 𝒱₀ (c : Thread nD τ) (some (n + 1)) Set.univ (X' := (gr4 (envOf q k v u) i (BitVec.ofNat 32 j) hg y).2.ls) (by rfl)) $$ H10; iintro H10
    iapply (run_load 𝒱₀ (c : Thread nD τ) (some (n + 1)) Set.univ) $$ H11; iintro H11
    iapply (run_store 𝒱₀ (c : Thread nD τ) (some (n + 1)) Set.univ (X' := (gr4 (envOf q k v u) i (BitVec.ofNat 32 j) hg y).2.sb) (by rfl)) $$ H11; iintro H11
    iapply (run_load 𝒱₀ (c : Thread nD τ) (some (n + 1)) Set.univ) $$ H12; iintro H12
    iapply (run_store 𝒱₀ (c : Thread nD τ) (some (n + 1)) Set.univ (X' := (gr4 (envOf q k v u) i (BitVec.ofNat 32 j) hg y).2.s0) (by rfl)) $$ H12; iintro H12
    iapply (run_load 𝒱₀ (c : Thread nD τ) (some (n + 1)) Set.univ) $$ H10; iintro H10
    iapply (run_load 𝒱₀ (c : Thread nD τ) (some (n + 1)) Set.univ) $$ H11; iintro H11
    rw [wp_ret]; imodintro
    try dsimp only
    rw [wp_bind, k0_part44_eq_skeleton]; unfold k0_part44_skel
    simp only [Prog.lift, Prog.bind_op, Prog.bind_ret, Prog.pure_eq_ret]
    iapply (run_load 𝒱₀ (c : Thread nD τ) (some (n + 1)) Set.univ) $$ H12; iintro H12
    iapply (run_load 𝒱₀ (c : Thread nD τ) (some (n + 1)) Set.univ) $$ H5; iintro H5
    iapply (run_load 𝒱₀ (c : Thread nD τ) (some (n + 1)) Set.univ) $$ H9; iintro H9
    iapply (run_load 𝒱₀ (c : Thread nD τ) (some (n + 1)) Set.univ) $$ H8; iintro H8
    iapply (run_load 𝒱₀ (c : Thread nD τ) (some (n + 1)) Set.univ) $$ H8; iintro H8
    iapply (run_store 𝒱₀ (c : Thread nD τ) (some (n + 1)) Set.univ (X' := (gr5 (envOf q k v u) i (BitVec.ofNat 32 j) hg y).1.1) (by rfl)) $$ H8; iintro H8
    iapply (run_load 𝒱₀ (c : Thread nD τ) (some (n + 1)) Set.univ) $$ H9; iintro H9
    iapply (run_store 𝒱₀ (c : Thread nD τ) (some (n + 1)) Set.univ (X' := (gr5 (envOf q k v u) i (BitVec.ofNat 32 j) hg y).1.2) (by rfl)) $$ H9; iintro H9
    iapply (run_load 𝒱₀ (c : Thread nD τ) (some (n + 1)) Set.univ) $$ H3; iintro H3
    rw [wp_ret]; imodintro
    try dsimp only
    rw [wp_bind, k0_part45_eq_skeleton]; unfold k0_part45_skel
    simp only [Prog.lift, Prog.bind_op, Prog.bind_ret, Prog.pure_eq_ret]
    iapply (run_load 𝒱₀ (c : Thread nD τ) (some (n + 1)) Set.univ) $$ H4; iintro H4
    iapply (run_load 𝒱₀ (c : Thread nD τ) (some (n + 1)) Set.univ) $$ H10; iintro H10
    iapply (run_store 𝒱₀ (c : Thread nD τ) (some (n + 1)) Set.univ (X' := (gr5 (envOf q k v u) i (BitVec.ofNat 32 j) hg y).2.ls) (by rfl)) $$ H10; iintro H10
    iapply (run_load 𝒱₀ (c : Thread nD τ) (some (n + 1)) Set.univ) $$ H11; iintro H11
    iapply (run_store 𝒱₀ (c : Thread nD τ) (some (n + 1)) Set.univ (X' := (gr5 (envOf q k v u) i (BitVec.ofNat 32 j) hg y).2.sb) (by rfl)) $$ H11; iintro H11
    iapply (run_load 𝒱₀ (c : Thread nD τ) (some (n + 1)) Set.univ) $$ H12; iintro H12
    iapply (run_store 𝒱₀ (c : Thread nD τ) (some (n + 1)) Set.univ (X' := (gr5 (envOf q k v u) i (BitVec.ofNat 32 j) hg y).2.s0) (by rfl)) $$ H12; iintro H12
    iapply (run_load 𝒱₀ (c : Thread nD τ) (some (n + 1)) Set.univ) $$ H10; iintro H10
    iapply (run_load 𝒱₀ (c : Thread nD τ) (some (n + 1)) Set.univ) $$ H11; iintro H11
    iapply (run_load 𝒱₀ (c : Thread nD τ) (some (n + 1)) Set.univ) $$ H12; iintro H12
    rw [wp_ret]; imodintro
    try dsimp only
    rw [wp_bind, k0_part46_eq_skeleton]; unfold k0_part46_skel
    simp only [Prog.lift, Prog.bind_op, Prog.bind_ret, Prog.pure_eq_ret]
    iapply (run_load 𝒱₀ (c : Thread nD τ) (some (n + 1)) Set.univ) $$ H5; iintro H5
    iapply (run_load 𝒱₀ (c : Thread nD τ) (some (n + 1)) Set.univ) $$ H9; iintro H9
    iapply (run_load 𝒱₀ (c : Thread nD τ) (some (n + 1)) Set.univ) $$ H8; iintro H8
    iapply (run_load 𝒱₀ (c : Thread nD τ) (some (n + 1)) Set.univ) $$ H8; iintro H8
    iapply (run_store 𝒱₀ (c : Thread nD τ) (some (n + 1)) Set.univ (X' := (gr6 (envOf q k v u) i (BitVec.ofNat 32 j) hg y).1.1) (by rfl)) $$ H8; iintro H8
    iapply (run_load 𝒱₀ (c : Thread nD τ) (some (n + 1)) Set.univ) $$ H9; iintro H9
    iapply (run_store 𝒱₀ (c : Thread nD τ) (some (n + 1)) Set.univ (X' := (gr6 (envOf q k v u) i (BitVec.ofNat 32 j) hg y).1.2) (by rfl)) $$ H9; iintro H9
    iapply (run_load 𝒱₀ (c : Thread nD τ) (some (n + 1)) Set.univ) $$ H3; iintro H3
    iapply (run_load 𝒱₀ (c : Thread nD τ) (some (n + 1)) Set.univ) $$ H4; iintro H4
    rw [wp_ret]; imodintro
    try dsimp only
    rw [wp_bind, k0_part47_eq_skeleton]; unfold k0_part47_skel
    simp only [Prog.lift, Prog.bind_op, Prog.bind_ret, Prog.pure_eq_ret]
    iapply (run_load 𝒱₀ (c : Thread nD τ) (some (n + 1)) Set.univ) $$ H10; iintro H10
    iapply (run_store 𝒱₀ (c : Thread nD τ) (some (n + 1)) Set.univ (X' := (gr6 (envOf q k v u) i (BitVec.ofNat 32 j) hg y).2.ls) (by rfl)) $$ H10; iintro H10
    iapply (run_load 𝒱₀ (c : Thread nD τ) (some (n + 1)) Set.univ) $$ H11; iintro H11
    iapply (run_store 𝒱₀ (c : Thread nD τ) (some (n + 1)) Set.univ (X' := (gr6 (envOf q k v u) i (BitVec.ofNat 32 j) hg y).2.sb) (by rfl)) $$ H11; iintro H11
    iapply (run_load 𝒱₀ (c : Thread nD τ) (some (n + 1)) Set.univ) $$ H12; iintro H12
    iapply (run_store 𝒱₀ (c : Thread nD τ) (some (n + 1)) Set.univ (X' := (gr6 (envOf q k v u) i (BitVec.ofNat 32 j) hg y).2.s0) (by rfl)) $$ H12; iintro H12
    iapply (run_load 𝒱₀ (c : Thread nD τ) (some (n + 1)) Set.univ) $$ H10; iintro H10
    iapply (run_load 𝒱₀ (c : Thread nD τ) (some (n + 1)) Set.univ) $$ H11; iintro H11
    iapply (run_load 𝒱₀ (c : Thread nD τ) (some (n + 1)) Set.univ) $$ H12; iintro H12
    rw [wp_ret]; imodintro
    try dsimp only
    rw [wp_bind, k0_part48_eq_skeleton]; unfold k0_part48_skel
    simp only [Prog.lift, Prog.bind_op, Prog.bind_ret, Prog.pure_eq_ret]
    iapply (run_load 𝒱₀ (c : Thread nD τ) (some (n + 1)) Set.univ) $$ H5; iintro H5
    iapply (run_load 𝒱₀ (c : Thread nD τ) (some (n + 1)) Set.univ) $$ H9; iintro H9
    iapply (run_load 𝒱₀ (c : Thread nD τ) (some (n + 1)) Set.univ) $$ H8; iintro H8
    iapply (run_load 𝒱₀ (c : Thread nD τ) (some (n + 1)) Set.univ) $$ H8; iintro H8
    iapply (run_store 𝒱₀ (c : Thread nD τ) (some (n + 1)) Set.univ (X' := (gr7 (envOf q k v u) i (BitVec.ofNat 32 j) hg y).1.1) (by rfl)) $$ H8; iintro H8
    iapply (run_load 𝒱₀ (c : Thread nD τ) (some (n + 1)) Set.univ) $$ H9; iintro H9
    iapply (run_store 𝒱₀ (c : Thread nD τ) (some (n + 1)) Set.univ (X' := (gr7 (envOf q k v u) i (BitVec.ofNat 32 j) hg y).1.2) (by rfl)) $$ H9; iintro H9
    iapply (run_load 𝒱₀ (c : Thread nD τ) (some (n + 1)) Set.univ) $$ H3; iintro H3
    iapply (run_load 𝒱₀ (c : Thread nD τ) (some (n + 1)) Set.univ) $$ H4; iintro H4
    rw [wp_ret]; imodintro
    try dsimp only
    rw [wp_bind, k0_part49_eq_skeleton]; unfold k0_part49_skel
    simp only [Prog.lift, Prog.bind_op, Prog.bind_ret, Prog.pure_eq_ret]
    iapply (run_load 𝒱₀ (c : Thread nD τ) (some (n + 1)) Set.univ) $$ H10; iintro H10
    iapply (run_store 𝒱₀ (c : Thread nD τ) (some (n + 1)) Set.univ (X' := (gr7 (envOf q k v u) i (BitVec.ofNat 32 j) hg y).2.ls) (by rfl)) $$ H10; iintro H10
    iapply (run_load 𝒱₀ (c : Thread nD τ) (some (n + 1)) Set.univ) $$ H11; iintro H11
    iapply (run_store 𝒱₀ (c : Thread nD τ) (some (n + 1)) Set.univ (X' := (gr7 (envOf q k v u) i (BitVec.ofNat 32 j) hg y).2.sb) (by rfl)) $$ H11; iintro H11
    iapply (run_load 𝒱₀ (c : Thread nD τ) (some (n + 1)) Set.univ) $$ H12; iintro H12
    iapply (run_store 𝒱₀ (c : Thread nD τ) (some (n + 1)) Set.univ (X' := (gr7 (envOf q k v u) i (BitVec.ofNat 32 j) hg y).2.s0) (by rfl)) $$ H12; iintro H12
    iapply (run_load 𝒱₀ (c : Thread nD τ) (some (n + 1)) Set.univ) $$ H10; iintro H10
    iapply (run_load 𝒱₀ (c : Thread nD τ) (some (n + 1)) Set.univ) $$ H11; iintro H11
    iapply (run_load 𝒱₀ (c : Thread nD τ) (some (n + 1)) Set.univ) $$ H12; iintro H12
    rw [wp_ret]; imodintro
    try dsimp only
    rw [wp_bind, k0_part50_eq_skeleton]; unfold k0_part50_skel
    simp only [Prog.lift, Prog.bind_op, Prog.bind_ret, Prog.pure_eq_ret]
    iapply (run_load 𝒱₀ (c : Thread nD τ) (some (n + 1)) Set.univ) $$ H5; iintro H5
    iapply (run_load 𝒱₀ (c : Thread nD τ) (some (n + 1)) Set.univ) $$ H9; iintro H9
    iapply (run_load 𝒱₀ (c : Thread nD τ) (some (n + 1)) Set.univ) $$ H8; iintro H8
    iapply (run_load 𝒱₀ (c : Thread nD τ) (some (n + 1)) Set.univ) $$ H8; iintro H8
    iapply (run_store 𝒱₀ (c : Thread nD τ) (some (n + 1)) Set.univ (X' := (gr8 (envOf q k v u) i (BitVec.ofNat 32 j) hg y).1.1) (by rfl)) $$ H8; iintro H8
    iapply (run_load 𝒱₀ (c : Thread nD τ) (some (n + 1)) Set.univ) $$ H9; iintro H9
    iapply (run_store 𝒱₀ (c : Thread nD τ) (some (n + 1)) Set.univ (X' := (gr8 (envOf q k v u) i (BitVec.ofNat 32 j) hg y).1.2) (by rfl)) $$ H9; iintro H9
    iapply (run_load 𝒱₀ (c : Thread nD τ) (some (n + 1)) Set.univ) $$ H3; iintro H3
    iapply (run_load 𝒱₀ (c : Thread nD τ) (some (n + 1)) Set.univ) $$ H4; iintro H4
    rw [wp_ret]; imodintro
    try dsimp only
    iapply (run_load 𝒱₀ (c : Thread nD τ) (some (n + 1)) Set.univ) $$ H10; iintro H10
    iapply (run_store 𝒱₀ (c : Thread nD τ) (some (n + 1)) Set.univ (X' := (gr8 (envOf q k v u) i (BitVec.ofNat 32 j) hg y).2.ls) (by rfl)) $$ H10; iintro H10
    iapply (run_load 𝒱₀ (c : Thread nD τ) (some (n + 1)) Set.univ) $$ H11; iintro H11
    iapply (run_store 𝒱₀ (c : Thread nD τ) (some (n + 1)) Set.univ (X' := (gr8 (envOf q k v u) i (BitVec.ofNat 32 j) hg y).2.sb) (by rfl)) $$ H11; iintro H11
    iapply (run_load 𝒱₀ (c : Thread nD τ) (some (n + 1)) Set.univ) $$ H12; iintro H12
    iapply (run_store 𝒱₀ (c : Thread nD τ) (some (n + 1)) Set.univ (X' := (gr8 (envOf q k v u) i (BitVec.ofNat 32 j) hg y).2.s0) (by rfl)) $$ H12; iintro H12
    iapply (run_load 𝒱₀ (c : Thread nD τ) (some (n + 1)) Set.univ) $$ H9; iintro H9
    iapply (wp_call_spec 𝒱₀ (c : Thread nD τ) (some (n + 1)) Set.univ (spec c q k v u (gr8 (envOf q k v u) i (BitVec.ofNat 32 j) hg y) (loop (envOf q k v u) i n (BitVec.ofNat 32 (j + 1)) (alive (gr8 (envOf q k v u) i (BitVec.ofNat 32 j) hg y).1) (gr8 (envOf q k v u) i (BitVec.ofNat 32 j) hg y)) arg3 arg4 arg5 arg6 arg8 arg9 arg10 arg11 arg12) n
      (fun w hw' => by cases hw'; exact Nat.lt_succ_self n)
      (by rw [addi_ofNat]; exact fun K => ih (j + 1) (by omega) (alive (gr8 (envOf q k v u) i (BitVec.ofNat 32 j) hg y).1) (gr8 (envOf q k v u) i (BitVec.ofNat 32 j) hg y) K))
    rw [spec_apply]; unfold ins sts sls
    isplitl [H3 H4 H5 H6 H8 H9 H10 H11 H12]
    · isplitl [H3 H4 H5 H6]
      · isplitl [H3]; · iexact H3
        isplitl [H4]; · iexact H4
        isplitl [H5]; · iexact H5
        iexact H6
      isplitl [H8 H9]
      · isplitl [H8]; · iexact H8
        iexact H9
      isplitl [H10]; · iexact H10
      isplitl [H11]; · iexact H11
      iexact H12
    iintro %r H
    rw [wp_ret]; imodintro
    iapply Hk; iexact H

end Cert.Proof.SB.PI

end
-- ==== Proof.PI.Body.lean ====
/-
  The kernel's body at one grid point: it leaves its operands as they were and stores `outV`.
-/
module

public import proofs.«01_k».proof.Proof.PI.Band
public import proofs.«01_k».proof.Proof.PI.Loop

@[expose] public section

set_option maxRecDepth 16384

noncomputable section

namespace Cert.Proof.SB.PI

open Cert.KernelIdeal Cert.KernelIdeal.Gen Cert.Proof.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (q : Vec F S2048x128 .bf16) (k v : Vec F S8192x128 .bf16) (u : Vec F S256x256 .bf16)

set_option maxHeartbeats 8000000 in
/-- The body, from any accumulator, carry, slots and output block. -/
theorem run_body (bd : Option ℕ) (hbd : bd = none) (o : Vec F S2048x128 .bf16) (s : St F) (x : Sl F) (hw : k0_chk1 i (live2 (envOf q k v u) i))
    (hchk : ∀ j : ℕ, j < 4 → Scalar.cmpi .slt (BitVec.ofNat 32 j) (BitVec.ofNat 32 (i 2).val) = 1#1 → k0_chk2 i (BitVec.ofNat 32 j))
    (hend : ¬Scalar.cmpi .slt (BitVec.ofNat 32 4) (BitVec.ofNat 32 (i 2).val) = 1#1) (arg3 : Memref sig .tc .vmem S2048x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x256 .bf16) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2x2048x256 .f32) (harg10 : arg10.IsWhole) (arg11 : Memref sig .tc .vmem S2x2048x256 .bf16) (harg11 : arg11.IsWhole) (arg12 : Memref sig .tc .vmem S2x2048x128 .f32) (harg12 : arg12.IsWhole) (Φ : PUnit → sProp 𝕄) :
    iprop((ins c q k v u arg3 arg4 arg5 arg6 ∗ sts c s arg8 arg9 ∗ sls c x arg10 arg11 arg12 ∗ owns (c : Thread nD τ) arg7 fullShare o)
      ∗ ((ins c q k v u arg3 arg4 arg5 arg6 ∗ sts c (fin (envOf q k v u) i x hw).1 arg8 arg9 ∗ sls c (fin (envOf q k v u) i x hw).2 arg10 arg11 arg12 ∗ owns (c : Thread nD τ) arg7 fullShare (outV (envOf q k v u) i x hw)) -∗ Φ ⟨⟩))
    ⊢ wp frame (wpE (defs₀ (F := F)) 𝒱₀ (c : Thread nD τ) bd) Set.univ (cc0_sb_attn i arg3 harg3 arg4 harg4 arg5 harg5 arg6 harg6 arg7 harg7 arg8 harg8 arg9 harg9 arg10 harg10 arg11 harg11 arg12 harg12) Φ := by
  subst hbd
  rw [cc0_sb_attn_eq_skeleton]; unfold cc0_sb_attn_skel
  unfold ins sts
  iintro ⟨⟨⟨H3, H4, H5, H6⟩, ⟨H8, H9⟩, Hx, H7⟩, Hk⟩
  rw [wp_bind, k0_part23_eq_skeleton]; unfold k0_part23_skel
  simp only [Prog.lift, Prog.bind_op, Prog.bind_ret, Prog.pure_eq_ret]
  iapply (run_load 𝒱₀ (c : Thread nD τ) none Set.univ) $$ H6; iintro H6
  iapply (run_load 𝒱₀ (c : Thread nD τ) none Set.univ) $$ H8; iintro H8
  iapply (run_store 𝒱₀ (c : Thread nD τ) none Set.univ (X' := (st0 (F := F)).1) (overlay_whole _ _ _)) $$ H8; iintro H8
  iapply (run_load 𝒱₀ (c : Thread nD τ) none Set.univ) $$ H9; iintro H9
  iapply (run_store 𝒱₀ (c : Thread nD τ) none Set.univ (X' := (st0 (F := F)).2) (overlay_whole _ _ _)) $$ H9; iintro H9
  iapply (run_load 𝒱₀ (c : Thread nD τ) none Set.univ) $$ H3; iintro H3
  iapply (run_load 𝒱₀ (c : Thread nD τ) none Set.univ) $$ H4; iintro H4
  rw [wp_ret]; imodintro
  try dsimp only
  rw [wp_bind, k0_part24_eq_skeleton]; unfold k0_part24_skel
  simp only [Prog.lift, Prog.bind_op, Prog.bind_ret, Prog.pure_eq_ret]
  iapply (run_load 𝒱₀ (c : Thread nD τ) none Set.univ) $$ H5; iintro H5
  iapply (run_load 𝒱₀ (c : Thread nD τ) none Set.univ) $$ H9; iintro H9
  iapply (run_load 𝒱₀ (c : Thread nD τ) none Set.univ) $$ H8; iintro H8
  iapply (run_load 𝒱₀ (c : Thread nD τ) none Set.univ) $$ H8; iintro H8
  iapply (run_store 𝒱₀ (c : Thread nD τ) none Set.univ (X' := (st1 (envOf q k v u) i).1) (by rfl)) $$ H8; iintro H8
  iapply (run_load 𝒱₀ (c : Thread nD τ) none Set.univ) $$ H9; iintro H9
  iapply (run_store 𝒱₀ (c : Thread nD τ) none Set.univ (X' := (st1 (envOf q k v u) i).2) (by rfl)) $$ H9; iintro H9
  iapply (run_load 𝒱₀ (c : Thread nD τ) none Set.univ) $$ H3; iintro H3
  iapply (run_load 𝒱₀ (c : Thread nD τ) none Set.univ) $$ H4; iintro H4
  rw [wp_ret]; imodintro
  try dsimp only
  rw [wp_bind, k0_part25_eq_skeleton]; unfold k0_part25_skel
  simp only [Prog.lift, Prog.bind_op, Prog.bind_ret, Prog.pure_eq_ret]
  iapply (run_load 𝒱₀ (c : Thread nD τ) none Set.univ) $$ H5; iintro H5
  iapply (run_load 𝒱₀ (c : Thread nD τ) none Set.univ) $$ H9; iintro H9
  iapply (run_load 𝒱₀ (c : Thread nD τ) none Set.univ) $$ H8; iintro H8
  iapply (run_load 𝒱₀ (c : Thread nD τ) none Set.univ) $$ H8; iintro H8
  iapply (run_store 𝒱₀ (c : Thread nD τ) none Set.univ (X' := (st2 (envOf q k v u) i).1) (by rfl)) $$ H8; iintro H8
  iapply (run_load 𝒱₀ (c : Thread nD τ) none Set.univ) $$ H9; iintro H9
  rw [wp_ret]; imodintro
  try dsimp only
  rw [wp_bind, k0_part26_eq_skeleton]; unfold k0_part26_skel
  simp only [Prog.lift, Prog.bind_op, Prog.bind_ret, Prog.pure_eq_ret]
  iapply (run_store 𝒱₀ (c : Thread nD τ) none Set.univ (X' := (st2 (envOf q k v u) i).2) (by rfl)) $$ H9; iintro H9
  iapply (run_load 𝒱₀ (c : Thread nD τ) none Set.univ) $$ H3; iintro H3
  iapply (run_load 𝒱₀ (c : Thread nD τ) none Set.univ) $$ H4; iintro H4
  iapply (run_load 𝒱₀ (c : Thread nD τ) none Set.univ) $$ H5; iintro H5
  iapply (run_load 𝒱₀ (c : Thread nD τ) none Set.univ) $$ H9; iintro H9
  rw [wp_ret]; imodintro
  try dsimp only
  rw [wp_bind, k0_part27_eq_skeleton]; unfold k0_part27_skel
  simp only [Prog.lift, Prog.bind_op, Prog.bind_ret, Prog.pure_eq_ret]
  iapply (run_load 𝒱₀ (c : Thread nD τ) none Set.univ) $$ H8; iintro H8
  iapply (run_load 𝒱₀ (c : Thread nD τ) none Set.univ) $$ H8; iintro H8
  iapply (run_store 𝒱₀ (c : Thread nD τ) none Set.univ (X' := (st3 (envOf q k v u) i).1) (by rfl)) $$ H8; iintro H8
  iapply (run_load 𝒱₀ (c : Thread nD τ) none Set.univ) $$ H9; iintro H9
  iapply (run_store 𝒱₀ (c : Thread nD τ) none Set.univ (X' := (st3 (envOf q k v u) i).2) (by rfl)) $$ H9; iintro H9
  iapply (run_load 𝒱₀ (c : Thread nD τ) none Set.univ) $$ H3; iintro H3
  iapply (run_load 𝒱₀ (c : Thread nD τ) none Set.univ) $$ H4; iintro H4
  rw [wp_ret]; imodintro
  try dsimp only
  rw [wp_bind, k0_part28_eq_skeleton]; unfold k0_part28_skel
  simp only [Prog.lift, Prog.bind_op, Prog.bind_ret, Prog.pure_eq_ret]
  iapply (run_load 𝒱₀ (c : Thread nD τ) none Set.univ) $$ H5; iintro H5
  iapply (run_load 𝒱₀ (c : Thread nD τ) none Set.univ) $$ H9; iintro H9
  iapply (run_load 𝒱₀ (c : Thread nD τ) none Set.univ) $$ H8; iintro H8
  iapply (run_load 𝒱₀ (c : Thread nD τ) none Set.univ) $$ H8; iintro H8
  iapply (run_store 𝒱₀ (c : Thread nD τ) none Set.univ (X' := (st4 (envOf q k v u) i).1) (by rfl)) $$ H8; iintro H8
  iapply (run_load 𝒱₀ (c : Thread nD τ) none Set.univ) $$ H9; iintro H9
  iapply (run_store 𝒱₀ (c : Thread nD τ) none Set.univ (X' := (st4 (envOf q k v u) i).2) (by rfl)) $$ H9; iintro H9
  iapply (run_load 𝒱₀ (c : Thread nD τ) none Set.univ) $$ H3; iintro H3
  iapply (run_load 𝒱₀ (c : Thread nD τ) none Set.univ) $$ H4; iintro H4
  rw [wp_ret]; imodintro
  try dsimp only
  rw [wp_bind, k0_part29_eq_skeleton]; unfold k0_part29_skel
  simp only [Prog.lift, Prog.bind_op, Prog.bind_ret, Prog.pure_eq_ret]
  iapply (run_load 𝒱₀ (c : Thread nD τ) none Set.univ) $$ H5; iintro H5
  iapply (run_load 𝒱₀ (c : Thread nD τ) none Set.univ) $$ H9; iintro H9
  iapply (run_load 𝒱₀ (c : Thread nD τ) none Set.univ) $$ H8; iintro H8
  iapply (run_load 𝒱₀ (c : Thread nD τ) none Set.univ) $$ H8; iintro H8
  iapply (run_store 𝒱₀ (c : Thread nD τ) none Set.univ (X' := (st5 (envOf q k v u) i).1) (by rfl)) $$ H8; iintro H8
  iapply (run_load 𝒱₀ (c : Thread nD τ) none Set.univ) $$ H9; iintro H9
  iapply (run_store 𝒱₀ (c : Thread nD τ) none Set.univ (X' := (st5 (envOf q k v u) i).2) (by rfl)) $$ H9; iintro H9
  rw [wp_ret]; imodintro
  try dsimp only
  rw [wp_bind, k0_part30_eq_skeleton]; unfold k0_part30_skel
  simp only [Prog.lift, Prog.bind_op, Prog.bind_ret, Prog.pure_eq_ret]
  iapply (run_load 𝒱₀ (c : Thread nD τ) none Set.univ) $$ H3; iintro H3
  iapply (run_load 𝒱₀ (c : Thread nD τ) none Set.univ) $$ H4; iintro H4
  iapply (run_load 𝒱₀ (c : Thread nD τ) none Set.univ) $$ H5; iintro H5
  iapply (run_load 𝒱₀ (c : Thread nD τ) none Set.univ) $$ H9; iintro H9
  iapply (run_load 𝒱₀ (c : Thread nD τ) none Set.univ) $$ H8; iintro H8
  rw [wp_ret]; imodintro
  try dsimp only
  rw [wp_bind, k0_part31_eq_skeleton]; unfold k0_part31_skel
  simp only [Prog.lift, Prog.bind_op, Prog.bind_ret, Prog.pure_eq_ret]
  iapply (run_load 𝒱₀ (c : Thread nD τ) none Set.univ) $$ H8; iintro H8
  iapply (run_store 𝒱₀ (c : Thread nD τ) none Set.univ (X' := (st6 (envOf q k v u) i).1) (by rfl)) $$ H8; iintro H8
  iapply (run_load 𝒱₀ (c : Thread nD τ) none Set.univ) $$ H9; iintro H9
  iapply (run_store 𝒱₀ (c : Thread nD τ) none Set.univ (X' := (st6 (envOf q k v u) i).2) (by rfl)) $$ H9; iintro H9
  iapply (run_load 𝒱₀ (c : Thread nD τ) none Set.univ) $$ H3; iintro H3
  iapply (run_load 𝒱₀ (c : Thread nD τ) none Set.univ) $$ H4; iintro H4
  rw [wp_ret]; imodintro
  try dsimp only
  rw [wp_bind, k0_part32_eq_skeleton]; unfold k0_part32_skel
  simp only [Prog.lift, Prog.bind_op, Prog.bind_ret, Prog.pure_eq_ret]
  iapply (run_load 𝒱₀ (c : Thread nD τ) none Set.univ) $$ H5; iintro H5
  iapply (run_load 𝒱₀ (c : Thread nD τ) none Set.univ) $$ H9; iintro H9
  iapply (run_load 𝒱₀ (c : Thread nD τ) none Set.univ) $$ H8; iintro H8
  iapply (run_load 𝒱₀ (c : Thread nD τ) none Set.univ) $$ H8; iintro H8
  iapply (run_store 𝒱₀ (c : Thread nD τ) none Set.univ (X' := (st7 (envOf q k v u) i).1) (by rfl)) $$ H8; iintro H8
  iapply (run_load 𝒱₀ (c : Thread nD τ) none Set.univ) $$ H9; iintro H9
  iapply (run_store 𝒱₀ (c : Thread nD τ) none Set.univ (X' := (st7 (envOf q k v u) i).2) (by rfl)) $$ H9; iintro H9
  iapply (run_load 𝒱₀ (c : Thread nD τ) none Set.univ) $$ H3; iintro H3
  iapply (run_load 𝒱₀ (c : Thread nD τ) none Set.univ) $$ H4; iintro H4
  rw [wp_ret]; imodintro
  try dsimp only
  rw [wp_bind, k0_part33_eq_skeleton]; unfold k0_part33_skel
  simp only [Prog.lift, Prog.bind_op, Prog.bind_ret, Prog.pure_eq_ret]
  iapply (run_load 𝒱₀ (c : Thread nD τ) none Set.univ) $$ H5; iintro H5
  iapply (run_load 𝒱₀ (c : Thread nD τ) none Set.univ) $$ H9; iintro H9
  iapply (run_load 𝒱₀ (c : Thread nD τ) none Set.univ) $$ H8; iintro H8
  iapply (run_load 𝒱₀ (c : Thread nD τ) none Set.univ) $$ H8; iintro H8
  iapply (run_store 𝒱₀ (c : Thread nD τ) none Set.univ (X' := (st8 (envOf q k v u) i).1) (by rfl)) $$ H8; iintro H8
  iapply (run_load 𝒱₀ (c : Thread nD τ) none Set.univ) $$ H9; iintro H9
  iapply (run_store 𝒱₀ (c : Thread nD τ) none Set.univ (X' := (st8 (envOf q k v u) i).2) (by rfl)) $$ H9; iintro H9
  rw [wp_ret]; imodintro
  try dsimp only
  rw [wp_bind, k0_part34_eq_skeleton]; unfold k0_part34_skel
  simp only [Prog.lift, Prog.bind_op, Prog.bind_ret, Prog.pure_eq_ret]
  iapply (run_load 𝒱₀ (c : Thread nD τ) none Set.univ) $$ H3; iintro H3
  iapply (run_load 𝒱₀ (c : Thread nD τ) none Set.univ) $$ H4; iintro H4
  iapply (run_load 𝒱₀ (c : Thread nD τ) none Set.univ) $$ H5; iintro H5
  iapply (run_load 𝒱₀ (c : Thread nD τ) none Set.univ) $$ H9; iintro H9
  iapply (run_load 𝒱₀ (c : Thread nD τ) none Set.univ) $$ H8; iintro H8
  rw [wp_ret]; imodintro
  try dsimp only
  rw [wp_bind]
  iapply (run_part35 c i q k v u none x hw arg3 harg3 arg4 harg4 arg5 harg5 arg6 harg6 arg7 harg7 arg8 harg8 arg9 harg9 arg10 harg10 arg11 harg11 arg12 harg12 _)
  unfold ins sts
  isplitr [H7 Hk]
  · isplitl [H3 H4 H5 H6]
    · isplitl [H3]; · iexact H3
      isplitl [H4]; · iexact H4
      isplitl [H5]; · iexact H5
      iexact H6
    isplitl [H8 H9]
    · isplitl [H8]; · iexact H8
      iexact H9
    iexact Hx
  iintro ⟨Hi, Hs, Hx⟩
  dsimp only
  have hT := run_loop c i q k v u (live1 (envOf q k v u) i) (live2 (envOf q k v u) i) hw hchk hend arg3 harg3 arg4 harg4 arg5 harg5 arg6 harg6 arg7 harg7 arg8 harg8 arg9 harg9 arg10 harg10 arg11 harg11 arg12 harg12 3 1 rfl (go1 (envOf q k v u) i (sweep (envOf q k v u) i x hw)) (sweep (envOf q k v u) i x hw)
  iapply (wp_call_spec 𝒱₀ (c : Thread nD τ) none Set.univ (spec c q k v u (sweep (envOf q k v u) i x hw) (fin (envOf q k v u) i x hw) arg3 arg4 arg5 arg6 arg8 arg9 arg10 arg11 arg12) 3
    (fun w hw' => nomatch hw') hT)
  rw [spec_apply]; unfold ins sts
  isplitl [Hi Hs Hx]
  · isplitl [Hi]; · iexact Hi
    isplitl [Hs]; · iexact Hs
    iexact Hx
  iintro %r ⟨Hi, ⟨H8, H9⟩, Hx⟩
  iapply (run_load 𝒱₀ (c : Thread nD τ) none Set.univ) $$ H8; iintro H8
  iapply (run_load 𝒱₀ (c : Thread nD τ) none Set.univ) $$ H7; iintro H7
  iapply (run_store 𝒱₀ (c : Thread nD τ) none Set.univ (X' := outV (envOf q k v u) i x hw) (overlay_whole _ _ _)) $$ H7; iintro H7
  rw [wp_ret]; imodintro
  iapply Hk
  isplitl [Hi]; · iexact Hi
  isplitl [H8 H9]
  · isplitl [H8]; · iexact H8
    iexact H9
  isplitl [Hx]; · iexact Hx
  iexact H7

end Cert.Proof.SB.PI

end
-- ==== Proof.PI.Run.lean ====
/-
  The launch: every grid point runs, the argument ends as it was, and what each point writes back is one of the values
  that its body may leave.
-/
module

public import proofs.«01_k».proof.Proof.PI.Body
public import proofs.«01_k».proof.Proof.Gen.KernelIdeal.Points
public import Idealize.ShloMosaic.Lib.Pipeline.FrameBody
public import Idealize.ShloMosaic.Lib.Pipeline.ArrRel

@[expose] public section

set_option maxRecDepth 16384

noncomputable section

namespace Cert.Proof.SB.PI

open Cert.KernelIdeal Cert.KernelIdeal.Gen Cert.Proof.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [Named F]

local notation "𝕄" => MT nD τ sig Unit (Elt F) ℕ (UR sig nD τ) ℕ

/-! ## The offsets that the body computes from words stay in their arrays -/

set_option maxHeartbeats 4000000 in
/-- The sweep's key tiles lie in the keys, whenever it runs. -/
theorem chk1 : ∀ (i : grid0.Coords) (b : BitVec 1), k0_chk1 i b := by decide +kernel

set_option maxHeartbeats 4000000 in
/-- A group's key tiles lie in the keys, whenever the group is one of the block's. -/
theorem chk2 : ∀ (i : grid0.Coords) (j : Fin 4), Scalar.cmpi .slt (BitVec.ofNat 32 j.val) (BitVec.ofNat 32 (i 2).val) = 1#1 →
    k0_chk2 i (BitVec.ofNat 32 j.val) := by decide +kernel

/-- No block has more than four groups. -/
theorem no_fifth : ∀ i : grid0.Coords, ¬Scalar.cmpi .slt (BitVec.ofNat 32 4) (BitVec.ofNat 32 (i 2).val) = 1#1 := by decide +kernel

variable (m : (ℓ : Loc nD τ sig) → Buf (Elt F) ℓ) (g : Dev nD → PrngReg)

/-- The buffers when the kernel starts. -/
def V (c : Dev nD) (b : Ref sig .tc) : Buf (Elt F) ((c : Thread nD τ).loc b) := StableHlo.after hostOps0 (fun b => m (c, b)) b

/-- What a window's buffer holds at a point: its block of the array. -/
def blk (c : Dev nD) (w : Fin 5) (t : Fin grid0.N) : (win0 w).block.Idx → Elt F (win0 w).elt :=
  (win0 w).fill (grid0.coords t) (fun _ => Classical.arbitrary _) (((win0 w).blk t).view.read (Elt F) (V m c (Pipeline.arrRef spec0 w)))

/-- The point's operands. -/
def envAt (c : Dev nD) (t : Fin grid0.N) : Env F :=
  envOf (blk m c 0 t : Vec F S2048x128 .bf16) (blk m c 1 t : Vec F S8192x128 .bf16) (blk m c 2 t : Vec F S8192x128 .bf16) (blk m c 3 t : Vec F S256x256 .bf16)

/-- A value that the body may leave: what it computes from some slots. -/
def OutRel (e : Env F) (i : grid0.Coords) (X : Vec F S2048x128 .bf16) : Prop :=
  ∃ x : Sl F, X = outV e i x (chk1 i _)

/-- The launch's data: the operands are left as they are found, and the output's block at one of the body's values. -/
def rdat (c : Dev nD) : RDat τ (Elt F) Unit ℕ (UR sig nD τ) ℕ (cfg0 (F := F)) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => OutRel (envAt m c t) (grid0.coords t) X
  Φ _ := Pipeline.ΦA spec0 c
  q w := Pipeline.shareOf spec0 w
  owed _ := 0

/-! ## What the body finds -/

/-- An operand's buffer holds its block at every point. -/
theorem finds_in (c : Dev nD) (w : Fin 5) (hw : (win0 w).isOut = false) (hclip : ∀ i a, (win0 w).clip i a = none)
    (hkeep : ∀ t Y X, (rdat m c).after w t Y X → X = Y) (t : Fin grid0.N) (Y : (win0 w).block.Idx → Elt F (win0 w).elt)
    (h : (rdat m c).Finds w t Y) : Y = blk m c w t := by
  obtain ⟨d, hd⟩ := (rdat m c).finds_in_eq_fetched w hw
    (fun t t' _ => funext fun a => (hclip (grid0.coords t) a).trans (hclip (grid0.coords t') a).symm) hkeep t Y h
  rw [hd]
  exact Pipeline.fill_of_clip_none (cfg := cfg0 (F := F)) w (grid0.coords t) (hclip _) _ _ _

/-- Owning a whole buffer at contents `X` is its points-to at some contents equal to `X`. -/
theorem owns_whole_eq (c : Dev nD) (b : Ref sig .tc) (X : b.ty.Contents (Elt F)) :
    (owns (Ix := Unit) (Name := ℕ) (U := UR sig nD τ) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole buffer's points-to is its ownership. -/
theorem owns_of (c : Dev nD) (b : Ref sig .tc) (f : Buf (Elt F) ((c : Thread nD τ).loc b)) :
    ((((c : Thread nD τ).loc b) ↦{fullShare} f) : sProp 𝕄) ⊢ owns (c : Thread nD τ) (Memref.whole b) fullShare (show b.ty.Contents (Elt F) from f) := by
  rw [owns_whole_eq]
  iintro H; iexists f; isplitr; · (ipureintro; rfl)
  iexact H

theorem of_owns (c : Dev nD) (b : Ref sig .tc) (X : b.ty.Contents (Elt F)) :
    (owns (c : Thread nD τ) (Memref.whole b) fullShare X : sProp 𝕄) ⊢ iprop(∃ f : Buf (Elt F) ((c : Thread nD τ).loc b), (((c : Thread nD τ).loc b) ↦{fullShare} f)) := by
  rw [owns_whole_eq]
  iintro ⟨%f, -, H⟩; iexists f; iexact H

set_option maxHeartbeats 4000000 in
/-- Every point's body meets the launch's data. -/
theorem body_obligation (c : Dev nD) : (rdat m c).BodyObligation (defs₀ (F := F)) 𝒱₀ () Set.univ := fun t Y hY => by
  have h0 := finds_in m c 0 rfl (fun _ _ => rfl) (fun _ _ _ h => h) t (Y 0) (hY 0)
  have h1 := finds_in m c 1 rfl (fun _ _ => rfl) (fun _ _ _ h => h) t (Y 1) (hY 1)
  have h2 := finds_in m c 2 rfl (fun _ _ => rfl) (fun _ _ _ h => h) t (Y 2) (hY 2)
  have h3 := finds_in m c 3 rfl (fun _ _ => rfl) (fun _ _ _ h => h) t (Y 3) (hY 3)
  have hΦ : ∀ t', (rdat m c).Φ t' = Pipeline.ΦA spec0 c := fun _ => rfl
  have ho : (rdat m c).owesAt () t.succ = (rdat m c).owesAt () t.castSucc := rfl
  rw [bigSep_W0, bigSep_W0, hΦ, hΦ, ho]
  rw [h0, h1, h2, h3]
  unfold Pipeline.ΦA
  rw [scopedRest0_eq]
  sl_whnfR [defs₀, Defs.onTc]
  iintro ⟨⟨⟨⟨%f0, S0⟩, ⟨%f1, S1⟩, ⟨%f2, S2⟩, ⟨%f3, S3⟩, ⟨%f4, S4⟩⟩, Hg⟩, Howes, H0, H1, H2, H3, H4⟩
  ihave S0 := (owns_of c cc0_scratch0 f0) $$ S0
  ihave S1 := (owns_of c cc0_scratch1 f1) $$ S1
  ihave S2 := (owns_of c cc0_scratch2 f2) $$ S2
  ihave S3 := (owns_of c cc0_scratch3 f3) $$ S3
  ihave S4 := (owns_of c cc0_scratch4 f4) $$ S4
  iapply (run_body c (grid0.coords t) (blk m c 0 t) (blk m c 1 t) (blk m c 2 t) (blk m c 3 t) none rfl (Y 4) (f0, f1) ⟨f2, f3, f4⟩ (chk1 _ _)
    (fun j hj h => chk2 _ ⟨j, hj⟩ h) (no_fifth _))
  unfold ins sts sls
  isplitl [H0 H1 H2 H3 H4 S0 S1 S2 S3 S4]
  · isplitl [H0 H1 H2 H3]
    · isplitl [H0]; · iexact H0
      isplitl [H1]; · iexact H1
      isplitl [H2]; · iexact H2
      iexact H3
    isplitl [S0 S1]
    · isplitl [S0]; · iexact S0
      iexact S1
    isplitl [S2 S3 S4]
    · isplitl [S2]; · iexact S2
      isplitl [S3]; · iexact S3
      iexact S4
    iexact H4
  iintro ⟨⟨H0, H1, H2, H3⟩, ⟨S0, S1⟩, ⟨S2, S3, S4⟩, H4⟩
  isplitl [Hg S0 S1 S2 S3 S4]
  · isplitl [S0 S1 S2 S3 S4]
    · isplitl [S0]; · iapply (of_owns c cc0_scratch0); iexact S0
      isplitl [S1]; · iapply (of_owns c cc0_scratch1); iexact S1
      isplitl [S2]; · iapply (of_owns c cc0_scratch2); iexact S2
      isplitl [S3]; · iapply (of_owns c cc0_scratch3); iexact S3
      iapply (of_owns c cc0_scratch4); iexact S4
    iexact Hg
  isplitl [Howes]; · iexact Howes
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  iexists _; isplitr; swap; · iexact H4
  ipureintro; exact ⟨_, rfl⟩

/-! ## The run -/

/-- What the run ends in: every array at what the launch's data allow, the other buffers as the kernel found them, the
    counters at zero. -/
def Post (r : PUnit × MemSt nD τ sig (Elt F)) : Prop := RDat.FramePost (cfg0 (F := F)) (rdat m) (V m) r ∧ r.2.sem = fun _ => 0

/-- No host operation before the kernel makes a fresh name. -/
theorem hostOps0_fresh : (hostOps0 : List (HloOp τ sig (Elt F))).Forall fun op => op.fresh = ∅ := by
  simp only [List.forall_cons]; exact ⟨rfl, rfl, rfl, rfl, rfl, rfl, rfl, rfl, rfl, rfl, rfl, rfl, rfl, rfl, rfl, rfl, rfl, rfl, rfl, rfl, rfl, trivial⟩

/-- The argument is no window's array. -/
theorem arg_rest : main_arg0 ∈ Pipeline.restRefs sig spec0 := by decide

/-- The program runs, from any memory with zero counters. -/
theorem run_main : θ_run defs (onTc (τ := τ) (main (F := F))) ⟨m, fun _ => 0, g⟩ (Post m) :=
  RDat.θ_run_frame_track_shared cfgs 0 launch₀0 defs₀ 𝒱₀ (rdat m) m g main (body_obligation m) (fun _ _ _ => rfl) (fun _ _ => rfl) (V m)
    (Pipeline.hmain_prefix cfgs 0 defs₀ 𝒱₀ m main hostOps0 hostOps0_sub hostOps0_fresh main_chain) (fun _ _ => rfl)
    (fun _ => BI.Entails.refl _) (fun _ => BI.Entails.refl _) (Post m) (fun _ h => h)

/-- The argument is written by no host operation. -/
theorem V_arg (c : Dev nD) : V m c main_arg0 = m ((c : Thread nD τ).loc main_arg0) := by
  unfold V
  simp only [StableHlo.after_cons, StableHlo.after_nil]
  rfl

/-- The argument ends as it was, and the counters are at zero. -/
theorem frame : θ_run defs (onTc (τ := τ) (main (F := F))) ⟨m, fun _ => 0, g⟩ (fun r => (∀ c : Dev nD,
    r.2.mem ((c.tc : Thread nD τ).loc main_arg0) = m ((c.tc : Thread nD τ).loc main_arg0)) ∧ r.2.sem = fun _ => 0) :=
  (θ_run defs _ _).mono (fun _ h => ⟨fun c => ((h.1 c).2 main_arg0 arg_rest).trans (V_arg m c), h.2⟩) (run_main m g)

end Cert.Proof.SB.PI

end
-- ==== Proof.RefRun.lean ====
/-
  The reference's run: its operations in order, from any memory.
-/
module

public import proofs.«01_k».proof.Proof.Gen.ReferenceIdeal
public import Idealize.ShloMosaic.PureOps.Ideal
public import Idealize.ShloMosaic.Lib.Claim
public import Idealize.ShloMosaic.Lib.Quiescent

@[expose] public section

set_option maxRecDepth 16384

noncomputable section

namespace Cert.Proof.Ref

open Cert.ReferenceIdeal Cert.ReferenceIdeal.Gen
open Idealize.ShloMosaic Idealize.ShloMosaic.TcCoe Idealize.SL Idealize.SL.Sem

set_option maxHeartbeats 4000000 in
/-- The argument ends as it was, and the counters are at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)) ∧ r.2.sem = fun _ => 0) := by
  have h : θ_run (defs (F := Ideal)) (onTc (τ := τ) (main (F := Ideal))) ⟨m, fun _ => 0, g⟩ (fun r => ∀ c : Dev nD,
      r.2.mem ((c.tc : Thread nD τ).loc main_arg0) = m ((c.tc : Thread nD τ).loc main_arg0)) := by
    hlo_run
  exact (θ_run defs _ _).mono (fun r h => ⟨h, sem_eq_zero_of_no_sems rfl r.2⟩) h

end Cert.Proof.Ref

end
-- ==== Proof.Exact.lean ====
/-
  One tile over the real numbers: on operands that are real, the kernel's tile adds to each of its rows the tile's softplus
  sum and the tile's weighted values, the weights' exponents summed from the row's own carry.
-/
module

public import proofs.«01_k».proof.Proof.Tile
public import Idealize.ShloMosaic.Lib.MatmulPlain
public import Idealize.ShloMosaic.Lib.IdealHost
public import Idealize.ShloMosaic.Lib.Pointwise.SelectCore
public import Idealize.ShloMosaic.PureOps.Ideal.Laws

@[expose] public section

noncomputable section

namespace Cert.Proof.SB

open Idealize.ShloMosaic hiding ix1 ix2 ix3 ix4 ix5
open Idealize.ShloMosaic.ValueIdx
open scoped BigOperators

/-- A sum of real numbers is the same sum among the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A tile's logits are the real dot products. -/
theorem zT_real (n : ℕ) (q : Vec Ideal (Sh n) .bf16) (k : Vec Ideal (Sh 256) .bf16) (qr kr : ℕ → Fin 128 → ℝ)
    (hq : ∀ (r : Fin n) d, q (ix2 r d) = ((qr r d : ℝ) : EReal)) (hk : ∀ (j : Fin 256) d, k (ix2 j d) = ((kr j d : ℝ) : EReal))
    (r : Fin n) (j : Fin 256) : zT n q k (ix2 r j) = ((∑ d, qr r d * kr j d : ℝ) : EReal) := by
  unfold zT
  rw [shapeCast_self, shapeCast_self]
  refine (Ideal.matmul_transposedRhs_apply none q k _ r j).trans ?_
  rw [← coe_sum]
  have h0 : (constant (Sk n) .f32 0x00000000#32 : FVec Ideal (Sk n) .f32) (ix2 r j) = (0 : EReal) := Ideal.ofBits_zero_f32
  rw [h0, zero_add]
  refine Finset.sum_congr rfl fun d _ => ?_
  rw [hq, hk, EReal.coe_mul]

/-- The inverse of `log 2`. -/
abbrev ln2i : ℝ := (Real.log 2)⁻¹

/-- The softplus on the scale of powers of two. -/
def sp2 (t : ℝ) : ℝ := max t (Real.log (1 + (2 : ℝ) ^ t) * ln2i)

/-- The kernel's softplus of a real logit. -/
theorem spZ_real {s : Shape} (z : FVec Ideal s .f32) (j : s.Idx) (t : ℝ) (h : z j = ((t : ℝ) : EReal)) :
    spZ (F := Ideal) (⊤ : EReal) ((ln2i : ℝ) : EReal) z j = ((sp2 t : ℝ) : EReal) := by
  have hp : (0 : ℝ) < 1 + (2 : ℝ) ^ t := by positivity
  have e1 : spZ (F := Ideal) (⊤ : EReal) ((ln2i : ℝ) : EReal) z j
      = max (z j) (Ideal.log (Ideal.ofBits .f32 0x3F800000#32 + Ideal.exp2 (min (z j) ⊤)) * ((ln2i : ℝ) : EReal)) := rfl
  rw [e1, h, min_top_right, Ideal.exp2_coe, Ideal.ofBits_one_f32]
  have e2 : (1 : EReal) + ((Real.rpow 2 t : ℝ) : EReal) = ((1 + (2 : ℝ) ^ t : ℝ) : EReal) := by
    rw [EReal.coe_add, EReal.coe_one]; rfl
  rw [e2, Ideal.log_coe, if_neg (not_le.mpr hp), ← EReal.coe_mul, ← EReal.coe_strictMono.monotone.map_max]
  rfl

/-- What a mask lets through: key `j` of the tile for the tile's row `r`. -/
def MaskOk (n : ℕ) (m : Option (IVec (Sk n) 1)) (μ : ℕ → ℕ → Prop) : Prop :=
  match m with
  | none => ∀ (r : Fin n) (j : Fin 256), μ r j
  | some b => ∀ (r : Fin n) (j : Fin 256), b (ix2 r j) = 1#1 ↔ μ r j

open Classical in
theorem masked_real (n : ℕ) (m : Option (IVec (Sk n) 1)) (μ : ℕ → ℕ → Prop) (hm : MaskOk n m μ) (x : FVec Ideal (Sk n) .f32)
    (r : Fin n) (j : Fin 256) (t : ℝ) (h : x (ix2 r j) = ((t : ℝ) : EReal)) :
    masked m x (ix2 r j) = (((if μ r j then t else 0) : ℝ) : EReal) := by
  cases m with
  | none => rw [if_pos (hm r j)]; exact h
  | some b =>
    have e : masked (some b) x (ix2 r j) = if b (ix2 r j) = 1#1 then x (ix2 r j) else Ideal.ofBits .f32 0x00000000#32 := by
      show select b x (broadcast (Sk n) (Scalar.ofBits .f32 0x00000000#32)) (ix2 r j) = _
      rw [select_apply]; rfl
    rw [e, h, Ideal.ofBits_zero_f32]
    by_cases hb : b (ix2 r j) = 1#1
    · rw [if_pos hb, if_pos ((hm r j).mp hb)]
    · rw [if_neg hb, if_neg (fun h' => hb ((hm r j).mpr h')), EReal.coe_zero]

/-- The triangle sums over the later keys of the tile. -/
theorem exclT_real (n : ℕ) (u : Vec Ideal (Sk 256) .bf16) (hu : ∀ i j : Fin 256, u (ix2 i j) = (((if j < i then 1 else 0) : ℝ) : EReal))
    (spb : FVec Ideal (Sk n) .bf16) (f : ℕ → ℕ → ℝ) (h : ∀ (r : Fin n) (j : Fin 256), spb (ix2 r j) = ((f r j : ℝ) : EReal))
    (r : Fin n) (j : Fin 256) : exclT n u spb (ix2 r j) = ((∑ i : Fin 256, if j < i then f r i else 0 : ℝ) : EReal) := by
  unfold exclT
  rw [shapeCast_self]
  refine (Ideal.matmul_plain_apply none spb u _ r j).trans ?_
  rw [← coe_sum]
  have h0 : (constant (Sk n) .f32 0x00000000#32 : FVec Ideal (Sk n) .f32) (ix2 r j) = (0 : EReal) := Ideal.ofBits_zero_f32
  rw [h0, zero_add]
  refine Finset.sum_congr rfl fun d _ => ?_
  rw [hu, h, ← EReal.coe_mul]
  congr 1
  split_ifs <;> simp

/-- The carry's two copies side by side. -/
theorem cat_real (n : ℕ) (c : Vec Ideal (Sh n) .f32) (g : ℕ → ℝ) (hc : ∀ (r : Fin n) (d : Fin 128), c (ix2 r d) = ((g r : ℝ) : EReal))
    (r : Fin n) (j : Fin 256) : concatenate (Sk n) 1 [⟨Sh n, c⟩, ⟨Sh n, c⟩] (cat_ok n) (ix2 r j) = ((g r : ℝ) : EReal) := by
  rw [concatenate_pair_apply]
  have key : ∀ i : (Sh n).Idx, (i 0).val = r.val → c i = ((g r : ℝ) : EReal) := fun i hi => by
    have e : i = ix2 (i 0) (i 1) := by funext a; fin_cases a <;> rfl
    rw [e]
    refine (hc (i 0) (i 1)).trans ?_
    rw [hi]
  split_ifs
  · exact key _ rfl
  · exact key _ rfl

/-- A row's carry after a tile. -/
theorem carT_real (n : ℕ) (u : Vec Ideal (Sk 256) .bf16) (hu : ∀ i j : Fin 256, u (ix2 i j) = (((if j < i then 1 else 0) : ℝ) : EReal))
    (spb : FVec Ideal (Sk n) .bf16) (sp0 : FVec Ideal (Sh n) .f32) (c : Vec Ideal (Sh n) .f32) (f : ℕ → ℕ → ℝ) (g : ℕ → ℝ)
    (h : ∀ (r : Fin n) (j : Fin 256), spb (ix2 r j) = ((f r j : ℝ) : EReal))
    (h0 : ∀ (r : Fin n) , sp0 (ix2 r 0) = ((f r 0 : ℝ) : EReal))
    (hc : ∀ (r : Fin n) (d : Fin 128), c (ix2 r d) = ((g r : ℝ) : EReal)) (r : Fin n) (d : Fin 128) :
    carT n u spb sp0 c (ix2 r d) = ((g r + ∑ j : Fin 256, f r j : ℝ) : EReal) := by
  have e : carT n u spb sp0 c (ix2 r d) = c (ix2 r d) + (exclT n u spb (ix2 r 0) + sp0 (ix2 r 0)) := by
    unfold carT
    rw [shapeCast_self]
    show c (ix2 r d) + (broadcastTo (Sh n) _ (broad_col n) (ix2 r d)) = _
    rw [broadcastTo_apply _ _ _ (ix2 r 0) (by
      rintro ⟨_ | _ | _, ha⟩
      · show r.val = if n = 1 then 0 else r.val
        split_ifs with h1
        · have := r.isLt; omega
        · rfl
      · rfl
      · exact absurd ha (by show ¬ (_ < 2); omega))]
    show c (ix2 r d) + (extractStridedSlice (S1 n) ![0, 0] (exclT n u spb) (slice_col n) (ix2 r 0) + extractStridedSlice (S1 n) ![0, 0] sp0 (slice_lane n) (ix2 r 0)) = _
    rw [extractStridedSlice_apply _ _ _ _ (ix2 r (0 : Fin 256)) (by
      rintro ⟨_ | _ | _, ha⟩
      · show r.val = 0 + r.val; omega
      · rfl
      · exact absurd ha (by show ¬ (_ < 2); omega))]
    rw [extractStridedSlice_apply _ _ _ _ (ix2 r (0 : Fin 128)) (by
      rintro ⟨_ | _ | _, ha⟩
      · show r.val = 0 + r.val; omega
      · rfl
      · exact absurd ha (by show ¬ (_ < 2); omega))]
  rw [e, hc, exclT_real n u hu spb f h, h0, ← EReal.coe_add, ← EReal.coe_add]
  congr 2
  have e2 : ∀ i : Fin 256, (if (0 : Fin 256) < i then f r i else 0) = f r i - if i = 0 then f r 0 else 0 := fun i => by
    by_cases hi : i = 0
    · subst hi; rw [if_neg (lt_irrefl _), if_pos rfl]; exact (sub_self _).symm
    · rw [if_pos (Fin.pos_iff_ne_zero.mpr hi), if_neg hi, sub_zero]
  rw [Finset.sum_congr rfl fun i _ => e2 i, Finset.sum_sub_distrib, Finset.sum_ite_eq' Finset.univ (0 : Fin 256), if_pos (Finset.mem_univ _), sub_add_cancel]

open Classical in
/-- A row's accumulator after a tile. -/
theorem accT_real (n : ℕ) (m : Option (IVec (Sk n) 1)) (μ : ℕ → ℕ → Prop) (hm : MaskOk n m μ) (u : Vec Ideal (Sk 256) .bf16)
    (hu : ∀ i j : Fin 256, u (ix2 i j) = (((if j < i then 1 else 0) : ℝ) : EReal))
    (ls : FVec Ideal (Sk n) .f32) (spb : FVec Ideal (Sk n) .bf16) (v : Vec Ideal (Sh 256) .bf16) (c a : Vec Ideal (Sh n) .f32)
    (l f : ℕ → ℕ → ℝ) (g : ℕ → ℝ) (vr ar : ℕ → Fin 128 → ℝ)
    (hl : ∀ (r : Fin n) (j : Fin 256), ls (ix2 r j) = ((l r j : ℝ) : EReal))
    (h : ∀ (r : Fin n) (j : Fin 256), spb (ix2 r j) = ((f r j : ℝ) : EReal))
    (hv : ∀ (j : Fin 256) d, v (ix2 j d) = ((vr j d : ℝ) : EReal))
    (hc : ∀ (r : Fin n) (d : Fin 128), c (ix2 r d) = ((g r : ℝ) : EReal))
    (ha : ∀ (r : Fin n) (d : Fin 128), a (ix2 r d) = ((ar r d : ℝ) : EReal)) (r : Fin n) (d : Fin 128) :
    accT n m u ls spb v c a (ix2 r d)
      = ((ar r d + ∑ j : Fin 256, (if μ r j then (2 : ℝ) ^ (l r j - g r - ∑ i : Fin 256, if j < i then f r i else 0) else 0) * vr j d : ℝ) : EReal) := by
  unfold accT
  rw [shapeCast_self, shapeCast_self]
  refine (congrArg (a (ix2 r d) + ·) (Ideal.matmul_plain_apply none _ v _ r d)).trans ?_
  have h0 : (constant (Sh n) .f32 0x00000000#32 : FVec Ideal (Sh n) .f32) (ix2 r d) = (0 : EReal) := Ideal.ofBits_zero_f32
  rw [h0, zero_add, ha, EReal.coe_add, ← coe_sum]
  congr 1
  refine Finset.sum_congr rfl fun j _ => ?_
  rw [EReal.coe_mul, hv]
  congr 1
  refine masked_real n m μ hm _ r j _ ?_
  show Ideal.exp2 (ls (ix2 r j) - concatenate (Sk n) 1 [⟨Sh n, c⟩, ⟨Sh n, c⟩] (cat_ok n) (ix2 r j) - exclT n u spb (ix2 r j)) = _
  rw [hl, cat_real n c g hc, exclT_real n u hu spb f h, ← EReal.coe_sub, ← EReal.coe_sub, Ideal.exp2_coe]
  rfl

/-! ### A tile on a block's rows -/

theorem ld_rows {α : EltTy} (X : Vec Ideal (Sh 2048) α) (n r : ℕ) (h : ∀ a, ![r, 0] a + (Sh n).size a ≤ (Sh 2048).size a) (ρ : Fin n) (d : Fin 128)
    (R : Fin 2048) (hR : R.val = r + ρ.val) : View.ld X (rows n r h) (ix2 ρ d) = X (ix2 R d) := by
  show X ((rows n r h).emb (ix2 ρ d)) = X (ix2 R d)
  congr 1
  funext a
  apply Fin.ext
  fin_cases a
  · show r + 1 * ρ.val = R.val; omega
  · show 0 + 1 * d.val = d.val; omega

theorem ld_keys {α : EltTy} (X : Vec Ideal (Sh 8192) α) (o : Fin 2 → ℕ) (h : ∀ a, o a + (Sh 256).size a ≤ (Sh 8192).size a) (h1 : o 1 = 0)
    (j : Fin 256) (d : Fin 128) (J : Fin 8192) (hJ : J.val = o 0 + j.val) : View.ld X (keys o h) (ix2 j d) = X (ix2 J d) := by
  show X ((keys o h).emb (ix2 j d)) = X (ix2 J d)
  congr 1
  funext a
  apply Fin.ext
  fin_cases a
  · show o 0 + 1 * j.val = J.val; omega
  · show o 1 + 1 * d.val = d.val; omega

theorem overlay_rows {α : Type} (n r : ℕ) (h : ∀ a, ![r, 0] a + (Sh n).size a ≤ (Sh 2048).size a) (X : (Sh 2048).Idx → α) (G : (Sh n).Idx → α)
    (ρ : Fin n) (d : Fin 128) (R : Fin 2048) (hR : R.val = r + ρ.val) : (rows n r h).overlay X G (ix2 R d) = G (ix2 ρ d) := by
  have e : ix2 R d = (rows n r h).emb (ix2 ρ d) := by
    funext a
    apply Fin.ext
    fin_cases a
    · show R.val = r + 1 * ρ.val; omega
    · show d.val = 0 + 1 * d.val; omega
  rw [e]
  exact Rect.overlay_emb _ _ _ _

theorem idx_lt0 (n : ℕ) (i : (Sh n).Idx) : (i 0).val < n := (i 0).isLt

theorem overlay_rows_out {α : Type} (n r : ℕ) (h : ∀ a, ![r, 0] a + (Sh n).size a ≤ (Sh 2048).size a) (X : (Sh 2048).Idx → α) (G : (Sh n).Idx → α)
    (d : Fin 128) (R : Fin 2048) (hR : ¬ (r ≤ R.val ∧ R.val < r + n)) : (rows n r h).overlay X G (ix2 R d) = X (ix2 R d) := by
  unfold Rect.overlay
  rw [preimage?_eq_none fun i hi => hR ?_]
  have h0 : r + 1 * (i 0).val = R.val := congrArg (fun k : (Sh 2048).Idx => (k 0).val) hi
  have := idx_lt0 n i
  omega

/-- Real queries, keys and values. -/
structure REnv where
  q : ℕ → Fin 128 → ℝ
  k : ℕ → Fin 128 → ℝ
  v : ℕ → Fin 128 → ℝ

/-- The logit of row `r` at key `j`, -/
def REnv.z (x : REnv) (r j : ℕ) : ℝ := ∑ d, x.q r d * x.k j d
/-- and its softplus. -/
def REnv.sp (x : REnv) (r j : ℕ) : ℝ := sp2 (x.z r j)

/-- The operands are these real numbers, the triangle is the strict lower one, the constants are the exact ones. -/
structure EnvOk (e : Env Ideal) (x : REnv) : Prop where
  q : ∀ (r : Fin 2048) d, e.q (ix2 r d) = ((x.q r d : ℝ) : EReal)
  k : ∀ (j : Fin 8192) d, e.k (ix2 j d) = ((x.k j d : ℝ) : EReal)
  v : ∀ (j : Fin 8192) d, e.v (ix2 j d) = ((x.v j d : ℝ) : EReal)
  u : ∀ i j : Fin 256, e.u (ix2 i j) = (((if j < i then 1 else 0) : ℝ) : EReal)
  cm : e.cm = (⊤ : EReal)
  ci : e.ci = ((ln2i : ℝ) : EReal)

/-- The carry's rows are `c` in every lane, the accumulator's are `a`. -/
def StOk (s : St Ideal) (c : ℕ → ℝ) (a : ℕ → Fin 128 → ℝ) : Prop :=
  ∀ (r : Fin 2048) (d : Fin 128), s.2 (ix2 r d) = ((c r : ℝ) : EReal) ∧ s.1 (ix2 r d) = ((a r d : ℝ) : EReal)

section

variable {e : Env Ideal} {x : REnv} (he : EnvOk e x) (n r : ℕ) (h : ∀ a, ![r, 0] a + (Sh n).size a ≤ (Sh 2048).size a)
  (o : Fin 2 → ℕ) (ho : ∀ a, o a + (Sh 256).size a ≤ (Sh 8192).size a) (h1 : o 1 = 0)

include he h1

theorem tile_z (ρ : Fin n) (j : Fin 256) :
    zT n (View.ld e.q (rows n r h)) (View.ld e.k (keys o ho)) (ix2 ρ j) = ((x.z (r + ρ) (o 0 + j) : ℝ) : EReal) := by
  have hn : r + n ≤ 2048 := h 0
  have hk : o 0 + 256 ≤ 8192 := ho 0
  refine zT_real n _ _ (fun ρ => x.q (r + ρ)) (fun j => x.k (o 0 + j)) (fun ρ d => ?_) (fun j d => ?_) ρ j
  · rw [ld_rows e.q n r h ρ d ⟨r + ρ, by omega⟩ rfl, he.q]
  · rw [ld_keys e.k o ho h1 j d ⟨o 0 + j, by omega⟩ rfl, he.k]

theorem tile_sp (ρ : Fin n) (j : Fin 256) :
    spZ e.cm e.ci (zT n (View.ld e.q (rows n r h)) (View.ld e.k (keys o ho))) (ix2 ρ j) = ((x.sp (r + ρ) (o 0 + j) : ℝ) : EReal) := by
  rw [he.cm, he.ci]
  exact spZ_real _ _ _ (tile_z he n r h o ho h1 ρ j)

theorem tile_ls (ρ : Fin n) (j : Fin 256) :
    lsT e.cm e.ci n (View.ld e.q (rows n r h)) (View.ld e.k (keys o ho)) (ix2 ρ j) = ((x.z (r + ρ) (o 0 + j) - x.sp (r + ρ) (o 0 + j) : ℝ) : EReal) := by
  show zT n (View.ld e.q (rows n r h)) (View.ld e.k (keys o ho)) (ix2 ρ j) - spZ e.cm e.ci (zT n (View.ld e.q (rows n r h)) (View.ld e.k (keys o ho))) (ix2 ρ j) = _
  rw [tile_z he n r h o ho h1, tile_sp he n r h o ho h1, EReal.coe_sub]

variable (m : Option (IVec (Sk n) 1)) (μ : ℕ → ℕ → Prop) (hm : MaskOk n m μ)
include hm

open Classical in
theorem tile_spM (ρ : Fin n) (j : Fin 256) :
    spM e.cm e.ci n m (View.ld e.q (rows n r h)) (View.ld e.k (keys o ho)) (ix2 ρ j) = (((if μ ρ j then x.sp (r + ρ) (o 0 + j) else 0) : ℝ) : EReal) :=
  masked_real n m μ hm _ ρ j _ (tile_sp he n r h o ho h1 ρ j)

open Classical in
/-- A tile's rows gain the tile's sums, the other rows keep theirs. -/
theorem tile_real (s : St Ideal) (c : ℕ → ℝ) (a : ℕ → Fin 128 → ℝ) (hs : StOk s c a) :
    StOk (tile e n r h m o ho s)
      (fun R => if r ≤ R ∧ R < r + n then c R + ∑ j : Fin 256, (if μ (R - r) j then x.sp R (o 0 + j) else 0) else c R)
      (fun R d => if r ≤ R ∧ R < r + n then a R d + ∑ j : Fin 256, (if μ (R - r) j then (2 : ℝ) ^ (x.z R (o 0 + j) - x.sp R (o 0 + j) - c R
        - ∑ i : Fin 256, if j < i then (if μ (R - r) i then x.sp R (o 0 + i) else 0) else 0) else 0) * x.v (o 0 + j) d else a R d) := by
  have hn : r + n ≤ 2048 := h 0
  have hk : o 0 + 256 ≤ 8192 := ho 0
  intro R d
  by_cases hR : r ≤ R.val ∧ R.val < r + n
  · obtain ⟨ρ, hρ⟩ : ∃ ρ : Fin n, R.val = r + ρ.val := ⟨⟨R.val - r, by omega⟩, by show R.val = r + (R.val - r); omega⟩
    have hsub : R.val - r = ρ.val := by omega
    have hc : ∀ (ρ : Fin n) (d : Fin 128), View.ld s.2 (rows n r h) (ix2 ρ d) = ((c (r + ρ) : ℝ) : EReal) := fun ρ d => by
      rw [ld_rows s.2 n r h ρ d ⟨r + ρ, by omega⟩ rfl]; exact (hs _ d).1
    have ha : ∀ (ρ : Fin n) (d : Fin 128), View.ld s.1 (rows n r h) (ix2 ρ d) = ((a (r + ρ) d : ℝ) : EReal) := fun ρ d => by
      rw [ld_rows s.1 n r h ρ d ⟨r + ρ, by omega⟩ rfl]; exact (hs _ d).2
    have hspb : ∀ (ρ : Fin n) (j : Fin 256), spbT e.cm e.ci n m (View.ld e.q (rows n r h)) (View.ld e.k (keys o ho)) (ix2 ρ j)
        = (((if μ ρ j then x.sp (r + ρ) (o 0 + j) else 0) : ℝ) : EReal) := tile_spM he n r h o ho h1 m μ hm
    simp only [if_pos hR]
    constructor
    · show (rows n r h).overlay s.2 _ (ix2 R d) = _
      rw [overlay_rows n r h _ _ ρ d R hρ,
        carT_real n e.u he.u _ _ _ (fun ρ j => if μ ρ j then x.sp (r + ρ) (o 0 + j) else 0) (fun ρ => c (r + ρ))
          hspb (fun ρ => ?_) hc ρ d]
      · rw [hsub, hρ]
      · show extractStridedSlice (Sh n) ![0, 0] (spM e.cm e.ci n m (View.ld e.q (rows n r h)) (View.ld e.k (keys o ho))) (slice_half n) (ix2 ρ 0) = _
        rw [extractStridedSlice_apply _ _ _ _ (ix2 ρ (0 : Fin 256)) (by
          rintro ⟨_ | _ | _, ha⟩
          · show ρ.val = 0 + ρ.val; omega
          · rfl
          · exact absurd ha (by show ¬ (_ < 2); omega))]
        exact tile_spM he n r h o ho h1 m μ hm ρ 0
    · show (rows n r h).overlay s.1 _ (ix2 R d) = _
      rw [overlay_rows n r h _ _ ρ d R hρ,
        accT_real n m μ hm e.u he.u _ _ _ _ _ (fun ρ j => x.z (r + ρ) (o 0 + j) - x.sp (r + ρ) (o 0 + j))
          (fun ρ j => if μ ρ j then x.sp (r + ρ) (o 0 + j) else 0) (fun ρ => c (r + ρ)) (fun j => x.v (o 0 + j)) (fun ρ => a (r + ρ))
          (tile_ls he n r h o ho h1) hspb (fun j d => ?_) hc ha ρ d]
      · rw [hsub, hρ]
      · rw [ld_keys e.v o ho h1 j d ⟨o 0 + j, by omega⟩ rfl, he.v]
  · simp only [if_neg hR]
    constructor
    · show (rows n r h).overlay s.2 _ (ix2 R d) = _
      rw [overlay_rows_out n r h _ _ d R hR]; exact (hs R d).1
    · show (rows n r h).overlay s.1 _ (ix2 R d) = _
      rw [overlay_rows_out n r h _ _ d R hR]; exact (hs R d).2

end

end Cert.Proof.SB

end
-- ==== Proof.Frontier.lean ====
/-
  The kernel's state as a frontier: a row whose keys from some key on have been taken holds the softplus sum of those keys
  and their weighted values. A tile lying just before the frontier moves it back by the tile's 256 keys.
-/
module

public import proofs.«01_k».proof.Proof.Exact

@[expose] public section

noncomputable section

namespace Cert.Proof.SB

open Idealize.ShloMosaic hiding ix1 ix2 ix3 ix4 ix5
open Idealize.ShloMosaic.ValueIdx
open scoped BigOperators

/-- A tile's sum over the keys a condition lets through is a sum over those keys. -/
theorem sum_keys (o : ℕ) (P : ℕ → Prop) [DecidablePred P] (f : ℕ → ℝ) :
    ∑ j : Fin 256, (if P (o + j) then f (o + j) else 0) = ∑ i ∈ (Finset.Ico o (o + 256)).filter P, f i := by
  rw [Finset.sum_filter, Finset.sum_Ico_eq_sum_range, Nat.add_sub_cancel_left, Finset.sum_range]

/-- The weight of key `j` in the row whose first hidden key is `T`. -/
def REnv.wt (x : REnv) (T r j : ℕ) : ℝ := (2 : ℝ) ^ (x.z r j - x.sp r j - ∑ i ∈ Finset.Ioo j T, x.sp r i)

/-- The softplus sum of the keys from `f` to `T`, -/
def REnv.car (x : REnv) (T f r : ℕ) : ℝ := ∑ j ∈ Finset.Ico f T, x.sp r j
/-- and their weighted values. -/
def REnv.acc (x : REnv) (T f r : ℕ) (d : Fin 128) : ℝ := ∑ j ∈ Finset.Ico f T, x.wt T r j * x.v j d

/-- Row `r` of the block that starts at key `B` has taken its keys from `fr r` on. -/
def Inv (x : REnv) (B : ℕ) (fr : ℕ → ℕ) (s : St Ideal) : Prop :=
  StOk s (fun r => x.car (B + r) (fr r) r) (fun r d => x.acc (B + r) (fr r) r d)

theorem Inv.congr {x : REnv} {B : ℕ} {fr fr' : ℕ → ℕ} {s : St Ideal} (hs : Inv x B fr s)
    (h : ∀ r, r < 2048 → Finset.Ico (fr r) (B + r) = Finset.Ico (fr' r) (B + r)) : Inv x B fr' s := by
  intro r d
  have := hs r d
  simp only [REnv.car, REnv.acc] at this ⊢
  rw [← h r r.isLt]
  exact this

/-- **A tile's step.** The rows `r … r + n` stand at the tile's end, and its mask lets through what lies before the row. -/
theorem Inv.tile {e : Env Ideal} {x : REnv} (he : EnvOk e x) {B : ℕ} {fr : ℕ → ℕ} {s : St Ideal} (hs : Inv x B fr s)
    (n r : ℕ) (h : ∀ a, ![r, 0] a + (Sh n).size a ≤ (Sh 2048).size a) (m : Option (IVec (Sk n) 1))
    (o : Fin 2 → ℕ) (ho : ∀ a, o a + (Sh 256).size a ≤ (Sh 8192).size a) (h1 : o 1 = 0) (O : ℕ) (hO : o 0 = O)
    (hm : MaskOk n m (fun ρ j => O + j < B + (r + ρ)))
    (hf : ∀ R, r ≤ R → R < r + n → fr R = O + 256 ∨ (B + R ≤ fr R ∧ B + R ≤ O + 256)) (fr' : ℕ → ℕ)
    (hin : ∀ R, r ≤ R → R < r + n → fr' R = O) (hout : ∀ R, R < 2048 → ¬ (r ≤ R ∧ R < r + n) → fr' R = fr R) :
    Inv x B fr' (SB.tile e n r h m o ho s) := by
  subst hO
  have ht := tile_real he n r h o ho h1 m _ hm s _ _ hs
  intro R d
  have hRd := ht R d
  by_cases hR : r ≤ R.val ∧ R.val < r + n
  · simp only [if_pos hR] at hRd
    have hsub : r + (R.val - r) = R.val := by omega
    simp only [hsub] at hRd
    have hfr : fr' R.val = o 0 := hin R hR.1 hR.2
    have hcase := hf R hR.1 hR.2
    simp only [hfr]
    generalize R.val = ρ at hRd hcase hfr ⊢
    generalize hT : B + ρ = T at *
    have hIco : Finset.Ico (fr ρ) T = Finset.Ico (o 0 + 256) T := by
      ext i; simp only [Finset.mem_Ico]; omega
    have split : ∀ f : ℕ → ℝ, ∑ j ∈ Finset.Ico (fr ρ) T, f j + ∑ i ∈ (Finset.Ico (o 0) (o 0 + 256)).filter (· < T), f i
        = ∑ j ∈ Finset.Ico (o 0) T, f j := fun f => by
      rw [hIco, ← Finset.sum_union]
      · congr 1
        ext i; simp only [Finset.mem_union, Finset.mem_Ico, Finset.mem_filter]; omega
      · rw [Finset.disjoint_left]; intro i; simp only [Finset.mem_Ico, Finset.mem_filter]; omega
    refine ⟨hRd.1.trans ?_, hRd.2.trans ?_⟩
    · congr 1
      unfold REnv.car
      rw [← split (fun j => x.sp ρ j), ← sum_keys (o 0) (· < T) (fun j => x.sp ρ j)]
    · congr 1
      unfold REnv.acc
      rw [← split (fun j => x.wt T ρ j * x.v j d), ← sum_keys (o 0) (· < T) (fun j => x.wt T ρ j * x.v j d)]
      congr 1
      refine Finset.sum_congr rfl fun j _ => ?_
      by_cases hj : o 0 + j.val < T
      · rw [if_pos hj, if_pos hj]
        congr 1
        unfold REnv.wt REnv.car
        congr 1
        rw [sub_sub (x.z ρ (o 0 + j) - x.sp ρ (o 0 + j))]
        congr 1
        have e1 : (∑ i : Fin 256, if j < i then (if o 0 + i.val < T then x.sp ρ (o 0 + i.val) else 0) else 0)
            = ∑ i ∈ (Finset.Ico (o 0) (o 0 + 256)).filter (fun i => o 0 + j < i ∧ i < T), x.sp ρ i := by
          rw [← sum_keys (o 0) (fun i => o 0 + j < i ∧ i < T) (fun i => x.sp ρ i)]
          refine Finset.sum_congr rfl fun i _ => ?_
          by_cases h1 : j < i
          · have h1' : j.val < i.val := h1
            by_cases h2 : o 0 + i.val < T
            · rw [if_pos h1, if_pos h2, if_pos ⟨by omega, h2⟩]
            · rw [if_pos h1, if_neg h2, if_neg (fun h => h2 h.2)]
          · have h1' : ¬ j.val < i.val := h1
            rw [if_neg h1, if_neg (fun h => h1' (by have := h.1; omega))]
        have e3 : (∑ j ∈ Finset.Ico (fr ρ) T, x.sp ρ j) + ∑ i ∈ (Finset.Ico (o 0) (o 0 + 256)).filter (fun i => o 0 + j < i ∧ i < T), x.sp ρ i
            = ∑ i ∈ Finset.Ioo (o 0 + j.val) T, x.sp ρ i := by
          rw [hIco, ← Finset.sum_union]
          · congr 1
            have := j.isLt
            ext i; simp only [Finset.mem_union, Finset.mem_Ico, Finset.mem_Ioo, Finset.mem_filter]; omega
          · rw [Finset.disjoint_left]; intro i; simp only [Finset.mem_Ico, Finset.mem_filter]; omega
        rw [← e3, ← e1]
      · rw [if_neg hj, if_neg hj, zero_mul]
  · simp only [if_neg hR] at hRd
    have hfr : fr' R.val = fr R.val := hout R R.isLt hR
    simp only [hfr]
    exact hRd

/-! ### The sweep's positions -/

/-- What slot `p` holds, a row of `n` lanes for each of the block's rows. -/
def slotVal {α : EltTy} (n p : ℕ) (hp : p < 2) (X : Vec Ideal (S2k n) α) : Vec Ideal ⟨2, ![2048, n]⟩ α :=
  shapeCast ⟨2, ![2048, n]⟩ (View.ld X (slot n p hp)) (casts_out n)

/-- Slot `p` with one value put into it. -/
def slotPut {α : EltTy} (n p : ℕ) (hp : p < 2) (X : Vec Ideal (S2k n) α) (G : Vec Ideal ⟨2, ![2048, n]⟩ α) : Vec Ideal (S2k n) α :=
  (slot n p hp).overlay X (shapeCast (S1k n) G (casts_in n))

/-- Slot `p` holds the logits of the keys from `O` on. -/
def Primed (e : Env Ideal) (p : ℕ) (hp : p < 2) (O : ℕ) (y : Sl Ideal) : Prop :=
  ∃ (o : Fin 2 → ℕ) (ho : ∀ a, o a + (Sh 256).size a ≤ (Sh 8192).size a), o 0 = O ∧ o 1 = 0 ∧
    slotVal (α := .f32) 256 p hp y.ls = lsT e.cm e.ci 2048 (View.ld e.q allRows) (View.ld e.k (keys o ho)) ∧
    slotVal (α := .bf16) 256 p hp y.sb = spbT e.cm e.ci 2048 none (View.ld e.q allRows) (View.ld e.k (keys o ho)) ∧
    slotVal (α := .f32) 128 p hp y.s0 = sp0T e.cm e.ci 2048 none (View.ld e.q allRows) (View.ld e.k (keys o ho))

theorem ld_overlay {S : Shape} {α : EltTy} (r : Rect S) (X : Vec Ideal S α) (G : Vec Ideal r.shape α) : View.ld (r.overlay X G) r = G :=
  funext fun i => Rect.overlay_emb r X G i

theorem cast_slot (n p : ℕ) (hp : p < 2) {α : EltTy} (X : Vec Ideal (S2k n) α) (G : Vec Ideal ⟨2, ![2048, n]⟩ α) :
    slotVal n p hp (slotPut n p hp X G) = G := by
  refine (congrArg (fun w : Vec Ideal (S1k n) α => shapeCast ⟨2, ![2048, n]⟩ w (casts_out n)) (ld_overlay (slot n p hp) X (shapeCast (S1k n) G (casts_in n)))).trans ?_
  show shapeCast ⟨2, ![2048, n]⟩ (shapeCast (S1k n) G (casts_in n)) (casts_out n) = G
  rw [shapeCast_shapeCast]

/-- Putting logits into a slot primes it. -/
theorem primed_lgts (e : Env Ideal) (p : ℕ) (hp : p < 2) (o : Fin 2 → ℕ) (ho : ∀ a, o a + (Sh 256).size a ≤ (Sh 8192).size a) (y : Sl Ideal)
    (O : ℕ) (hO : o 0 = O) (h1 : o 1 = 0) : Primed e p hp O (lgts e p hp o ho y) :=
  by
  refine ⟨o, ho, hO, h1, ?_⟩
  have e0 : lgts e p hp o ho y = ⟨slotPut (α := .f32) 256 p hp y.ls (lsT e.cm e.ci 2048 (View.ld e.q allRows) (View.ld e.k (keys o ho))),
    slotPut (α := .bf16) 256 p hp y.sb (spbT e.cm e.ci 2048 none (View.ld e.q allRows) (View.ld e.k (keys o ho))),
    slotPut (α := .f32) 128 p hp y.s0 (sp0T e.cm e.ci 2048 none (View.ld e.q allRows) (View.ld e.k (keys o ho)))⟩ := rfl
  rw [e0]
  dsimp only
  rw [cast_slot, cast_slot, cast_slot]
  exact ⟨rfl, rfl, rfl⟩

/-- A position on a primed slot is the tile itself. -/
theorem posT_primed (e : Env Ideal) (p : ℕ) (hp : p < 2) (o : Fin 2 → ℕ) (ho : ∀ a, o a + (Sh 256).size a ≤ (Sh 8192).size a) (s : St Ideal)
    (y : Sl Ideal) (O : ℕ) (hO : o 0 = O) (h1 : o 1 = 0) (hy : Primed e p hp O y) :
    posT e p hp o ho s y = SB.tile e 2048 0 whole_inb none o ho s := by
  obtain ⟨o', ho', hO', h1', e1, e2, e3⟩ := hy
  have : o' = o := by
    funext a; fin_cases a
    · exact hO'.trans hO.symm
    · exact h1'.trans h1.symm
  subst this
  have e0 : posT e p hp o' ho s y = (allRows.overlay s.1 (accT 2048 none e.u (slotVal (α := .f32) 256 p hp y.ls)
      (slotVal (α := .bf16) 256 p hp y.sb) (View.ld e.v (keys o' ho)) (View.ld s.2 allRows) (View.ld s.1 allRows)),
    allRows.overlay s.2 (carT 2048 e.u (slotVal (α := .bf16) 256 p hp y.sb) (slotVal (α := .f32) 128 p hp y.s0) (View.ld s.2 allRows))) := rfl
  rw [e0, e1, e2, e3]
  rfl

/-- The state stands at `T` in every row, and slot `p` holds the tile before. -/
def At (e : Env Ideal) (x : REnv) (B : ℕ) (p : ℕ) (hp : p < 2) (T : ℕ) (y : St Ideal × Sl Ideal) : Prop :=
  Inv x B (fun _ => T) y.1 ∧ (256 ≤ T → Primed e p hp (T - 256) y.2)

/-- **A position of the sweep** moves every row back by one tile. -/
theorem At.half {e : Env Ideal} {x : REnv} (he : EnvOk e x) {B p p' : ℕ} {hp : p < 2} {hp' : p' < 2} {T : ℕ} {y : St Ideal × Sl Ideal} (hy : At e x B p hp T y)
    (hT : 256 ≤ T) (hB : T ≤ B) (o o' : Fin 2 → ℕ) (ho : ∀ a, o a + (Sh 256).size a ≤ (Sh 8192).size a)
    (ho' : ∀ a, o' a + (Sh 256).size a ≤ (Sh 8192).size a) (h0 : o 0 = T - 256) (h1 : o 1 = 0) (h0' : 512 ≤ T → o' 0 = T - 512) (h1' : o' 1 = 0) :
    At e x B p' hp' (T - 256) (half e p p' hp hp' o o' ho ho' y) := by
  refine ⟨?_, fun h => primed_lgts e p' hp' o' ho' y.2 _ (by rw [h0' (by omega)]; omega) h1'⟩
  show Inv x B _ (posT e p hp o ho y.1 y.2)
  rw [posT_primed e p hp o ho y.1 y.2 _ h0 h1 (hy.2 hT)]
  refine hy.1.tile he 2048 0 whole_inb none o ho h1 _ h0 ?_ ?_ _ ?_ ?_
  · intro r j
    have := j.isLt
    omega
  · intro R _ _; left; omega
  · intro R _ _; rfl
  · intro R hR h; omega

end Cert.Proof.SB

end
-- ==== Proof.PI.Offsets.lean ====
/-
  Where the kernel's tiles lie: the offsets the program computes at a grid point, in keys.
-/
module

public import proofs.«01_k».proof.Proof.PI.State

@[expose] public section

set_option maxRecDepth 16384

noncomputable section

namespace Cert.Proof.SB.PI

open Cert.KernelIdeal Cert.KernelIdeal.Gen Cert.Proof.SB

open Idealize.ShloMosaic

theorem off1 : ∀ (i : grid0.Coords) (t : Fin 8), k0_off1 i (BitVec.ofNat 32 t.val) 0 = 2048 * (i 2).val + 256 * t.val ∧ k0_off1 i (BitVec.ofNat 32 t.val) 1 = 0 := by
  decide +kernel
theorem off2 : ∀ i : grid0.Coords, k0_off2 i 0 = 2048 * (i 2).val - 256 ∧ k0_off2 i 1 = 0 := by decide +kernel
theorem off3 : ∀ (i : grid0.Coords) (t : Fin 6), k0_off3 i (BitVec.ofNat 32 t.val) 0 = 2048 * (i 2).val + 256 * t.val ∧ k0_off3 i (BitVec.ofNat 32 t.val) 1 = 0 := by
  decide +kernel
theorem cond2 : ∀ i : grid0.Coords, k0_cond2 i = 1#1 ↔ 0 < (i 2).val := by decide +kernel
theorem cond3 : ∀ i : grid0.Coords, k0_cond3 i 1#1 = 1#1 ↔ 0 < (i 2).val := by decide +kernel
theorem off4 : ∀ i : grid0.Coords, 0 < (i 2).val → k0_off4 i 0 = 2048 * (i 2).val - 256 ∧ k0_off4 i 1 = 0 := by decide +kernel
theorem off5 : ∀ i : grid0.Coords, 0 < (i 2).val → k0_off5 i 0 = 2048 * (i 2).val - 512 ∧ k0_off5 i 1 = 0 := by decide +kernel
theorem off6 : ∀ (i : grid0.Coords) (p : Fin 7), 0 < (i 2).val →
    k0_off6 i (BitVec.ofNat 32 (1 + p.val)) 0 = 2048 * (i 2).val - 256 * (p.val + 2) ∧ k0_off6 i (BitVec.ofNat 32 (1 + p.val)) 1 = 0 := by decide +kernel
theorem off7 : ∀ (i : grid0.Coords) (p : Fin 7),
    (0 < (i 2).val → 256 * (p.val + 3) ≤ 2048 * (i 2).val → k0_off7 i (BitVec.ofNat 32 (1 + p.val)) 0 = 2048 * (i 2).val - 256 * (p.val + 3))
      ∧ k0_off7 i (BitVec.ofNat 32 (1 + p.val)) 1 = 0 := by decide +kernel
theorem off8 : ∀ (i : grid0.Coords) (g : Fin 4) (j : Fin 8), g.val < (i 2).val →
    k0_off8 i (BitVec.ofNat 32 g.val) (BitVec.ofNat 32 j.val) 0 = 2048 * (i 2).val - 256 * (8 * g.val + j.val + 1)
      ∧ k0_off8 i (BitVec.ofNat 32 g.val) (BitVec.ofNat 32 j.val) 1 = 0 := by decide +kernel
theorem off9 : ∀ (i : grid0.Coords) (g : Fin 4) (j : Fin 8), g.val < (i 2).val →
    (256 * (8 * g.val + j.val + 2) ≤ 2048 * (i 2).val →
      k0_off9 i (BitVec.ofNat 32 g.val) (BitVec.ofNat 32 j.val) 0 = 2048 * (i 2).val - 256 * (8 * g.val + j.val + 2))
      ∧ k0_off9 i (BitVec.ofNat 32 g.val) (BitVec.ofNat 32 j.val) 1 = 0 := by decide +kernel

/-- The loop runs group `g` while it lies below the block. -/
theorem slt_iff : ∀ (i : grid0.Coords) (g : Fin 5), Scalar.cmpi .slt (BitVec.ofNat 32 g.val) (BitVec.ofNat 32 (i 2).val) = 1#1 ↔ g.val < (i 2).val := by
  decide +kernel
theorem sgt_base : ∀ i : grid0.Coords, Scalar.cmpi .sgt (base i) 0#32 = 1#1 ↔ 0 < (i 2).val := by decide +kernel
theorem base_zero : ∀ i : grid0.Coords, (i 2).val = 0 → Scalar.cmpi .sgt (base i) 0#32 = 0#1 := by decide +kernel
theorem qi_lt : ∀ i : grid0.Coords, (i 2).val < 4 := by decide +kernel

end Cert.Proof.SB.PI

end
-- ==== Proof.PI.Masks.lean ====
/-
  The kernel's masks, and its test for a live row: a least carry that is a real number is below the bound.
-/
module

public import proofs.«01_k».proof.Proof.Frontier
public import proofs.«01_k».proof.Proof.PI.Offsets

@[expose] public section

set_option maxRecDepth 16384

noncomputable section

namespace Cert.Proof.SB.PI

open Cert.KernelIdeal Cert.KernelIdeal.Gen Cert.Proof.SB

open Idealize.ShloMosaic hiding ix1 ix2 ix3 ix4 ix5
open Idealize.ShloMosaic.ValueIdx

/-! ### The masks -/

theorem slt_small (a b : ℕ) (ha : a < 65536) (hb : b < 65536) : IntOp.cmpi .slt (BitVec.ofNat 32 a) (BitVec.ofNat 32 b) = 1#1 ↔ a < b := by
  have h1 : (BitVec.ofNat 32 a).toInt = a := by
    have e : (BitVec.ofNat 32 a).toNat = a := by rw [BitVec.toNat_ofNat]; exact Nat.mod_eq_of_lt (by omega)
    rw [BitVec.toInt_eq_toNat_of_lt (by rw [e]; omega), e]
  have h2 : (BitVec.ofNat 32 b).toInt = b := by
    have e : (BitVec.ofNat 32 b).toNat = b := by rw [BitVec.toNat_ofNat]; exact Nat.mod_eq_of_lt (by omega)
    rw [BitVec.toInt_eq_toNat_of_lt (by rw [e]; omega), e]
  show BitVec.ofBool (BitVec.slt (BitVec.ofNat 32 a) (BitVec.ofNat 32 b)) = 1#1 ↔ a < b
  unfold BitVec.slt
  rw [h1, h2]
  by_cases h : a < b
  · simp [h]
  · simp [h]

theorem mask148 (r : Fin 256) (j : Fin 256) : k0_pay148 (ix2 r j) = 1#1 ↔ j.val < r.val := by
  show IntOp.cmpi .slt (iota .tc S256x256 32 [1] iota_S256x256_d1_w32 (ix2 r j)) (iota .tc S256x256 32 [0] iota_S256x256_d0_w32 (ix2 r j)) = 1#1 ↔ _
  rw [iota_single_apply, iota_single_apply]
  exact slt_small j.val r.val (by omega) (by omega)

theorem mask157 (r : Fin 512) (j : Fin 256) : k0_pay157 (ix2 r j) = 1#1 ↔ j.val < r.val := by
  show IntOp.cmpi .slt (iota .tc S512x256 32 [1] iota_S512x256_d1_w32 (ix2 r j)) (iota .tc S512x256 32 [0] iota_S512x256_d0_w32 (ix2 r j)) = 1#1 ↔ _
  rw [iota_single_apply, iota_single_apply]
  exact slt_small j.val r.val (by omega) (by omega)

/-! ### The least carry is a real number -/

theorem minred_lt (n : ℕ) (hn : 0 < n) (w : FVec Ideal (Sh n) .f32) (hw : ∀ (r : Fin n) (d : Fin 128), w (ix2 r d) < (⊤ : EReal))
    (h : (Sh n).Reduces [0] ⟨1, ![128]⟩) (hφ : FKind.Formats .f32) (hacc : (0x7F800000#32 : BitVec 32) = FKind.minimumf.neutral .f32 hφ) (j : (⟨1, ![128]⟩ : Shape).Idx) :
    multiReduction .minimumf [0] ⟨1, ![128]⟩ w 0x7F800000#32 h hφ hacc j < (⊤ : EReal) := by
  rw [multiReduction_minimumf_eq_fold]
  have hlt := hw ⟨0, hn⟩ (j 0)
  refine lt_of_le_of_lt ?_ hlt
  show Finset.fold (min : EReal → EReal → EReal) _ _ _ ≤ _
  rw [Finset.fold_min_le]
  right
  refine ⟨ix2 ⟨0, hn⟩ (j 0), ?_, le_refl _⟩
  rw [Finset.mem_filter]
  refine ⟨Finset.mem_univ _, ?_⟩
  funext a
  apply Fin.ext
  fin_cases a
  exact h.drop_apply_val_of_eq (ix2 ⟨0, hn⟩ (j 0)) 0 1 Nat.one_pos rfl

theorem dead_top : (cDead : Ideal .f32) = (⊤ : EReal) := rfl

theorem olt_dead (t : EReal) (ht : t < ⊤) : Scalar.cmpf (F := Ideal) (φ := .f32) .olt t cDead = 1#1 := by
  rw [dead_top]
  show BitVec.ofBool (decide (t < (⊤ : EReal))) = 1#1
  rw [decide_eq_true ht]; rfl

/-- A state whose rows hold real numbers. -/
theorem inv_lt {x : REnv} {B : ℕ} {fr : ℕ → ℕ} {s : St Ideal} (hs : Inv x B fr s) (n r : ℕ)
    (h : ∀ a, ![r, 0] a + (Sh n).size a ≤ (Sh 2048).size a) (ρ : Fin n) (d : Fin 128) :
    View.ld s.2 (rows n r h) (ix2 ρ d) < (⊤ : EReal) := by
  have hn : r + n ≤ 2048 := h 0
  rw [ld_rows s.2 n r h ρ d ⟨r + ρ, by omega⟩ rfl, (hs ⟨r + ρ, by omega⟩ d).1]
  exact EReal.coe_lt_top _

end Cert.Proof.SB.PI

end
-- ==== Proof.PI.Steps.lean ====
/-
  The frontier after each tile of the kernel's straight part and of the band's rest.
-/
module

public import proofs.«01_k».proof.Proof.PI.Masks

@[expose] public section

set_option maxRecDepth 16384

noncomputable section

namespace Cert.Proof.SB.PI

open Cert.KernelIdeal Cert.KernelIdeal.Gen Cert.Proof.SB

open Idealize.ShloMosaic hiding ix1 ix2 ix3 ix4 ix5
open Idealize.ShloMosaic.ValueIdx

/-! ### The frontier after each tile -/

/-- The frontier after the diagonal tiles from `t` on. -/
def frD (B t r : ℕ) : ℕ := if r < 256 * t then B + 2048 else if r < 256 * t + 512 then B + 256 * t else B + 256 * (r / 256 - 1)
/-- The frontier after the tile before the block. -/
def frE (B r : ℕ) : ℕ := if r < 256 then B - 256 else frD B 0 r
/-- The frontier after the band's tiles from `t` on. -/
def frR (B t r : ℕ) : ℕ := if r < 256 * (t + 2) then frE B r else B + 256 * t

variable {e : Env Ideal} {x : REnv} (he : EnvOk e x) (i : grid0.Coords)

/-- The block's first key. -/
abbrev bk (i : grid0.Coords) : ℕ := 2048 * (i 2).val

theorem inv_st0 : Inv x (bk i) (fun _ => bk i + 2048) (st0 : St Ideal) := by
  intro r d
  have h0 : Finset.Ico (bk i + 2048) (bk i + r.val) = ∅ := Finset.Ico_eq_empty (by have := r.isLt; omega)
  have z : ∀ (w : FVec Ideal S2048x128 .f32), w = shapeCast S2048x128 (broadcast S2048x128 (Scalar.ofBits .f32 0x00000000#32)) shapeCasts_S2048x128_S2048x128 →
      w (ix2 r d) = (0 : EReal) := fun w hw => by
    rw [hw, shapeCast_self]; exact Ideal.ofBits_zero_f32
  simp only [REnv.car, REnv.acc, h0, Finset.sum_empty, EReal.coe_zero]
  exact ⟨z k0_pay147 rfl, z k0_pay146 rfl⟩

include he

theorem inv_st1 : Inv x (bk i) (frD (bk i) 7) (st1 e i) := by
  refine (inv_st0 i).tile he 256 1792 _ (some k0_pay148) _ _ (off1 i 7).2 _ (off1 i 7).1 ?_ ?_ _ ?_ ?_
  · intro r j; rw [mask148]; show _ ↔ 2048 * (i 2).val + 256 * 7 + j.val < 2048 * (i 2).val + (1792 + r.val); omega
  · intro R h1 h2; right; show 2048 * (i 2).val + R ≤ 2048 * (i 2).val + 2048 ∧ 2048 * (i 2).val + R ≤ 2048 * (i 2).val + 256 * 7 + 256; omega
  · intro R h1 h2; show _ = 2048 * (i 2).val + 256 * 7; unfold frD bk; split_ifs <;> omega
  · intro R h1 h2; unfold frD bk; split_ifs <;> omega

/-- A diagonal tile's step. -/
theorem inv_diag (t : Fin 8) (ht : t.val < 7) (s : St Ideal) (hs : Inv x (bk i) (frD (bk i) (t.val + 1)) s) (r : ℕ) (hr : r = 256 * t.val)
    (h : ∀ a, ![r, 0] a + (Sh 512).size a ≤ (Sh 2048).size a) (o : Fin 2 → ℕ) (ho : ∀ a, o a + (Sh 256).size a ≤ (Sh 8192).size a)
    (hoe : o = k0_off1 i (BitVec.ofNat 32 t.val)) :
    Inv x (bk i) (frD (bk i) t.val) (tile e 512 r h (some k0_pay157) o ho s) := by
  subst hoe
  refine hs.tile he 512 r h (some k0_pay157) _ _ (off1 i t).2 _ (off1 i t).1 ?_ ?_ _ ?_ ?_
  · intro ρ j; rw [mask157]; show _ ↔ 2048 * (i 2).val + 256 * t.val + j.val < 2048 * (i 2).val + (r + ρ.val); omega
  · intro R h1 h2
    unfold frD bk; split_ifs <;> omega
  · intro R h1 h2; unfold frD bk; split_ifs <;> omega
  · intro R h1 h2; unfold frD bk; split_ifs <;> omega

theorem inv_st8 : Inv x (bk i) (frD (bk i) 0) (st8 e i) :=
  inv_diag he i 0 (by decide) _ (inv_diag he i 1 (by decide) _ (inv_diag he i 2 (by decide) _ (inv_diag he i 3 (by decide) _
    (inv_diag he i 4 (by decide) _ (inv_diag he i 5 (by decide) _ (inv_diag he i 6 (by decide) _ (inv_st1 he i) 1536 rfl _ _ _ rfl) 1280 rfl _ _ _ rfl)
    1024 rfl _ _ _ rfl) 768 rfl _ _ _ rfl) 512 rfl _ _ _ rfl) 256 rfl _ _ _ rfl) 0 rfl _ _ _ rfl

theorem inv_st9 : Inv x (bk i) (frE (bk i)) (st9 e i) := by
  by_cases hq : 0 < (i 2).val
  · refine (inv_st8 he i).tile he 256 0 _ (some (k0_pay222 (base i))) _ _ (off2 i).2 _ (off2 i).1 ?_ ?_ _ ?_ ?_
    · intro r j
      have : k0_pay222 (base i) (ix2 r j) = Scalar.cmpi .sgt (base i) 0#32 := rfl
      rw [this, sgt_base]
      show _ ↔ 2048 * (i 2).val - 256 + j.val < 2048 * (i 2).val + (0 + r.val); omega
    · intro R h1 h2; left; unfold frD bk; split_ifs <;> omega
    · intro R h1 h2; unfold frE bk; split_ifs <;> omega
    · intro R h1 h2; unfold frE; split_ifs <;> omega
  · have hq0 : (i 2).val = 0 := by omega
    have ht := tile_real he 256 0 inb_S2048x128_S256x128_0_0 (k0_off2 i) (k0_off2_inb i) (off2 i).2 (some (k0_pay222 (base i))) (fun _ _ => False) (by
      intro r j
      have : k0_pay222 (base i) (ix2 r j) = Scalar.cmpi .sgt (base i) 0#32 := rfl
      rw [this, sgt_base]
      simp [hq]) (st8 e i) _ _ (inv_st8 he i)
    simp only [if_false, Finset.sum_const_zero, add_zero, zero_mul, ite_self] at ht
    refine Inv.congr (fr := frD (bk i) 0) ht fun r hr => ?_
    congr 1
    unfold frE frD bk; split_ifs <;> omega

/-- A step of the band's rest. -/
theorem inv_rest (t : Fin 6) (n : ℕ) (s : St Ideal) (fr : ℕ → ℕ) (hs : Inv x (bk i) fr s)
    (hfr : ∀ r, 256 * (t.val + 2) ≤ r → r < 2048 → fr r = bk i + 256 * (t.val + 1)) (hlo : ∀ r, r < 256 * (t.val + 2) → fr r = frE (bk i) r)
    (r : ℕ) (hr : r = 256 * (t.val + 2)) (hn : r + n = 2048)
    (h : ∀ a, ![r, 0] a + (Sh n).size a ≤ (Sh 2048).size a) (o : Fin 2 → ℕ) (ho : ∀ a, o a + (Sh 256).size a ≤ (Sh 8192).size a)
    (hoe : o = k0_off3 i (BitVec.ofNat 32 t.val)) :
    Inv x (bk i) (frR (bk i) t.val) (tile e n r h none o ho s) := by
  subst hoe
  refine hs.tile he n r h none _ _ (off3 i t).2 _ (off3 i t).1 ?_ ?_ _ ?_ ?_
  · intro ρ j; have := j.isLt; show 2048 * (i 2).val + 256 * t.val + j.val < 2048 * (i 2).val + (r + ρ.val); omega
  · intro R h1 h2; left; rw [hfr R (by omega) (by omega)]; unfold bk; omega
  · intro R h1 h2; unfold frR bk; split_ifs <;> omega
  · intro R h1 h2; rw [hlo R (by omega)]; unfold frR bk; split_ifs <;> omega

theorem inv_rest' (t : Fin 6) (n : ℕ) (s : St Ideal) (hs : Inv x (bk i) (frR (bk i) (t.val + 1)) s)
    (r : ℕ) (hr : r = 256 * (t.val + 2)) (hn : r + n = 2048)
    (h : ∀ a, ![r, 0] a + (Sh n).size a ≤ (Sh 2048).size a) (o : Fin 2 → ℕ) (ho : ∀ a, o a + (Sh 256).size a ≤ (Sh 8192).size a)
    (hoe : o = k0_off3 i (BitVec.ofNat 32 t.val)) :
    Inv x (bk i) (frR (bk i) t.val) (tile e n r h none o ho s) := by
  refine inv_rest he i t n s _ hs ?_ ?_ r hr hn h o ho hoe
  · intro R h1 h2; unfold frR frE frD bk; split_ifs <;> omega
  · intro R h1; unfold frR; split_ifs <;> omega

theorem inv_re6 : Inv x (bk i) (frR (bk i) 0) (re6 e i) := by
  refine inv_rest' he i 0 1536 _ (inv_rest' he i 1 1280 _ (inv_rest' he i 2 1024 _ (inv_rest' he i 3 768 _ (inv_rest' he i 4 512 _
    (inv_rest he i 5 256 _ _ (inv_st9 he i) ?_ ?_ 1792 rfl rfl _ _ _ rfl) 1536 rfl rfl _ _ _ rfl)
    1280 rfl rfl _ _ _ rfl) 1024 rfl rfl _ _ _ rfl) 768 rfl rfl _ _ _ rfl) 512 rfl rfl _ _ _ rfl
  · intro R h1 h2; have : (5 : Fin 6).val = 5 := rfl; unfold frE frD bk; split_ifs <;> omega
  · intro R h1; rfl

theorem inv_band : Inv x (bk i) (fun _ => bk i - 256) (band e i) := by
  unfold band
  split_ifs with h
  · have hq := (cond2 i).mp h
    refine (inv_re6 he i).tile he 1792 256 _ none _ _ (off4 i hq).2 _ (off4 i hq).1 ?_ ?_ _ ?_ ?_
    · intro ρ j; have := j.isLt; show 2048 * (i 2).val - 256 + j.val < 2048 * (i 2).val + (256 + ρ.val); omega
    · intro R h1 h2; left; unfold frR frE frD bk; split_ifs <;> omega
    · intro R h1 h2; rfl
    · intro R h1 h2; unfold frR frE bk; split_ifs <;> omega
  · have hq : (i 2).val = 0 := by by_contra hh; exact h ((cond2 i).mpr (by omega))
    refine (inv_re6 he i).congr fun r hr => ?_
    congr 1
    unfold frR frE frD bk; split_ifs <;> omega

end Cert.Proof.SB.PI

end
-- ==== Proof.PI.Value.lean ====
/-
  What the kernel's body computes at a grid point, over the real numbers: every test finds a live row, so every tile up to
  the row is taken, and the stored block is the whole stick-breaking sum.
-/
module

public import proofs.«01_k».proof.Proof.PI.Steps

@[expose] public section

set_option maxRecDepth 16384

noncomputable section

namespace Cert.Proof.SB.PI

open Cert.KernelIdeal Cert.KernelIdeal.Gen Cert.Proof.SB

open Idealize.ShloMosaic hiding ix1 ix2 ix3 ix4 ix5
open Idealize.ShloMosaic.ValueIdx

/-! ### The tests -/

theorem pay231_lt (w : Vec Ideal S1792x128 .f32) (hw : ∀ (r : Fin 1792) (d : Fin 128), w (ix2 r d) < (⊤ : EReal)) : k0_pay231 w < (⊤ : EReal) := by
  unfold k0_pay231 extractAt extractStridedSlice
  exact minred_lt 1792 (by norm_num) w hw _ _ _ _
theorem pay233_lt (w : Vec Ideal S1792x128 .f32) (hw : ∀ (r : Fin 1792) (d : Fin 128), w (ix2 r d) < (⊤ : EReal)) : k0_pay233 w < (⊤ : EReal) := by
  unfold k0_pay233 extractAt extractStridedSlice
  exact minred_lt 1792 (by norm_num) w hw _ _ _ _
theorem pay234_lt (w : Vec Ideal S256x128 .f32) (t : EReal) (ht : t < ⊤) : k0_pay234 w t < (⊤ : EReal) :=
  min_lt_of_right_lt ht
theorem pay237_lt (w : Vec Ideal S2048x128 .f32) (hw : ∀ (r : Fin 2048) (d : Fin 128), w (ix2 r d) < (⊤ : EReal)) : k0_pay237 w < (⊤ : EReal) := by
  unfold k0_pay237 extractAt extractStridedSlice
  exact minred_lt 2048 (by norm_num) w hw _ _ _ _
theorem pay6_lt (w : Vec Ideal S2048x128 .f32) (hw : ∀ (r : Fin 2048) (d : Fin 128), w (ix2 r d) < (⊤ : EReal)) : k0_pay6 w < (⊤ : EReal) := by
  unfold k0_pay6 extractAt extractStridedSlice
  exact minred_lt 2048 (by norm_num) w hw _ _ _ _

theorem alive_eq {x : REnv} (s : St Ideal) {B : ℕ} {fr : ℕ → ℕ} (hs : Inv x B fr s) : alive s = 1#1 := by
  unfold alive
  exact olt_dead _ (pay6_lt _ (inv_lt hs 2048 0 _))

variable {e : Env Ideal} {x : REnv} (he : EnvOk e x) (i : grid0.Coords)

include he

theorem live1_eq : live1 e i = 1#1 :=
  olt_dead _ (pay231_lt _ (inv_lt (inv_st9 he i) 1792 256 _))

theorem st10_eq : st10 e i = band e i := by
  unfold st10
  rw [live1_eq he i]
  exact if_pos (by decide)

theorem low_lt : low e i < (⊤ : EReal) := by
  unfold low
  rw [live1_eq he i, if_pos (by decide)]
  exact pay233_lt _ (inv_lt (inv_band he i) 1792 256 _)

theorem live2_eq : live2 e i = 1#1 :=
  olt_dead _ (pay234_lt _ _ (low_lt he i))

/-! ### The sweep and the loop -/

/-- A position of the first sweep. -/
theorem at_sweep (hq : 0 < (i 2).val) (p : Fin 7) (a a' : ℕ) (ha : a < 2) (ha' : a' < 2) (y : St Ideal × Sl Ideal)
    (hy : At e x (bk i) a ha (bk i - 256 * (p.val + 1)) y) (o o' : Fin 2 → ℕ) (ho : ∀ a, o a + (Sh 256).size a ≤ (Sh 8192).size a)
    (ho' : ∀ a, o' a + (Sh 256).size a ≤ (Sh 8192).size a) (hoe : o = k0_off6 i (BitVec.ofNat 32 (1 + p.val))) (hoe' : o' = k0_off7 i (BitVec.ofNat 32 (1 + p.val))) :
    At e x (bk i) a' ha' (bk i - 256 * (p.val + 2)) (half e a a' ha ha' o o' ho ho' y) := by
  subst hoe; subst hoe'
  have hp := p.isLt
  have h := hy.half (p' := a') (hp' := ha') he (by unfold bk; omega) (by unfold bk; omega) _ _ ho ho' ((off6 i p hq).1.trans (by unfold bk; omega)) (off6 i p hq).2
    (fun hT => ((off7 i p).1 hq (by unfold bk at hT; omega)).trans (by unfold bk; omega)) (off7 i p).2
  have e : bk i - 256 * (p.val + 1) - 256 = bk i - 256 * (p.val + 2) := by unfold bk; omega
  rwa [e] at h

theorem at_fu7 (hq : 0 < (i 2).val) (b : BitVec 1) (hw : k0_chk1 i b) (h : k0_cond3 i b = 1#1) (y : Sl Ideal) :
    At e x (bk i) 0 (by decide) (bk i - 2048) (fu7 e i b hw h y (st10 e i)) := by
  have h0 : At e x (bk i) 1 (by decide) (bk i - 256 * (0 + 1)) (fu0 e i b hw h y (st10 e i)) := by
    have e1 : bk i - 256 * (0 + 1) = bk i - 256 := by omega
    rw [e1]
    unfold fu0
    refine ⟨?_, fun _ => primed_lgts e 1 _ _ _ _ _ ((off5 i hq).1.trans (by unfold bk; omega)) (off5 i hq).2⟩
    have hb := inv_band he i
    rw [← st10_eq he i] at hb
    dsimp only
    exact hb
  exact at_sweep he i hq 6 _ _ _ _ _ (at_sweep he i hq 5 _ _ _ _ _ (at_sweep he i hq 4 _ _ _ _ _ (at_sweep he i hq 3 _ _ _ _ _
    (at_sweep he i hq 2 _ _ _ _ _ (at_sweep he i hq 1 _ _ _ _ _ (at_sweep he i hq 0 _ _ _ _ _ h0 _ _ _ _ rfl rfl)
    _ _ _ _ rfl rfl) _ _ _ _ rfl rfl) _ _ _ _ rfl rfl) _ _ _ _ rfl rfl) _ _ _ _ rfl rfl) _ _ _ _ rfl rfl

theorem at_sweep_end (y : Sl Ideal) (hw : k0_chk1 i (live2 e i)) : At e x (bk i) 0 (by decide) (bk i - 2048) (sweep e i y hw) := by
  unfold sweep
  split_ifs with h
  · rw [live2_eq he i] at h
    exact at_fu7 he i ((cond3 i).mp h) _ _ _ _
  · rw [live2_eq he i] at h
    have hq : (i 2).val = 0 := by by_contra hh; exact h ((cond3 i).mpr (by omega))
    have hb : bk i = 0 := by unfold bk; omega
    refine ⟨?_, fun h2 => absurd h2 (by omega)⟩
    have := inv_band he i
    rw [← st10_eq he i] at this
    rw [hb] at this ⊢
    simp only [Nat.zero_sub] at this ⊢
    exact this

/-- A position of a group. -/
theorem at_group (g : Fin 4) (hq : g.val < (i 2).val) (j : Fin 8) (a a' : ℕ) (ha : a < 2) (ha' : a' < 2) (y : St Ideal × Sl Ideal)
    (hy : At e x (bk i) a ha (bk i - 256 * (8 * g.val + j.val)) y) (o o' : Fin 2 → ℕ) (ho : ∀ a, o a + (Sh 256).size a ≤ (Sh 8192).size a)
    (ho' : ∀ a, o' a + (Sh 256).size a ≤ (Sh 8192).size a) (hoe : o = k0_off8 i (BitVec.ofNat 32 g.val) (BitVec.ofNat 32 j.val))
    (hoe' : o' = k0_off9 i (BitVec.ofNat 32 g.val) (BitVec.ofNat 32 j.val)) :
    At e x (bk i) a' ha' (bk i - 256 * (8 * g.val + (j.val + 1))) (half e a a' ha ha' o o' ho ho' y) := by
  subst hoe; subst hoe'
  have hp := j.isLt
  have h := hy.half (p' := a') (hp' := ha') he (by unfold bk; omega) (by unfold bk; omega) _ _ ho ho' ((off8 i g j hq).1.trans (by unfold bk; omega)) (off8 i g j hq).2
    (fun hT => ((off9 i g j hq).1 (by unfold bk at hT; omega)).trans (by unfold bk; omega)) (off9 i g j hq).2
  have e : bk i - 256 * (8 * g.val + j.val) - 256 = bk i - 256 * (8 * g.val + (j.val + 1)) := by unfold bk; omega
  rwa [e] at h

theorem at_gr8 (g : Fin 4) (hq : g.val < (i 2).val) (hg : k0_chk2 i (BitVec.ofNat 32 g.val)) (y : St Ideal × Sl Ideal)
    (hy : At e x (bk i) 0 (by decide) (bk i - 2048 * g.val) y) :
    At e x (bk i) 0 (by decide) (bk i - 2048 * (g.val + 1)) (gr8 e i (BitVec.ofNat 32 g.val) hg y) := by
  have e1 : 2048 * g.val = 256 * (8 * g.val + 0) := by omega
  have e2 : 2048 * (g.val + 1) = 256 * (8 * g.val + (7 + 1)) := by omega
  rw [e1] at hy
  rw [e2]
  exact at_group he i g hq 7 _ _ _ _ _ (at_group he i g hq 6 _ _ _ _ _ (at_group he i g hq 5 _ _ _ _ _ (at_group he i g hq 4 _ _ _ _ _
    (at_group he i g hq 3 _ _ _ _ _ (at_group he i g hq 2 _ _ _ _ _ (at_group he i g hq 1 _ _ _ _ _ (at_group he i g hq 0 _ _ _ _ _ hy _ _ _ _ rfl rfl)
    _ _ _ _ rfl rfl) _ _ _ _ rfl rfl) _ _ _ _ rfl rfl) _ _ _ _ rfl rfl) _ _ _ _ rfl rfl) _ _ _ _ rfl rfl) _ _ _ _ rfl rfl

/-- Whatever the loop stops at, no key is left. -/
theorem at_loop (chk2 : ∀ (i : grid0.Coords) (j : Fin 4), Scalar.cmpi .slt (BitVec.ofNat 32 j.val) (BitVec.ofNat 32 (i 2).val) = 1#1 → k0_chk2 i (BitVec.ofNat 32 j.val))
    (k g : ℕ) (h4 : g + k ≤ 4) (hk : (i 2).val ≤ g + k) (go : BitVec 1) (hgo : g < (i 2).val → go = 1#1) (y : St Ideal × Sl Ideal)
    (hy : At e x (bk i) 0 (by decide) (bk i - 2048 * g) y) : Inv x (bk i) (fun _ => 0) (loop e i k (BitVec.ofNat 32 g) go y).1 := by
  have hdone : ∀ y : St Ideal × Sl Ideal, (i 2).val ≤ g → At e x (bk i) 0 (by decide) (bk i - 2048 * g) y → Inv x (bk i) (fun _ => 0) y.1 := fun y h hy => by
    have e0 : bk i - 2048 * g = 0 := by unfold bk; omega
    rw [e0] at hy
    exact hy.1
  induction k generalizing g go y with
  | zero => exact hdone y (by omega) hy
  | succ k ih =>
    unfold loop
    by_cases hlt : g < (i 2).val
    · have hg4 : g < 4 := by omega
      have hs := (slt_iff i ⟨g, by omega⟩).mpr hlt
      have hs' : Scalar.cmpi .slt (BitVec.ofNat 32 g) (BitVec.ofNat 32 (i 2).val) = 1#1 := hs
      rw [hgo hlt, hs', if_pos (by decide), dif_pos (chk2 i ⟨g, hg4⟩ hs)]
      have hat := at_gr8 he i ⟨g, hg4⟩ hlt (chk2 i ⟨g, hg4⟩ hs) y hy
      have e1 : Scalar.addi (BitVec.ofNat 32 g) 1#32 = BitVec.ofNat 32 (g + 1) := by
        show BitVec.ofNat 32 g + 1#32 = _
        rw [BitVec.ofNat_add]
      rw [e1]
      refine ih (g + 1) (by omega) (by omega) _ (fun _ => alive_eq _ hat.1) _ hat (fun y h hy => ?_)
      have e0 : bk i - 2048 * (g + 1) = 0 := by unfold bk; omega
      rw [e0] at hy
      exact hy.1
    · have hs : ¬ Scalar.cmpi .slt (BitVec.ofNat 32 g) (BitVec.ofNat 32 (i 2).val) = 1#1 := fun h =>
        hlt ((slt_iff i ⟨g, by have := qi_lt i; omega⟩).mp h)
      have e0 : ∀ b c : BitVec 1, b ≠ 1#1 → Scalar.andi b c ≠ 1#1 := by decide
      rw [if_neg (e0 _ _ hs)]
      exact hdone y (by omega) hy

/-- The stored block: each row's weighted values over all keys before the row. -/
theorem outV_real (chk2 : ∀ (i : grid0.Coords) (j : Fin 4), Scalar.cmpi .slt (BitVec.ofNat 32 j.val) (BitVec.ofNat 32 (i 2).val) = 1#1 → k0_chk2 i (BitVec.ofNat 32 j.val))
    (y : Sl Ideal) (hw : k0_chk1 i (live2 e i)) (r : Fin 2048) (d : Fin 128) :
    outV e i y hw (ix2 r d) = ((x.acc (bk i + r) 0 r d : ℝ) : EReal) := by
  have hsw := at_sweep_end he i y hw
  have hinv : Inv x (bk i) (fun _ => 0) (fin e i y hw).1 := by
    unfold fin
    refine at_loop he i chk2 3 1 (by decide) (by have := qi_lt i; omega) _ (fun hlt => ?_) _ hsw
    unfold go1
    rw [live2_eq he i, (sgt_base i).mpr (by omega), olt_dead _ (pay237_lt _ (inv_lt hsw.1 2048 0 _))]
    decide
  have := (hinv r d).2
  rw [← this]
  show View.ld (fin e i y hw).1.1 (rows 2048 0 whole_inb) (ix2 r d) = _
  exact ld_rows _ 2048 0 whole_inb r d r (by omega)

end Cert.Proof.SB.PI

end
-- ==== Proof.PI.Entry.lean ====
/-
  What the launch finds in its arrays: the queries (scaled), the keys and the values are columns of the program's
  argument, its batch and its sequence flattened into rows, and the last operand is the strict lower triangle.
-/
module

public import proofs.«01_k».proof.Proof.PI.Value
public import proofs.«01_k».proof.Proof.PI.Run
public import Idealize.ShloMosaic.Lib.StableHlo.ReadAt
public import Idealize.ShloMosaic.Lib.Pointwise

@[expose] public section

set_option maxRecDepth 16384

noncomputable section

namespace Cert.Proof.SB.PI

open Cert.KernelIdeal Cert.KernelIdeal.Gen Cert.Proof.SB

open Idealize.ShloMosaic hiding ix1 ix2 ix3 ix4 ix5
open Idealize.ShloMosaic.ValueIdx

variable (m : (ℓ : Loc nD τ sig) → Buf (Elt Ideal) ℓ)

/-- The strict lower triangle. -/
theorem tri_at (c : Dev nD) (i j : Fin 256) :
    (V m c main_v17 : Vec Ideal S256x256 .bf16) (ix2 i j) = (((if j < i then 1 else 0) : ℝ) : EReal) := by
  unfold V
  after_reads_at
  show FloatOps.uitofp FTy.bf16 (IntOp.cmpi CmpIPredicate.sgt (BitVec.ofNat 32 i.val) (BitVec.ofNat 32 j.val)) = _
  have hs : IntOp.cmpi CmpIPredicate.sgt (BitVec.ofNat 32 i.val) (BitVec.ofNat 32 j.val) = if j < i then 1#1 else 0#1 := by
    have h := slt_small j.val i.val (by omega) (by omega)
    show IntOp.cmpi CmpIPredicate.slt (BitVec.ofNat 32 j.val) (BitVec.ofNat 32 i.val) = _
    by_cases hji : j < i
    · rw [if_pos hji]; exact h.mpr hji
    · rw [if_neg hji]
      rcases BitVec.eq_zero_or_eq_one (IntOp.cmpi CmpIPredicate.slt (BitVec.ofNat 32 j.val) (BitVec.ofNat 32 i.val)) with h0 | h1
      · exact h0
      · exact absurd (h.mp h1) hji
  rw [hs]
  by_cases h : j < i
  · rw [if_pos h, if_pos h]; show (((1#1).toNat : ℝ) : EReal) = _; norm_num
  · rw [if_neg h, if_neg h]; show (((0#1).toNat : ℝ) : EReal) = _; norm_num

/-- The program's argument. -/
def argA (c : Dev nD) : Vec Ideal S4x8192x6144 .f32 := m ((c.tc : Thread nD τ).loc main_arg0)

/-- A row's queries, scaled. -/
theorem rows_q (c : Dev nD) (b : Fin 4) (n : Fin 8192) (R : Fin 32768) (C : Fin 6144) (hR : R.val = 8192 * b.val + n.val) (hC : C.val < 2048) :
    (V m c main_v10 : Vec Ideal S32768x6144 .bf16) (ix2 R C) = (argA m c (ix3 b n C) * Ideal.div 1 (Ideal.sqrt (Ideal.ofBits FTy.f32 1124073472#32) * Ideal.log (Ideal.ofBits FTy.f32 1073741824#32)) : EReal) := by
  unfold V
  after_reads_at
  rw [dif_pos (by exact hC)]
  after_reads_at
  have e : (Idealize.ShloMosaic.ix3 ⟨R.val / 8192, by omega⟩ ⟨R.val % 8192, by omega⟩ C : S4x8192x6144.Idx) = ix3 b n C := by
    funext a
    rcases a with ⟨_ | _ | _ | _, ha⟩
    · exact Fin.ext (show R.val / 8192 = b.val by omega)
    · exact Fin.ext (show R.val % 8192 = n.val by omega)
    · rfl
    · exact absurd ha (by show ¬ (_ < 3); omega)
  unfold argA
  rw [← e]

/-- A row's keys and values, as they are. -/
theorem rows_kv (c : Dev nD) (b : Fin 4) (n : Fin 8192) (R : Fin 32768) (C : Fin 6144) (hR : R.val = 8192 * b.val + n.val) (hC : ¬ C.val < 2048) :
    (V m c main_v10 : Vec Ideal S32768x6144 .bf16) (ix2 R C) = (argA m c (ix3 b n C) : EReal) := by
  unfold V
  after_reads_at
  rw [dif_neg (by exact hC)]
  after_reads_at
  have e : (Idealize.ShloMosaic.ix3 ⟨R.val / 8192, by omega⟩ ⟨R.val % 8192, by omega⟩ ⟨2048 + (C.val - 2048), by omega⟩ : S4x8192x6144.Idx) = ix3 b n C := by
    funext a
    rcases a with ⟨_ | _ | _ | _, ha⟩
    · exact Fin.ext (show R.val / 8192 = b.val by omega)
    · exact Fin.ext (show R.val % 8192 = n.val by omega)
    · exact Fin.ext (show 2048 + (C.val - 2048) = C.val by omega)
    · exact absurd ha (by show ¬ (_ < 3); omega)
  unfold argA
  rw [← e]

/-- The blocks' positions in their arrays. -/
theorem win_q : ∀ t : Fin grid0.N, win0_0.index t 0 = 4 * (grid0.coords t 0).val + (grid0.coords t 2).val ∧ win0_0.index t 1 = (grid0.coords t 1).val := by
  decide +kernel
theorem win_k : ∀ t : Fin grid0.N, win0_1.index t 0 = (grid0.coords t 0).val ∧ win0_1.index t 1 = 16 + (grid0.coords t 1).val := by
  decide +kernel
theorem win_v : ∀ t : Fin grid0.N, win0_2.index t 0 = (grid0.coords t 0).val ∧ win0_2.index t 1 = 32 + (grid0.coords t 1).val := by
  decide +kernel
theorem win_u : ∀ t : Fin grid0.N, win0_3.index t 0 = 0 ∧ win0_3.index t 1 = 0 := by
  decide +kernel
theorem win_o : ∀ t : Fin grid0.N, win0_4.index t 0 = 4 * (grid0.coords t 0).val + (grid0.coords t 2).val ∧ win0_4.index t 1 = (grid0.coords t 1).val := by
  decide +kernel

/-- The block of queries. -/
theorem blk0_at (c : Dev nD) (t : Fin grid0.N) (r : Fin 2048) (d : Fin 128) (R : Fin 32768) (C : Fin 6144)
    (hR : R.val = 8192 * (grid0.coords t 0).val + (2048 * (grid0.coords t 2).val + r.val)) (hC : C.val = 128 * (grid0.coords t 1).val + d.val) :
    (blk m c 0 t : Vec Ideal S2048x128 .bf16) (ix2 r d) = (V m c main_v10 : Vec Ideal S32768x6144 .bf16) (ix2 R C) := by
  refine (Pipeline.Window.fill_xinj (win0 0) (grid0.coords t) _ _ (ix2 r d)).trans ?_
  blk_simp
  refine congrArg (V m c main_v10) ?_
  funext a
  rcases a with ⟨_ | _ | _, ha⟩
  · refine Fin.ext ?_
    show ((win0_0.blk t).view.emb (ix2 r d) 0).val = R.val
    blk_simp
    rw [(win_q t).1, hR]
    show _ + r.val = _
    ring
  · refine Fin.ext ?_
    show ((win0_0.blk t).view.emb (ix2 r d) 1).val = C.val
    blk_simp
    rw [(win_q t).2, hC]
    show _ + d.val = _
    ring
  · exact absurd ha (by show ¬ (_ < 2); omega)

/-- The block of keys. -/
theorem blk1_at (c : Dev nD) (t : Fin grid0.N) (r : Fin 8192) (d : Fin 128) (R : Fin 32768) (C : Fin 6144)
    (hR : R.val = 8192 * (grid0.coords t 0).val + r.val) (hC : C.val = 2048 + (128 * (grid0.coords t 1).val + d.val)) :
    (blk m c 1 t : Vec Ideal S8192x128 .bf16) (ix2 r d) = (V m c main_v10 : Vec Ideal S32768x6144 .bf16) (ix2 R C) := by
  refine (Pipeline.Window.fill_xinj (win0 1) (grid0.coords t) _ _ (ix2 r d)).trans ?_
  blk_simp
  refine congrArg (V m c main_v10) ?_
  funext a
  rcases a with ⟨_ | _ | _, ha⟩
  · refine Fin.ext ?_
    show ((win0_1.blk t).view.emb (ix2 r d) 0).val = R.val
    blk_simp
    rw [(win_k t).1, hR]
    show _ + r.val = _
    ring
  · refine Fin.ext ?_
    show ((win0_1.blk t).view.emb (ix2 r d) 1).val = C.val
    blk_simp
    rw [(win_k t).2, hC]
    show _ + d.val = _
    ring
  · exact absurd ha (by show ¬ (_ < 2); omega)

/-- The block of values. -/
theorem blk2_at (c : Dev nD) (t : Fin grid0.N) (r : Fin 8192) (d : Fin 128) (R : Fin 32768) (C : Fin 6144)
    (hR : R.val = 8192 * (grid0.coords t 0).val + r.val) (hC : C.val = 4096 + (128 * (grid0.coords t 1).val + d.val)) :
    (blk m c 2 t : Vec Ideal S8192x128 .bf16) (ix2 r d) = (V m c main_v10 : Vec Ideal S32768x6144 .bf16) (ix2 R C) := by
  refine (Pipeline.Window.fill_xinj (win0 2) (grid0.coords t) _ _ (ix2 r d)).trans ?_
  blk_simp
  refine congrArg (V m c main_v10) ?_
  funext a
  rcases a with ⟨_ | _ | _, ha⟩
  · refine Fin.ext ?_
    show ((win0_2.blk t).view.emb (ix2 r d) 0).val = R.val
    blk_simp
    rw [(win_v t).1, hR]
    show _ + r.val = _
    ring
  · refine Fin.ext ?_
    show ((win0_2.blk t).view.emb (ix2 r d) 1).val = C.val
    blk_simp
    rw [(win_v t).2, hC]
    show _ + d.val = _
    ring
  · exact absurd ha (by show ¬ (_ < 2); omega)

/-- The block of the triangle. -/
theorem blk3_at (c : Dev nD) (t : Fin grid0.N) (r : Fin 256) (d : Fin 256) (R : Fin 256) (C : Fin 256)
    (hR : R.val = r.val) (hC : C.val = d.val) :
    (blk m c 3 t : Vec Ideal S256x256 .bf16) (ix2 r d) = (V m c main_v17 : Vec Ideal S256x256 .bf16) (ix2 R C) := by
  refine (Pipeline.Window.fill_xinj (win0 3) (grid0.coords t) _ _ (ix2 r d)).trans ?_
  blk_simp
  refine congrArg (V m c main_v17) ?_
  funext a
  rcases a with ⟨_ | _ | _, ha⟩
  · refine Fin.ext ?_
    show ((win0_3.blk t).view.emb (ix2 r d) 0).val = R.val
    blk_simp
    rw [(win_u t).1, hR]
    show _ + r.val = _
    ring
  · refine Fin.ext ?_
    show ((win0_3.blk t).view.emb (ix2 r d) 1).val = C.val
    blk_simp
    rw [(win_u t).2, hC]
    show _ + d.val = _
    ring
  · exact absurd ha (by show ¬ (_ < 2); omega)

/-- The scale of the queries. -/
theorem scale_q : (Ideal.div 1 (Ideal.sqrt (Ideal.ofBits FTy.f32 1124073472#32) * Ideal.log (Ideal.ofBits FTy.f32 1073741824#32)) : EReal)
    = ((1 / (√128 * Real.log 2) : ℝ) : EReal) := by
  have e1 : Ideal.ofBits FTy.f32 1124073472#32 = ((128 : ℝ) : EReal) := by
    simp [Ideal.ofBits, Ideal.ieee, -EReal.coe_mul]; norm_num
  have e2 : Ideal.ofBits FTy.f32 1073741824#32 = ((2 : ℝ) : EReal) := by
    simp [Ideal.ofBits, Ideal.ieee, -EReal.coe_mul]; norm_num
  have h2 : (0 : ℝ) < Real.log 2 := Real.log_pos (by norm_num)
  have h8 : (0 : ℝ) < √128 := Real.sqrt_pos.mpr (by norm_num)
  rw [e1, e2, Ideal.sqrt_coe, Ideal.log_coe, if_neg (by norm_num), if_neg (by norm_num), ← EReal.coe_mul, Ideal.div, if_neg ?_, ← EReal.coe_inv, ← EReal.coe_one, ← EReal.coe_mul, one_div, one_mul]
  exact fun h => (mul_pos h8 h2).ne' (EReal.coe_eq_zero.mp h)

/-- The operands of a grid point as real functions, from the real argument `a` (batch, position, column). -/
def renv (a : ℕ → ℕ → ℕ → ℝ) (b h qi : ℕ) : REnv where
  q r d := a b (2048 * qi + r) (128 * h + d.val) * (1 / (√128 * Real.log 2))
  k j d := a b j (2048 + (128 * h + d.val))
  v j d := a b j (4096 + (128 * h + d.val))

/-- A load of the whole triangle. -/
theorem ld_whole (u : Vec Ideal S256x256 .bf16) (i j : Fin 256) :
    View.ld u (Rect.unit (s := S256x256) ![0, 0] S256x256.size inb_S256x256_S256x256_0_0) (ix2 i j) = u (ix2 i j) := by
  refine congrArg u ?_
  funext a
  rcases a with ⟨_ | _ | _, ha⟩
  · exact Fin.ext (show 0 + 1 * i.val = i.val by omega)
  · exact Fin.ext (show 0 + 1 * j.val = j.val by omega)
  · exact absurd ha (by show ¬ (_ < 2); omega)

/-- The point's operands are those real functions. -/
theorem env_ok (c : Dev nD) (a : ℕ → ℕ → ℕ → ℝ)
    (ha : ∀ (b : Fin 4) (n : Fin 8192) (C : Fin 6144), argA m c (ix3 b n C) = ((a b.val n.val C.val : ℝ) : EReal)) (t : Fin grid0.N) :
    EnvOk (envAt m c t) (renv a (grid0.coords t 0).val (grid0.coords t 1).val (grid0.coords t 2).val) := by
  have h0 : (grid0.coords t 0).val < 4 := (grid0.coords t 0).isLt
  have h1 : (grid0.coords t 1).val < 16 := (grid0.coords t 1).isLt
  have h2 : (grid0.coords t 2).val < 4 := (grid0.coords t 2).isLt
  refine ⟨fun r d => ?_, fun r d => ?_, fun r d => ?_, fun i j => ?_, rfl, ?_⟩
  · refine (blk0_at m c t r d ⟨8192 * (grid0.coords t 0).val + (2048 * (grid0.coords t 2).val + r.val), by omega⟩ ⟨128 * (grid0.coords t 1).val + d.val, by omega⟩ rfl rfl).trans ?_
    refine (rows_q m c ⟨(grid0.coords t 0).val, h0⟩ ⟨2048 * (grid0.coords t 2).val + r.val, by omega⟩ _ _ rfl (by show 128 * _ + _ < 2048; omega)).trans ?_
    rw [ha, scale_q, ← EReal.coe_mul]
    rfl
  · refine (blk1_at m c t r d ⟨8192 * (grid0.coords t 0).val + r.val, by omega⟩ ⟨2048 + (128 * (grid0.coords t 1).val + d.val), by omega⟩ rfl rfl).trans ?_
    refine (rows_kv m c ⟨(grid0.coords t 0).val, h0⟩ r _ _ rfl (by show ¬ (2048 + _ < 2048); omega)).trans ?_
    rw [ha]
    rfl
  · refine (blk2_at m c t r d ⟨8192 * (grid0.coords t 0).val + r.val, by omega⟩ ⟨4096 + (128 * (grid0.coords t 1).val + d.val), by omega⟩ rfl rfl).trans ?_
    refine (rows_kv m c ⟨(grid0.coords t 0).val, h0⟩ r _ _ rfl (by show ¬ (4096 + _ < 2048); omega)).trans ?_
    rw [ha]
    rfl
  · exact (ld_whole _ i j).trans ((blk3_at m c t i j i j rfl rfl).trans (tri_at m c i j))
  · rfl

end Cert.Proof.SB.PI
-- ==== Proof.PI.Final.lean ====
/-
  What the launch leaves in its result: each element is the stick-breaking sum of its row and head.
-/
module

public import proofs.«01_k».proof.Proof.PI.Entry

@[expose] public section

set_option maxRecDepth 16384

noncomputable section

namespace Cert.Proof.SB.PI

open Cert.KernelIdeal Cert.KernelIdeal.Gen Cert.Proof.SB

open Idealize.ShloMosaic hiding ix1 ix2 ix3 ix4 ix5
open Idealize.ShloMosaic.ValueIdx
open Idealize.ShloMosaic.TcCoe Idealize.SL Idealize.SL.Sem
open Idealize.ShloMosaic.Pipeline (RDat)

/-- The result's element at row `R` and column `C`, from the real argument. -/
def kval (a : ℕ → ℕ → ℕ → ℝ) (R C : ℕ) : ℝ :=
  (renv a (R / 8192) (C / 128) (R % 8192 / 2048)).acc (R % 8192) 0 (R % 8192 % 2048) ⟨C % 128, Nat.mod_lt _ (by norm_num)⟩

/-- The result's element at a position of a grid point's block. -/
theorem kval_at (a : ℕ → ℕ → ℕ → ℝ) (b h qi r : ℕ) (d : Fin 128) (hq : qi < 4) (hr : r < 2048) :
    kval a ((4 * b + qi) * 2048 + r) (h * 128 + d.val) = (renv a b h qi).acc (2048 * qi + r) 0 r d := by
  have e1 : ((4 * b + qi) * 2048 + r) / 8192 = b := by omega
  have e2 : ((4 * b + qi) * 2048 + r) % 8192 = 2048 * qi + r := by omega
  have e3 : (2048 * qi + r) / 2048 = qi := by omega
  have e4 : (2048 * qi + r) % 2048 = r := by omega
  have e5 : (h * 128 + d.val) / 128 = h := by omega
  have e6 : (⟨(h * 128 + d.val) % 128, Nat.mod_lt _ (by norm_num)⟩ : Fin 128) = d := Fin.ext (by show _ % 128 = _; omega)
  unfold kval
  rw [e1, e2, e3, e4, e5, e6]

variable (m : (ℓ : Loc nD τ sig) → Buf (Elt Ideal) ℓ) (g : Dev nD → PrngReg)

/-- A value that the body may leave at a grid point, elementwise. -/
theorem out_at (c : Dev nD) (a : ℕ → ℕ → ℕ → ℝ)
    (ha : ∀ (b : Fin 4) (n : Fin 8192) (C : Fin 6144), argA m c (ix3 b n C) = ((a b.val n.val C.val : ℝ) : EReal)) (t : Fin grid0.N)
    (X : Vec Ideal S2048x128 .bf16) (hX : OutRel (envAt m c t) (grid0.coords t) X) (r : Fin 2048) (d : Fin 128) :
    X (ix2 r d) = ((kval a ((4 * (grid0.coords t 0).val + (grid0.coords t 2).val) * 2048 + r.val) ((grid0.coords t 1).val * 128 + d.val) : ℝ) : EReal) := by
  obtain ⟨x, rfl⟩ := hX
  rw [kval_at a _ _ _ _ d (grid0.coords t 2).isLt r.isLt]
  exact outV_real (env_ok m c a ha t) (grid0.coords t) chk2 x (chk1 _ _) r d

set_option maxHeartbeats 1000000 in
/-- After the launch, every element of the result is the sum that its row and column name. -/
theorem value (a : Dev nD → ℕ → ℕ → ℕ → ℝ)
    (ha : ∀ c (b : Fin 4) (n : Fin 8192) (C : Fin 6144), argA m c (ix3 b n C) = ((a c b.val n.val C.val : ℝ) : EReal)) :
    θ_run defs (onTc (τ := τ) (main (F := Ideal))) ⟨m, fun _ => 0, g⟩ (fun r => ∀ c : Dev nD,
      (∀ i : S32768x2048.Idx, (r.2.mem ((c.tc : Thread nD τ).loc main_v18) : Vec Ideal S32768x2048 .bf16) i = ((kval (a c) (i 0).val (i 1).val : ℝ) : EReal))
      ∧ r.2.mem ((c.tc : Thread nD τ).loc main_arg0) = m ((c.tc : Thread nD τ).loc main_arg0)) := by
  refine (θ_run defs _ _).mono (fun r h c => ⟨?_, ((h.1 c).2 main_arg0 arg_rest).trans (V_arg m c)⟩) (run_main m g)
  obtain ⟨after, hL, hA⟩ := RDat.FramePost.exists_exact h.1 c
  have h4 := hA 4
  intro i
  have e : (r.2.mem ((c.tc : Thread nD τ).loc main_v18) : Vec Ideal S32768x2048 .bf16) i = ((rdat m c).withAfter after).arrAt 4 (cfg0 (F := Ideal)).N i := congrFun h4 i
  rw [e]
  refine ((rdat m c).withAfter after).arrAt_forall_of_covers 4 (fun i v => v = ((kval (a c) (i 0).val (i 1).val : ℝ) : EReal)) (by decide +kernel) (fun t hf y => ?_) i
  obtain ⟨Y, -, hY⟩ := hL 4 t hf
  have hX : OutRel (envAt m c t) (grid0.coords t) (after 4 t) := hY
  have hv := out_at m c (a c) (ha c) t (after 4 t) hX (y 0) (y 1)
  blk_simp
  rw [(win_o t).1, (win_o t).2]
  refine Eq.trans ?_ hv
  exact congrArg (after 4 t) (ValueIdx.eq_ix2 y)

end Cert.Proof.SB.PI
-- ==== Proof.RefValue.lean ====
/-
  What the reference leaves in its result, as the composition of its operations.
-/
module

public import proofs.«01_k».proof.Proof.RefRun
public import Idealize.ShloMosaic.Lib.StableHlo.ReadAt
public import Idealize.ShloMosaic.Lib.StableHlo.RunHlo
public import Idealize.ShloMosaic.Lib.Pointwise
public import Idealize.ShloMosaic.Lib.MatmulPlain

@[expose] public section

set_option maxRecDepth 16384

noncomputable section

namespace Cert.Proof.Ref

open Cert.ReferenceIdeal Cert.ReferenceIdeal.Gen
open Idealize.ShloMosaic hiding ix1 ix2 ix3 ix4 ix5
open Idealize.ShloMosaic.ValueIdx
open Idealize.ShloMosaic.TcCoe Idealize.SL Idealize.SL.Sem

/-- The logits' type. -/
abbrev Lg := FVec Ideal S4x16x8192x8192 .f32

/-- Queries, keys and values by head. -/
def headsR (A : FVec Ideal S4x8192x6144 .f32) : FVec Ideal S3x4x16x8192x128 .f32 :=
  transpose S3x4x16x8192x128 [2, 0, 3, 1, 4] (shapeCast S4x8192x3x16x128 A shapeCasts_S4x8192x6144_S4x8192x3x16x128) transposes_S4x8192x3x16x128_S3x4x16x8192x128_2_0_3_1_4
/-- The queries, -/
def qR (A : FVec Ideal S4x8192x6144 .f32) : FVec Ideal S4x16x8192x128 .f32 :=
  shapeCast S4x16x8192x128 (extractStridedSlice S1x4x16x8192x128 ![0, 0, 0, 0, 0] (headsR A) slices_S3x4x16x8192x128_S1x4x16x8192x128_0_0_0_0_0) shapeCasts_S1x4x16x8192x128_S4x16x8192x128
/-- the keys -/
def kR (A : FVec Ideal S4x8192x6144 .f32) : FVec Ideal S4x16x8192x128 .f32 :=
  shapeCast S4x16x8192x128 (extractStridedSlice S1x4x16x8192x128 ![1, 0, 0, 0, 0] (headsR A) slices_S3x4x16x8192x128_S1x4x16x8192x128_1_0_0_0_0) shapeCasts_S1x4x16x8192x128_S4x16x8192x128
/-- and the values. -/
def vR (A : FVec Ideal S4x8192x6144 .f32) : FVec Ideal S4x16x8192x128 .f32 :=
  shapeCast S4x16x8192x128 (extractStridedSlice S1x4x16x8192x128 ![2, 0, 0, 0, 0] (headsR A) slices_S3x4x16x8192x128_S1x4x16x8192x128_2_0_0_0_0) shapeCasts_S1x4x16x8192x128_S4x16x8192x128
/-- The logits. -/
def zR (A : FVec Ideal S4x8192x6144 .f32) : Lg :=
  mulf (Host.dotGeneral dot_S4x16x8192x128_S4x16x8192x128_S4x16x8192x8192_3_3_2_2_01_01 none (qR A) (kR A))
    (broadcastInDim S4x16x8192x8192 ![] bcast_S_S4x16x8192x8192 (Host.divf (constant (F := Ideal) S_ .f32 0x3F800000#32) (Host.sqrt (constant (F := Ideal) S_ .f32 0x43000000#32))))
/-- A zero everywhere. -/
def zeroR : Lg := broadcastInDim S4x16x8192x8192 ![] bcast_S_S4x16x8192x8192 (constant (F := Ideal) S_ .f32 0x00000000#32)
/-- Softplus. -/
def softR (z : Lg) : Lg :=
  select (cmpf .une (subf z zeroR) (subf z zeroR)) (addf z zeroR)
    (addf (maximumf z zeroR) (Host.log1p (Host.exp (Host.negf (Host.absf (subf z zeroR))))))
/-- A key strictly before its query. -/
def maskR : IVec S8192x8192 1 :=
  cmpi .slt (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))
/-- Zero but at such keys. -/
def whereR (x : Lg) : Lg :=
  select (broadcastInDim S4x16x8192x8192 ![2, 3] bcast_S8192x8192_S4x16x8192x8192_2_3 maskR) x
    (broadcastInDim S4x16x8192x8192 ![] bcast_S_S4x16x8192x8192 (id (constant (F := Ideal) S_ .f32 0x00000000#32)))
/-- Keys side by side. -/
def catR (x : FVec Ideal S4x16x8192x8191 .f32) (y : FVec Ideal S4x16x8192x1 .f32) : Lg :=
  concatenate S4x16x8192x8192 3 [⟨S4x16x8192x8191, x⟩, ⟨S4x16x8192x1, y⟩] concatenates_S4x16x8192x8191_S4x16x8192x1_S4x16x8192x8192_d3
theorem catR_eq (x : FVec Ideal S4x16x8192x8191 .f32) (y : FVec Ideal S4x16x8192x1 .f32)
    (h : Shape.Concatenates [S4x16x8192x8191, S4x16x8192x1] S4x16x8192x8192 3) :
    concatenate S4x16x8192x8192 3 [⟨S4x16x8192x8191, x⟩, ⟨S4x16x8192x1, y⟩] h = catR x y := rfl
/-- One key on: the next key's element, a zero at the last. -/
def shiftR (x : Lg) : Lg :=
  catR (extractStridedSlice S4x16x8192x8191 ![0, 0, 0, 1] x slices_S4x16x8192x8192_S4x16x8192x8191_0_0_0_1)
    (broadcastInDim S4x16x8192x1 ![] bcast_S_S4x16x8192x1 (constant (F := Ideal) S_ .f32 0x00000000#32))
/-- The sums from each key on. -/
def sumR (x : Lg) : Lg :=
  Host.reduceWindowAdd ![1, 1, 1, 8192] ![1, 1, 1, 1] ![0, 0, 0, 0] ![0, 0, 0, 8191] x (broadcastInDim S_ ![] bcast_S_S_ (constant (F := Ideal) S_ .f32 0x00000000#32))
    reduceWindows_S4x16x8192x8192_S4x16x8192x8192_w1s1p0_0_w1s1p0_0_w1s1p0_0_w8192s1p0_8191 h_S_
/-- The weights. -/
def aR (z : Lg) : Lg := whereR (Host.exp (subf (Host.negf (softR (Host.negf z))) (sumR (shiftR (whereR (softR z))))))
/-- The result. -/
def outR (A : FVec Ideal S4x8192x6144 .f32) : FVec Ideal S32768x2048 .bf16 :=
  truncf .bf16 (shapeCast S32768x2048 (transpose S4x8192x16x128 [0, 2, 1, 3]
    (Host.dotGeneral dot_S4x16x8192x8192_S4x16x8192x128_S4x16x8192x128_3_2_2_3_01_01 none (aR (zR A)) (vR A))
    transposes_S4x16x8192x128_S4x8192x16x128_0_2_1_3) shapeCasts_S4x8192x16x128_S32768x2048) bitsLt_bf16_f32

set_option maxHeartbeats 4000000 in
/-- The reference's run: the result is its operations' composition, and the argument ends as it was. -/
theorem run_value (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      (r.2.mem ((c.tc : Thread nD τ).loc main_v33) : FVec Ideal S32768x2048 .bf16) = outR (m ((c.tc : Thread nD τ).loc main_arg0))
      ∧ r.2.mem ((c.tc : Thread nD τ).loc main_arg0) = m ((c.tc : Thread nD τ).loc main_arg0)) := by
  have h := StableHlo.run_hlo (defs (F := Ideal)) (main (F := Ideal)) (by hlo_seq) (by decide) (by decide) (by simp)
      (by intro _ h; (repeat (cases h with | head => rfl | tail _ h => ?_)); exact nomatch h) m g
  refine (θ_run defs _ _).mono (fun r h c => ⟨?_, ?_⟩) h
  · rw [h c main_v33]
    after_reads_simp
    simp -implicitDefEqProofs only [StableHlo.TRef.toBuf, StableHlo.TRef.ofBuf, cast_cast, cast_eq]
    rw [catR_eq]
    after_reads_simp
    simp -implicitDefEqProofs only [StableHlo.TRef.toBuf, StableHlo.TRef.ofBuf, cast_cast, cast_eq]
    clean_types
    rw [show (StableHlo.launchContents m c (Proc.tc.devRef main_arg0)) = m ((c.tc : Thread nD τ).loc main_arg0) from rfl]
    generalize m ((c.tc : Thread nD τ).loc main_arg0) = A
    unfold outR aR shiftR whereR softR zR maskR zeroR qR kR vR headsR sumR
    rfl
  · rw [h c main_arg0]
    after_reads_simp

end Cert.Proof.Ref
-- ==== Proof.RefReal.lean ====
/-
  The reference's result over the real numbers: each row's stick-breaking weights, and their sum of the values.
-/
module

public import proofs.«01_k».proof.Proof.RefValue
public import proofs.«01_k».proof.Proof.Frontier
public import proofs.«01_k».proof.Proof.PI.Masks

@[expose] public section

set_option maxRecDepth 16384

noncomputable section

namespace Cert.Proof.Ref

open Cert.ReferenceIdeal Cert.ReferenceIdeal.Gen
open Idealize.ShloMosaic Idealize.ShloMosaic.TcCoe Idealize.SL Idealize.SL.Sem

/-! ### The operations over the reals -/

/-- Softplus. -/
def soft (t : ℝ) : ℝ := Real.log (1 + Real.exp t)

theorem soft_max (t : ℝ) : max t 0 + Real.log (1 + Real.exp (-|t|)) = soft t := by
  unfold soft
  rcases le_total 0 t with h | h
  · rw [max_eq_left h, abs_of_nonneg h]
    have e : 1 + Real.exp t = Real.exp t * (1 + Real.exp (-t)) := by
      rw [mul_add, mul_one, ← Real.exp_add, add_neg_cancel, Real.exp_zero]; ring
    rw [e, Real.log_mul (Real.exp_pos _).ne' (by positivity), Real.log_exp]
  · rw [max_eq_right h, abs_of_nonpos h, neg_neg, zero_add]

theorem soft_neg (t : ℝ) : -soft (-t) = t - soft t := by
  unfold soft
  have e : 1 + Real.exp t = Real.exp t * (1 + Real.exp (-t)) := by
    rw [mul_add, mul_one, ← Real.exp_add, add_neg_cancel, Real.exp_zero]; ring
  rw [e, Real.log_mul (Real.exp_pos _).ne' (by positivity), Real.log_exp]
  ring

theorem softR_real (z : Lg) (i : S4x16x8192x8192.Idx) (t : ℝ) (hz : z i = (t : EReal)) : softR z i = ((soft t : ℝ) : EReal) := by
  unfold softR zeroR
  pointwise
  rw [if_neg (fun h => h rfl), hz]
  have e : (FloatOps.absf (F := Ideal) (φ := .f32) ((t : ℝ) : EReal) : EReal) = ((|t| : ℝ) : EReal) := by
    show max ((t : ℝ) : EReal) (-((t : ℝ) : EReal)) = _
    rw [← EReal.coe_neg, ← EReal.coe_strictMono.monotone.map_max]
    rfl
  rw [e, ← EReal.coe_neg, Ideal.exp_coe, Ideal.log1p, ← EReal.coe_one, ← EReal.coe_add, Ideal.log_coe,
    if_neg (not_le.mpr (by positivity)), ← EReal.coe_zero, ← EReal.coe_strictMono.monotone.map_max, ← EReal.coe_add, soft_max]

theorem negR_real (z : Lg) (i : S4x16x8192x8192.Idx) (t : ℝ) (hz : z i = (t : EReal)) : Host.negf z i = ((-t : ℝ) : EReal) := by
  show -(z i) = _
  rw [hz, EReal.coe_neg]

theorem whereR_real (x : Lg) (b : Fin 4) (h : Fin 16) (n j : Fin 8192) (t : ℝ) (hx : j.val < n.val → x (ix4 b h n j) = (t : EReal)) :
    whereR x (ix4 b h n j) = (((if j.val < n.val then t else 0) : ℝ) : EReal) := by
  unfold whereR maskR
  pointwise
  show Scalar.select (IntOp.cmpi CmpIPredicate.slt (BitVec.ofNat 32 j.val) (BitVec.ofNat 32 n.val)) (x (ix4 b h n j)) (Ideal.ofBits FTy.f32 0#32) = _
  have hs := Cert.Proof.SB.PI.slt_small j.val n.val (by omega) (by omega)
  by_cases hjn : j.val < n.val
  · rw [hs.mpr hjn, if_pos hjn, ← hx hjn]; rfl
  · have h0 : IntOp.cmpi CmpIPredicate.slt (BitVec.ofNat 32 j.val) (BitVec.ofNat 32 n.val) = 0#1 := by
      rcases BitVec.eq_zero_or_eq_one (IntOp.cmpi CmpIPredicate.slt (BitVec.ofNat 32 j.val) (BitVec.ofNat 32 n.val)) with h0 | h1
      · exact h0
      · exact absurd (hs.mp h1) hjn
    rw [h0, if_neg hjn, Ideal.ofBits_zero_f32]; rfl

theorem shiftR_real (x : Lg) (b : Fin 4) (h : Fin 16) (n j : Fin 8192) (t : ℕ → ℝ) (hx : ∀ i : Fin 8192, x (ix4 b h n i) = ((t i.val : ℝ) : EReal)) :
    shiftR x (ix4 b h n j) = (((if j.val + 1 < 8192 then t (j.val + 1) else 0) : ℝ) : EReal) := by
  unfold shiftR catR
  pointwise
  by_cases hj : j.val < 8191
  · rw [dif_pos (by exact hj), if_pos (by omega)]
    refine (hx ⟨1 + j.val, by omega⟩).trans ?_
    show ((t (1 + j.val) : ℝ) : EReal) = _
    rw [Nat.add_comm]
  · rw [dif_neg (by exact hj), if_neg (by omega)]; rfl

/-- A sum taken element by element, from a start. -/
theorem foldl_sum (N : ℕ) (f : Fin N → EReal) (v : EReal) : (List.finRange N).foldl (fun r n => r + f n) v = v + ∑ n, f n := by
  have hl : ∀ (l : List (Fin N)) (v : EReal), l.foldl (fun r n => r + f n) v = v + (l.map f).sum := by
    intro l
    induction l with
    | nil => intro v; simp
    | cons x l ih => intro v; rw [List.foldl_cons, ih, List.map_cons, List.sum_cons, add_assoc]
  rw [hl, Fin.sum_univ_def]

/-- A window's sum at a position: the start, and over the window's positions the operand's elements that they name. -/
theorem window_eq {s t : Shape} (window strides lo hi : Fin s.rank → Nat) (x : s.Idx → EReal) (v : EReal)
    (h : s.ReduceWindows window strides lo hi t) (j : t.Idx) :
    Ideal.hostReduceWindowAdd window strides lo hi h x v j = v + ∑ w : (⟨s.rank, window⟩ : Shape).Idx,
      (if hin : ∀ a, lo a ≤ (j (a.cast h.1.symm)).val * strides a + (w a).val ∧ (j (a.cast h.1.symm)).val * strides a + (w a).val - lo a < s.size a then
        x (fun a => ⟨(j (a.cast h.1.symm)).val * strides a + (w a).val - lo a, (hin a).2⟩) else v) := by
  rw [← Equiv.sum_comp (⟨s.rank, window⟩ : Shape).rowMajor.symm]
  unfold Ideal.hostReduceWindowAdd Host.reduceWindow
  dsimp only
  rw [foldl_sum]
  refine congrArg _ (Finset.sum_congr rfl fun n _ => ?_)
  split_ifs <;> rfl

/-- The window of a sum along the keys. -/
abbrev Wn : Shape := ⟨4, ![1, 1, 1, 8192]⟩

theorem win_sum (f : Wn.Idx → EReal) : ∑ w : Wn.Idx, f w = ∑ p : Fin 8192, f (ix4 0 0 0 p) := by
  symm
  refine Fintype.sum_bijective (fun p : Fin 8192 => (ix4 0 0 0 p : Wn.Idx)) ⟨fun p q hpq => ?_, fun w => ⟨w 3, ?_⟩⟩ _ _ (fun _ => rfl)
  · exact congrFun hpq 3
  · funext i
    rcases i with ⟨_ | _ | _ | _ | _, hi⟩
    · exact Subsingleton.elim (α := Fin 1) _ _
    · exact Subsingleton.elim (α := Fin 1) _ _
    · exact Subsingleton.elim (α := Fin 1) _ _
    · rfl
    · exact absurd hi (by show ¬ (_ < 4); omega)

theorem sumR_real (x : Lg) (b : Fin 4) (h : Fin 16) (n j : Fin 8192) (t : ℕ → ℝ) (hx : ∀ i : Fin 8192, x (ix4 b h n i) = ((t i.val : ℝ) : EReal)) :
    sumR x (ix4 b h n j) = (((∑ p ∈ Finset.range 8192, if j.val + p < 8192 then t (j.val + p) else 0) : ℝ) : EReal) := by
  have e : sumR x (ix4 b h n j) = (0 : EReal) + ∑ p : Fin 8192, (((if j.val + p.val < 8192 then t (j.val + p.val) else 0) : ℝ) : EReal) := by
    unfold sumR Host.reduceWindowAdd
    have hv : broadcastInDim S_ ![] bcast_S_S_ (constant (F := Ideal) S_ .f32 0x00000000#32) (Shape.Idx.first h_S_) = (0 : EReal) := Ideal.ofBits_zero_f32
    rw [hv]
    show Ideal.hostReduceWindowAdd _ _ _ _ _ _ _ _ = _
    rw [window_eq, win_sum]
    refine congrArg _ (Finset.sum_congr rfl fun p _ => ?_)
    by_cases hp : j.val + p.val < 8192
    · rw [if_pos hp, dif_pos ?_]
      · refine Eq.trans (congrArg x ?_) (hx ⟨j.val + p.val, hp⟩)
        funext i
        rcases i with ⟨_ | _ | _ | _ | _, hi⟩
        · exact Fin.ext (show b.val * 1 + 0 - 0 = b.val by omega)
        · exact Fin.ext (show h.val * 1 + 0 - 0 = h.val by omega)
        · exact Fin.ext (show n.val * 1 + 0 - 0 = n.val by omega)
        · exact Fin.ext (show j.val * 1 + p.val - 0 = j.val + p.val by omega)
        · exact absurd hi (by show ¬ (_ < 4); omega)
      · rintro ⟨_ | _ | _ | _ | _, hi⟩
        · show 0 ≤ b.val * 1 + 0 ∧ b.val * 1 + 0 - 0 < 4; omega
        · show 0 ≤ h.val * 1 + 0 ∧ h.val * 1 + 0 - 0 < 16; omega
        · show 0 ≤ n.val * 1 + 0 ∧ n.val * 1 + 0 - 0 < 8192; omega
        · show 0 ≤ j.val * 1 + p.val ∧ j.val * 1 + p.val - 0 < 8192; omega
        · exact absurd hi (by show ¬ (_ < 4); omega)
    · rw [if_neg hp, dif_neg ?_]; · rfl
      intro hin
      have h3 : j.val * 1 + p.val - 0 < 8192 := (hin 3).2
      omega
  rw [e, zero_add, Cert.Proof.SB.coe_sum, Finset.sum_range]

/-! ### The weights -/

/-- The sums that a key's weight takes are those over the later keys before the query. -/
theorem later_eq (t : ℕ → ℝ) (n j : ℕ) (hn : n < 8192) :
    (∑ p ∈ Finset.range 8192, if j + p < 8192 then (if j + p + 1 < 8192 then (if j + p + 1 < n then t (j + p + 1) else 0) else 0) else 0)
      = ∑ i ∈ Finset.Ioo j n, t i := by
  have e : ∀ p ∈ Finset.range 8192, (if j + p < 8192 then (if j + p + 1 < 8192 then (if j + p + 1 < n then t (j + p + 1) else 0) else 0) else 0)
      = if j + p + 1 < n then t (j + p + 1) else 0 := by
    intro p _
    split_ifs <;> first | rfl | omega
  rw [Finset.sum_congr rfl e, ← Finset.sum_filter]
  refine Finset.sum_bij (fun p _ => j + p + 1) (fun p hp => ?_) (fun p _ q _ h => by omega) (fun i hi => ⟨i - j - 1, ?_, ?_⟩) (fun _ _ => rfl)
  · rw [Finset.mem_filter] at hp; rw [Finset.mem_Ioo]; omega
  · rw [Finset.mem_Ioo] at hi; rw [Finset.mem_filter, Finset.mem_range]; omega
  · rw [Finset.mem_Ioo] at hi; omega

/-- A weight, from a row's logits. -/
def wtR (z : ℕ → ℝ) (n j : ℕ) : ℝ := Real.exp (z j - soft (z j) - ∑ i ∈ Finset.Ioo j n, soft (z i))

theorem aR_real (z : Lg) (b : Fin 4) (h : Fin 16) (n j : Fin 8192) (t : ℕ → ℝ) (hz : ∀ i : Fin 8192, z (ix4 b h n i) = ((t i.val : ℝ) : EReal)) :
    aR z (ix4 b h n j) = (((if j.val < n.val then wtR t n.val j.val else 0) : ℝ) : EReal) := by
  unfold aR
  refine whereR_real _ b h n j _ fun _ => ?_
  have h1 : ∀ i : Fin 8192, whereR (softR z) (ix4 b h n i) = (((if i.val < n.val then soft (t i.val) else 0) : ℝ) : EReal) :=
    fun i => whereR_real _ b h n i _ fun _ => softR_real z _ _ (hz i)
  have h2 : ∀ i : Fin 8192, shiftR (whereR (softR z)) (ix4 b h n i)
      = (((if i.val + 1 < 8192 then (if i.val + 1 < n.val then soft (t (i.val + 1)) else 0) else 0) : ℝ) : EReal) :=
    fun i => shiftR_real _ b h n i (fun i => if i < n.val then soft (t i) else 0) h1
  have h3 := sumR_real _ b h n j (fun i => if i + 1 < 8192 then (if i + 1 < n.val then soft (t (i + 1)) else 0) else 0) h2
  have h4 : Host.negf (softR (Host.negf z)) (ix4 b h n j) = ((t j.val - soft (t j.val) : ℝ) : EReal) := by
    rw [negR_real _ _ _ (softR_real _ _ _ (negR_real z _ _ (hz j))), soft_neg]
  rw [later_eq (fun i => soft (t i)) n.val j.val n.isLt] at h3
  show Ideal.exp (Host.negf (softR (Host.negf z)) (ix4 b h n j) - sumR (shiftR (whereR (softR z))) (ix4 b h n j)) = _
  rw [h4, h3, ← EReal.coe_sub, Ideal.exp_coe]
  rfl

/-! ### The result -/

variable (A : FVec Ideal S4x8192x6144 .f32) (a : ℕ → ℕ → ℕ → ℝ) (ha : ∀ i : S4x8192x6144.Idx, A i = ((a (i 0).val (i 1).val (i 2).val : ℝ) : EReal))
include ha

theorem qR_real (b : Fin 4) (h : Fin 16) (n : Fin 8192) (d : Fin 128) : qR A (ix4 b h n d) = ((a b.val n.val (128 * h.val + d.val) : ℝ) : EReal) := by
  unfold qR headsR
  pointwise
  rw [ha]
  show ((a b.val n.val (h.val * 128 + d.val) : ℝ) : EReal) = _
  rw [Nat.mul_comm]
theorem kR_real (b : Fin 4) (h : Fin 16) (n : Fin 8192) (d : Fin 128) : kR A (ix4 b h n d) = ((a b.val n.val (2048 + (128 * h.val + d.val)) : ℝ) : EReal) := by
  unfold kR headsR
  pointwise
  rw [ha]
  show ((a b.val n.val (2048 + h.val * 128 + d.val) : ℝ) : EReal) = _
  rw [Nat.mul_comm, Nat.add_assoc]
theorem vR_real (b : Fin 4) (h : Fin 16) (n : Fin 8192) (d : Fin 128) : vR A (ix4 b h n d) = ((a b.val n.val (4096 + (128 * h.val + d.val)) : ℝ) : EReal) := by
  unfold vR headsR
  pointwise
  rw [ha]
  show ((a b.val n.val (4096 + h.val * 128 + d.val) : ℝ) : EReal) = _
  rw [Nat.mul_comm, Nat.add_assoc]

omit ha in
/-- The reference's scale. -/
theorem scale_r : (Ideal.div 1 (Ideal.sqrt (Ideal.ofBits FTy.f32 1124073472#32)) : EReal) = ((1 / √128 : ℝ) : EReal) := by
  have e1 : Ideal.ofBits FTy.f32 1124073472#32 = ((128 : ℝ) : EReal) := by
    simp [Ideal.ofBits, Ideal.ieee, -EReal.coe_mul]; norm_num
  have h8 : (0 : ℝ) < √128 := Real.sqrt_pos.mpr (by norm_num)
  rw [e1, Ideal.sqrt_coe, if_neg (by norm_num), Ideal.div, if_neg ?_, ← EReal.coe_inv, ← EReal.coe_one, ← EReal.coe_mul, one_div, one_mul]
  exact fun h => h8.ne' (EReal.coe_eq_zero.mp h)

/-- A row's logits, from the real argument. -/
def zE (a : ℕ → ℕ → ℕ → ℝ) (b h n j : ℕ) : ℝ := (∑ d : Fin 128, a b n (128 * h + d.val) * a b j (2048 + (128 * h + d.val))) * (1 / √128)

theorem zR_real (b : Fin 4) (h : Fin 16) (n j : Fin 8192) : zR A (ix4 b h n j) = ((zE a b.val h.val n.val j.val : ℝ) : EReal) := by
  unfold zR
  pointwise
  show ((∑ d : Fin 128, qR A (ix4 b h n d) * kR A (ix4 b h j d)) * Ideal.div 1 (Ideal.sqrt (Ideal.ofBits FTy.f32 1124073472#32)) : EReal) = _
  rw [scale_r, Finset.sum_congr rfl (fun d _ => by rw [qR_real A a ha, kR_real A a ha, ← EReal.coe_mul]), Cert.Proof.SB.coe_sum, ← EReal.coe_mul]
  rfl

/-- An element of the result, from the real argument. -/
def rval (a : ℕ → ℕ → ℕ → ℝ) (R C : ℕ) : ℝ :=
  ∑ j ∈ Finset.range (R % 8192), wtR (zE a (R / 8192) (C / 128) (R % 8192)) (R % 8192) j * a (R / 8192) j (4096 + (128 * (C / 128) + C % 128))

theorem outR_real (i : S32768x2048.Idx) : outR A i = ((rval a (i 0).val (i 1).val : ℝ) : EReal) := by
  have hi0 : (i 0).val < 32768 := (i 0).isLt
  have hi1 : (i 1).val < 2048 := (i 1).isLt
  unfold outR
  pointwise
  show (∑ x : Fin 8192, aR (zR A) (ix4 (⟨(i 0).val / 8192, by omega⟩ : Fin 4) (⟨(i 1).val / 128, by omega⟩ : Fin 16) (⟨(i 0).val % 8192, by omega⟩ : Fin 8192) x)
    * vR A (ix4 (⟨(i 0).val / 8192, by omega⟩ : Fin 4) (⟨(i 1).val / 128, by omega⟩ : Fin 16) x (⟨(i 1).val % 128, by omega⟩ : Fin 128)) : EReal) = _
  rw [Finset.sum_congr rfl (fun x _ => by
    rw [vR_real A a ha, aR_real (zR A) _ _ _ _ (zE a ((i 0).val / 8192) ((i 1).val / 128) ((i 0).val % 8192)) (fun j => zR_real A a ha _ _ _ j), ← EReal.coe_mul]),
    Cert.Proof.SB.coe_sum]
  refine congrArg _ ?_
  unfold rval
  rw [Fin.sum_univ_eq_sum_range (fun x => (if x < (i 0).val % 8192 then wtR (zE a ((i 0).val / 8192) ((i 1).val / 128) ((i 0).val % 8192)) ((i 0).val % 8192) x else 0)
    * a ((i 0).val / 8192) x (4096 + (128 * ((i 1).val / 128) + (i 1).val % 128))) 8192]
  symm
  refine (Finset.sum_congr rfl fun x hx => ?_).trans (Finset.sum_subset (fun x hx => ?_) fun x _ hx => ?_)
  · rw [if_pos (Finset.mem_range.mp hx)]
  · rw [Finset.mem_range] at hx ⊢; omega
  · rw [if_neg (fun h => hx (Finset.mem_range.mpr h)), zero_mul]

end Cert.Proof.Ref
-- ==== Proof.Algebraic.lean ====
/-
  The kernel's result is the reference's: the two sums, each in its own base, are one.
-/
module

public import proofs.«01_k».proof.Defs
public import proofs.«01_k».proof.Proof.Gen.Pre_finite_args
public import proofs.«01_k».proof.Proof.PI.Final
public import proofs.«01_k».proof.Proof.RefReal
public import Idealize.ShloMosaic.Lib.ReduceAll

@[expose] public section

set_option maxRecDepth 16384

noncomputable section

namespace Cert.Proof

open Cert.Proof.SB Cert.Proof.SB.PI Cert.Proof.Ref
open Idealize.ShloMosaic Idealize.ShloMosaic.TcCoe Idealize.SL Idealize.SL.Sem

/-! ### Base two and base e -/

theorem log_two_pos : 0 < Real.log 2 := Real.log_pos (by norm_num)

/-- A power of two, as an exponential. -/
theorem two_pow (t : ℝ) : (2 : ℝ) ^ (t / Real.log 2) = Real.exp t := by
  rw [Real.rpow_def_of_pos (by norm_num), mul_div_cancel₀ _ log_two_pos.ne']

/-- The kernel's softplus is the natural one over `log 2`. -/
theorem sp2_eq (t : ℝ) : sp2 (t / Real.log 2) = soft t / Real.log 2 := by
  unfold sp2 ln2i soft
  rw [two_pow, ← div_eq_mul_inv]
  refine max_eq_right (div_le_div_of_nonneg_right ?_ log_two_pos.le)
  rw [Real.le_log_iff_exp_le (by positivity)]
  linarith

/-- The kernel's logits are the reference's over `log 2`. -/
theorem z_eq (a : ℕ → ℕ → ℕ → ℝ) (b h qi r j : ℕ) : (renv a b h qi).z r j = zE a b h (2048 * qi + r) j / Real.log 2 := by
  unfold REnv.z renv zE
  dsimp only
  rw [Finset.sum_mul, Finset.sum_div]
  refine Finset.sum_congr rfl fun d _ => ?_
  have h8 : (0 : ℝ) < √128 := Real.sqrt_pos.mpr (by norm_num)
  have h2 := log_two_pos
  field_simp

/-- The kernel's weights are the reference's. -/
theorem wt_eq (a : ℕ → ℕ → ℕ → ℝ) (b h qi r j : ℕ) :
    (renv a b h qi).wt (2048 * qi + r) r j = wtR (zE a b h (2048 * qi + r)) (2048 * qi + r) j := by
  unfold REnv.wt REnv.sp wtR
  rw [← two_pow]
  congr 1
  simp only [z_eq, sp2_eq]
  rw [← Finset.sum_div]
  ring

/-- The two results' elements are one. -/
theorem kval_eq (a : ℕ → ℕ → ℕ → ℝ) (R C : ℕ) : kval a R C = rval a R C := by
  unfold kval rval REnv.acc
  have e : R % 8192 = 2048 * (R % 8192 / 2048) + R % 8192 % 2048 := (Nat.div_add_mod _ _).symm
  rw [Nat.Ico_zero_eq_range]
  refine Finset.sum_congr rfl fun j _ => ?_
  have hw := wt_eq a (R / 8192) (C / 128) (R % 8192 / 2048) (R % 8192 % 2048) j
  rw [← e] at hw
  rw [hw]
  rfl

/-! ### The precondition -/

instance : Subsingleton Cert.Pre_finite_args.S_.Idx := ⟨fun _ _ => funext fun a => a.elim0⟩

/-- An argument whose elements all lie strictly between the infinities is real. -/
theorem real_of_pre (A : FVec Ideal Cert.Pre_finite_args.S4x8192x6144 .f32) (h : Cert.Pre_finite_args.fn (F := Ideal) A = fun _ => 1#1)
    (i : Cert.Pre_finite_args.S4x8192x6144.Idx) : A i = ((EReal.toReal (A i) : ℝ) : EReal) := by
  have h1 := Host.reduce_andi_all _ _ _ _ (fun a => a.elim0) (congrFun h (fun a => a.elim0)) i
  have h2 : IntOp.andi (Ideal.cmp .ogt (A i) (Ideal.ofBits .f32 0xFF800000#32)) (Ideal.cmp .olt (A i) (Ideal.ofBits .f32 0x7F800000#32)) = 1#1 := h1
  have e1 : Ideal.ofBits .f32 0xFF800000#32 = (⊥ : EReal) := by simp [Ideal.ofBits, Ideal.ieee]
  have e2 : Ideal.ofBits .f32 0x7F800000#32 = (⊤ : EReal) := by simp [Ideal.ofBits, Ideal.ieee]
  rw [e1, e2] at h2
  refine (EReal.coe_toReal (fun ht => ?_) (fun hb => ?_)).symm
  · rw [ht] at h2
    revert h2
    simp [Ideal.cmp, IntOp.andi]
  · rw [hb] at h2
    revert h2
    simp [Ideal.cmp, IntOp.andi]

/-! ### The claim -/

/-- The argument's elements as a real function of batch, position and column. -/
def realArg (A : FVec Ideal Cert.Pre_finite_args.S4x8192x6144 .f32) (b n C : ℕ) : ℝ :=
  EReal.toReal (A (ix3 (⟨b % 4, Nat.mod_lt _ (by norm_num)⟩ : Fin 4) (⟨n % 8192, Nat.mod_lt _ (by norm_num)⟩ : Fin 8192) (⟨C % 6144, Nat.mod_lt _ (by norm_num)⟩ : Fin 6144)))

theorem realArg_at (A : FVec Ideal Cert.Pre_finite_args.S4x8192x6144 .f32) (hA : ∀ i, A i = ((EReal.toReal (A i) : ℝ) : EReal))
    (i : Cert.Pre_finite_args.S4x8192x6144.Idx) : A i = ((realArg A (i 0).val (i 1).val (i 2).val : ℝ) : EReal) := by
  refine (hA i).trans (congrArg _ ?_)
  unfold realArg
  refine congrArg (fun j => EReal.toReal (A j)) ?_
  funext a
  rcases a with ⟨_ | _ | _ | _, ha⟩
  · exact Fin.ext (Nat.mod_eq_of_lt (i 0).isLt).symm
  · exact Fin.ext (Nat.mod_eq_of_lt (i 1).isLt).symm
  · exact Fin.ext (Nat.mod_eq_of_lt (i 2).isLt).symm
  · exact absurd ha (by show ¬ (_ < 3); omega)

/-- From real arguments, the ideal kernel and the reference end with one result. -/
theorem algebraic : Cert.algebraic_KernelIdeal_ReferenceIdeal_pre_finite_args := by
  intro m g m' g' hpre hagree
  let A : (c : Dev Cert.KernelIdeal.nD) → FVec Ideal Cert.Pre_finite_args.S4x8192x6144 .f32 := fun c => m ((c.tc : Thread Cert.KernelIdeal.nD Cert.KernelIdeal.τ).loc Cert.KernelIdeal.main_arg0)
  have hA : ∀ c i, A c i = ((realArg (A c) (i 0).val (i 1).val (i 2).val : ℝ) : EReal) := fun c => realArg_at (A c) (real_of_pre (A c) (hpre c))
  refine ⟨fun c => (fun i => ((kval (realArg (A c)) (i 0).val (i 1).val : ℝ) : EReal) : FVec Ideal Cert.KernelIdeal.S32768x2048 .bf16), ?_, ?_⟩
  · refine (θ_run Cert.KernelIdeal.defs _ _).mono (fun r h c => ⟨funext (h c).1, (h c).2⟩) (SB.PI.value m g (fun c => realArg (A c)) (fun c b n C => hA c _))
  · refine (θ_run Cert.ReferenceIdeal.defs _ _).mono (fun r h c => ⟨?_, (h c).2⟩) (Ref.run_value m' g')
    refine (h c).1.trans ?_
    rw [hagree c]
    funext i
    refine (Ref.outR_real (A c) (realArg (A c)) (hA c) i).trans ?_
    rw [← kval_eq]

end Cert.Proof
-- ==== Proof.Mlp.Cases.lean ====
/-
  What one grid point of the MLP's kernel leaves behind, in its three cases: the first tile of the hidden layer, a tile in
  between, and the last one, which also writes the normalised rows.
-/
module

public import proofs.«01_k».proof.Proof.Gen.Kernel2Ideal.Frame
public import Idealize.ShloMosaic.Lib.Pipeline.Value
public import Idealize.ShloMosaic.Lib.Tactic

@[expose] public section

set_option maxRecDepth 16384

noncomputable section

namespace Cert.Proof.Mlp

open Cert.Kernel2Ideal Cert.Kernel2Ideal.Gen
open Idealize.ShloMosaic Idealize.ShloMosaic.TcCoe Idealize.SL.Sem

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

section
variable (c : Dev nD) (i : grid0.Coords)
  (a0 : Memref sig .tc .vmem S1x2048x1024 .bf16) (h0 : a0.IsWhole) (a1 : Memref sig .tc .vmem S1x1024x2048 .bf16) (h1 : a1.IsWhole)
  (a2 : Memref sig .tc .vmem S512x2048 .f32) (h2 : a2.IsWhole) (a3 : Memref sig .tc .vmem S1x2048 .f32) (h3 : a3.IsWhole)
  (a4 : Memref sig .tc .vmem S1x2048 .f32) (h4 : a4.IsWhole) (a5 : Memref sig .tc .vmem S512x2048 .f32) (h5 : a5.IsWhole)
  (a6 : Memref sig .tc .vmem S512x2048 .bf16) (h6 : a6.IsWhole) (a7 : Memref sig .tc .vmem S512x2048 .f32) (h7 : a7.IsWhole)
  (wu : Vec F S1x2048x1024 .bf16) (wd : Vec F S1x1024x2048 .bf16) (x : Vec F S512x2048 .f32) (g b : Vec F S1x2048 .f32) (acc : Vec F S512x2048 .f32)

/-- The first tile: its product is added to zero. -/
theorem first (hc0 : cond0_0 i) (hc1 : ¬cond0_1 i) :
    sout0_A_0 c i a0 h0 a1 h1 a2 h2 a3 h3 a4 h4 a5 h5 a6 h6 a7 h7 hc0 hc1 wu wd x g b = k0_pay2 x wu k0_pay1 wd := by
  unfold sout0_A_0
  rw [View.read_writes_eq_canon _ _ _ (scover0_A_0 c i a0 h0 a1 h1 a2 h2 a3 h3 a4 h4 a5 h5 a6 h6 a7 h7 hc0 hc1 wu wd x g b)]
  unfold kernelRun0_A
  dsimp only
  sl_unfold_words
  rw [View.canon_cons_unit_zero (S := S512x2048) zero2, View.readCov_unit_zero (S := S512x2048) _ zero2]
  simp only [View.readAt_eq_ld, h0.read_unread, h1.read_unread, h2.read_unread, View.ld_unit_zero (S := S512x2048) zero2,
    View.ld_unit_zero (S := S1x2048x1024) zero3, View.ld_unit_zero (S := S1x1024x2048) zero3]

/-- A tile in between: its product is added to what was there. -/
theorem middle (hc0 : ¬cond0_0 i) (hc1 : ¬cond0_1 i) :
    sout0_B_0 c i a0 h0 a1 h1 a2 h2 a3 h3 a4 h4 a5 h5 a6 h6 a7 h7 hc0 hc1 wu wd x g b acc = k0_pay2 x wu acc wd := by
  unfold sout0_B_0
  rw [View.read_writes_eq_canon _ _ _ (scover0_B_0 c i a0 h0 a1 h1 a2 h2 a3 h3 a4 h4 a5 h5 a6 h6 a7 h7 hc0 hc1 wu wd x g b acc)]
  unfold kernelRun0_B
  dsimp only
  rw [View.canon_unit_zero (S := S512x2048) zero2]
  simp only [View.readAt_eq_ld, h0.read_unread, h1.read_unread, h2.read_unread, h7.read_unread, View.ld_unit_zero (S := S512x2048) zero2,
    View.ld_unit_zero (S := S1x2048x1024) zero3, View.ld_unit_zero (S := S1x1024x2048) zero3]

/-- The last tile's product is added too. -/
theorem last_acc (hc0 : ¬cond0_0 i) (hc1 : cond0_1 i) :
    sout0_C_0 c i a0 h0 a1 h1 a2 h2 a3 h3 a4 h4 a5 h5 a6 h6 a7 h7 hc0 hc1 wu wd x g b acc = k0_pay2 x wu acc wd := by
  unfold sout0_C_0
  rw [View.read_writes_eq_canon _ _ _ (scover0_C_0 c i a0 h0 a1 h1 a2 h2 a3 h3 a4 h4 a5 h5 a6 h6 a7 h7 hc0 hc1 wu wd x g b acc)]
  unfold kernelRun0_C
  dsimp only
  sl_unfold_words
  rw [View.canon_unit_zero (S := S512x2048) zero2]
  simp only [View.readAt_eq_ld, h0.read_unread, h1.read_unread, h2.read_unread, h7.read_unread, View.ld_unit_zero (S := S512x2048) zero2,
    View.ld_unit_zero (S := S1x2048x1024) zero3, View.ld_unit_zero (S := S1x1024x2048) zero3]

/-- The last tile leaves the normalised rows in the first result's block. -/
theorem last (hc0 : ¬cond0_0 i) (hc1 : cond0_1 i) :
    out0_C_5 c i a0 h0 a1 h1 a2 h2 a3 h3 a4 h4 a5 h5 a6 h6 a7 h7 hc0 hc1 wu wd x g b acc = k0_pay3 x (k0_pay2 x wu acc wd) g b := by
  unfold out0_C_5
  rw [View.read_writes_eq_canon _ _ _ (cover0_C_5 c i a0 h0 a1 h1 a2 h2 a3 h3 a4 h4 a5 h5 a6 h6 a7 h7 hc0 hc1 wu wd x g b acc)]
  unfold kernelRun0_C
  dsimp only
  sl_unfold_words
  rw [View.canon_unit_zero (S := S512x2048) zero2, View.readCov_unit_zero (S := S512x2048) _ zero2]
  simp only [View.readAt_eq_ld, h0.read_unread, h1.read_unread, h2.read_unread, h3.read_unread, h4.read_unread, h7.read_unread,
    View.ld_unit_zero (S := S512x2048) zero2, View.ld_unit_zero (S := S1x2048) zero2,
    View.ld_unit_zero (S := S1x2048x1024) zero3, View.ld_unit_zero (S := S1x1024x2048) zero3]

/-- And the same rows, cast, in the second one's. -/
theorem last_cast (hc0 : ¬cond0_0 i) (hc1 : cond0_1 i) :
    out0_C_6 c i a0 h0 a1 h1 a2 h2 a3 h3 a4 h4 a5 h5 a6 h6 a7 h7 hc0 hc1 wu wd x g b acc = k0_pay4 x (k0_pay2 x wu acc wd) g b := by
  unfold out0_C_6
  rw [View.read_writes_eq_canon _ _ _ (cover0_C_6 c i a0 h0 a1 h1 a2 h2 a3 h3 a4 h4 a5 h5 a6 h6 a7 h7 hc0 hc1 wu wd x g b acc)]
  unfold kernelRun0_C
  dsimp only
  sl_unfold_words
  rw [View.canon_unit_zero (S := S512x2048) zero2, View.readCov_unit_zero (S := S512x2048) _ zero2]
  simp only [View.readAt_eq_ld, h0.read_unread, h1.read_unread, h2.read_unread, h3.read_unread, h4.read_unread, h7.read_unread,
    View.ld_unit_zero (S := S512x2048) zero2, View.ld_unit_zero (S := S1x2048) zero2,
    View.ld_unit_zero (S := S1x2048x1024) zero3, View.ld_unit_zero (S := S1x1024x2048) zero3]
end

end Cert.Proof.Mlp

end
-- ==== Proof.Mlp.Reads.lean ====
/-
  The blocks that a grid point of the MLP's kernel reads, as entries of the program's arguments.
-/
module

public import proofs.«01_k».proof.Proof.Gen.Kernel2Ideal.Frame
public import Idealize.ShloMosaic.Lib.ValueIdx
public import Idealize.ShloMosaic.Lib.StableHlo.ReadAt
public import Idealize.ShloMosaic.Lib.Pointwise
public import Idealize.ShloMosaic.Lib.Pipeline.ValueKit.Geometry

@[expose] public section

set_option maxRecDepth 16384

noncomputable section

namespace Cert.Proof.Mlp

open Cert.Kernel2Ideal Cert.Kernel2Ideal.Gen
open Idealize.ShloMosaic hiding ix1 ix2 ix3 ix4 ix5
open Idealize.ShloMosaic.ValueIdx

variable (m : (ℓ : Loc nD τ sig) → Buf (Elt Ideal) ℓ) (c : Dev nD)

/-- The rows that enter the MLP. -/
def argX : Vec Ideal S32768x2048 .f32 := m ((c.tc : Thread nD τ).loc main_arg0)
/-- The weights into the hidden layer. -/
def argU : Vec Ideal S2048x8192 .f32 := m ((c.tc : Thread nD τ).loc main_arg1)
/-- The weights out of it. -/
def argD : Vec Ideal S8192x2048 .f32 := m ((c.tc : Thread nD τ).loc main_arg2)
/-- The norm's scale. -/
def argG : Vec Ideal S2048 .f32 := m ((c.tc : Thread nD τ).loc main_arg3)
/-- The norm's shift. -/
def argB : Vec Ideal S2048 .f32 := m ((c.tc : Thread nD τ).loc main_arg4)

/-- The launch finds the weights as they were given. -/
theorem up_at (d : Fin 2048) (k : Fin 8192) :
    (V m c main_v1 : Vec Ideal S1x2048x8192 .bf16) (ix3 0 d k) = (argU m c (ix2 d k) : EReal) := by
  unfold V
  after_reads_at
  rfl

theorem down_at (k : Fin 8192) (j : Fin 2048) :
    (V m c main_v3 : Vec Ideal S1x8192x2048 .bf16) (ix3 0 k j) = (argD m c (ix2 k j) : EReal) := by
  unfold V
  after_reads_at
  rfl

/-- The norm's scale and shift, as rows. -/
theorem scale_at (j : Fin 2048) :
    (V m c main_v4 : Vec Ideal S1x2048 .f32) (ix2 0 j) = (argG m c (ix1 j) : EReal) := by
  unfold V
  after_reads_at
  rfl

theorem shift_at (j : Fin 2048) :
    (V m c main_v5 : Vec Ideal S1x2048 .f32) (ix2 0 j) = (argB m c (ix1 j) : EReal) := by
  unfold V
  after_reads_at
  rfl

/-- The blocks' positions in their arrays. -/
theorem win_up : ∀ t : Fin grid0.N, win0_0.index t 0 = 0 ∧ win0_0.index t 1 = 0 ∧ win0_0.index t 2 = t.val % 8 := by decide +kernel
theorem win_down : ∀ t : Fin grid0.N, win0_1.index t 0 = 0 ∧ win0_1.index t 1 = t.val % 8 ∧ win0_1.index t 2 = 0 := by decide +kernel
theorem win_x : ∀ t : Fin grid0.N, win0_2.index t 0 = t.val / 8 ∧ win0_2.index t 1 = 0 := by decide +kernel
theorem win_g : ∀ t : Fin grid0.N, win0_3.index t 0 = 0 ∧ win0_3.index t 1 = 0 := by decide +kernel
theorem win_b : ∀ t : Fin grid0.N, win0_4.index t 0 = 0 ∧ win0_4.index t 1 = 0 := by decide +kernel

variable (t : Fin grid0.N)

/-- A tile of the weights into the hidden layer. -/
theorem blk_up (d : Fin 2048) (k : Fin 1024) (K : Fin 8192) (hK : K.val = 1024 * (t.val % 8) + k.val) :
    (iblk m c 0 t : Vec Ideal S1x2048x1024 .bf16) (ix3 0 d k) = (argU m c (ix2 d K) : EReal) := by
  rw [← up_at]
  show V m c main_v1 ((win0_0.blk t).view.emb (ix3 0 d k)) = _
  refine congrArg (V m c main_v1) ?_
  funext a
  rcases a with ⟨_ | _ | _ | _, ha⟩
  · refine Fin.ext ?_
    show ((win0_0.blk t).view.emb (ix3 0 d k) 0).val = 0
    blk_simp
    rw [(win_up t).1]
  · refine Fin.ext ?_
    show ((win0_0.blk t).view.emb (ix3 0 d k) 1).val = d.val
    blk_simp
    rw [(win_up t).2.1]
    show _ + d.val = _
    ring
  · refine Fin.ext ?_
    show ((win0_0.blk t).view.emb (ix3 0 d k) 2).val = K.val
    blk_simp
    rw [(win_up t).2.2, hK]
    show _ + k.val = _
    ring
  · exact absurd ha (by show ¬ (_ < 3); omega)

/-- A tile of the weights out of it. -/
theorem blk_down (k : Fin 1024) (j : Fin 2048) (K : Fin 8192) (hK : K.val = 1024 * (t.val % 8) + k.val) :
    (iblk m c 1 t : Vec Ideal S1x1024x2048 .bf16) (ix3 0 k j) = (argD m c (ix2 K j) : EReal) := by
  rw [← down_at]
  show V m c main_v3 ((win0_1.blk t).view.emb (ix3 0 k j)) = _
  refine congrArg (V m c main_v3) ?_
  funext a
  rcases a with ⟨_ | _ | _ | _, ha⟩
  · refine Fin.ext ?_
    show ((win0_1.blk t).view.emb (ix3 0 k j) 0).val = 0
    blk_simp
    rw [(win_down t).1]
  · refine Fin.ext ?_
    show ((win0_1.blk t).view.emb (ix3 0 k j) 1).val = K.val
    blk_simp
    rw [(win_down t).2.1, hK]
    show _ + k.val = _
    ring
  · refine Fin.ext ?_
    show ((win0_1.blk t).view.emb (ix3 0 k j) 2).val = j.val
    blk_simp
    rw [(win_down t).2.2]
    show _ + j.val = _
    ring
  · exact absurd ha (by show ¬ (_ < 3); omega)

/-- A block of rows. -/
theorem blk_x (r : Fin 512) (j : Fin 2048) (R : Fin 32768) (hR : R.val = 512 * (t.val / 8) + r.val) :
    (iblk m c 2 t : Vec Ideal S512x2048 .f32) (ix2 r j) = (argX m c (ix2 R j) : EReal) := by
  show V m c main_arg0 ((win0_2.blk t).view.emb (ix2 r j)) = _
  rw [V_main_arg0]
  refine congrArg (argX m c) ?_
  funext a
  rcases a with ⟨_ | _ | _, ha⟩
  · refine Fin.ext ?_
    show ((win0_2.blk t).view.emb (ix2 r j) 0).val = R.val
    blk_simp
    rw [(win_x t).1, hR]
    show _ + r.val = _
    ring
  · refine Fin.ext ?_
    show ((win0_2.blk t).view.emb (ix2 r j) 1).val = j.val
    blk_simp
    rw [(win_x t).2]
    show _ + j.val = _
    ring
  · exact absurd ha (by show ¬ (_ < 2); omega)

/-- The norm's scale. -/
theorem blk_g (j : Fin 2048) :
    (iblk m c 3 t : Vec Ideal S1x2048 .f32) (ix2 0 j) = (argG m c (ix1 j) : EReal) := by
  rw [← scale_at]
  show V m c main_v4 ((win0_3.blk t).view.emb (ix2 0 j)) = _
  refine congrArg (V m c main_v4) ?_
  funext a
  rcases a with ⟨_ | _ | _, ha⟩
  · refine Fin.ext ?_
    show ((win0_3.blk t).view.emb (ix2 0 j) 0).val = 0
    blk_simp
    rw [(win_g t).1]
  · refine Fin.ext ?_
    show ((win0_3.blk t).view.emb (ix2 0 j) 1).val = j.val
    blk_simp
    rw [(win_g t).2]
    show _ + j.val = _
    ring
  · exact absurd ha (by show ¬ (_ < 2); omega)

/-- The norm's shift. -/
theorem blk_b (j : Fin 2048) :
    (iblk m c 4 t : Vec Ideal S1x2048 .f32) (ix2 0 j) = (argB m c (ix1 j) : EReal) := by
  rw [← shift_at]
  show V m c main_v5 ((win0_4.blk t).view.emb (ix2 0 j)) = _
  refine congrArg (V m c main_v5) ?_
  funext a
  rcases a with ⟨_ | _ | _, ha⟩
  · refine Fin.ext ?_
    show ((win0_4.blk t).view.emb (ix2 0 j) 0).val = 0
    blk_simp
    rw [(win_b t).1]
  · refine Fin.ext ?_
    show ((win0_4.blk t).view.emb (ix2 0 j) 1).val = j.val
    blk_simp
    rw [(win_b t).2]
    show _ + j.val = _
    ring
  · exact absurd ha (by show ¬ (_ < 2); omega)

end Cert.Proof.Mlp

end
-- ==== Proof.Mlp.Tile.lean ====
/-
  What a tile adds, element by element, and the norm of a block of rows.
-/
module

public import proofs.«01_k».proof.Proof.Mlp.Cases
public import proofs.«01_k».proof.Proof.Mlp.Reads

@[expose] public section

set_option maxRecDepth 16384

noncomputable section

namespace Cert.Proof.Mlp

open Cert.Kernel2Ideal Cert.Kernel2Ideal.Gen
open Idealize.ShloMosaic hiding ix1 ix2 ix3 ix4 ix5
open Idealize.ShloMosaic.ValueIdx

/-- The square of the positive part. -/
def sq (z : EReal) : EReal := max z 0 * max z 0

/-- The norm of a row `y`, at `j`, with scale `g` and shift `b`. -/
def norm (y : Fin 2048 → EReal) (g b : EReal) (j : Fin 2048) : EReal :=
  let mu : EReal := Ideal.div (∑ i, y i) (Ideal.ofBits .f32 0x45000000#32)
  let var : EReal := Ideal.div (∑ i, (y i - mu) * (y i - mu)) (Ideal.ofBits .f32 0x45000000#32)
  (y j - mu) * Ideal.rsqrt (var + Ideal.ofBits .f32 0x3727C5AC#32) * g + b

/-- A tile's step. -/
theorem pay2_at (x : Vec Ideal S512x2048 .f32) (wu : Vec Ideal S1x2048x1024 .bf16) (acc : Vec Ideal S512x2048 .f32) (wd : Vec Ideal S1x1024x2048 .bf16)
    (r : Fin 512) (j : Fin 2048) :
    k0_pay2 x wu acc wd (ix2 r j) = acc (ix2 r j) + ∑ k : Fin 1024, sq (∑ d : Fin 2048, x (ix2 r d) * wu (ix3 0 d k)) * wd (ix3 0 k j) := by
  unfold k0_pay2
  pointwise
  rfl

/-- What the first tile is added to. -/
theorem pay1_at (r : Fin 512) (j : Fin 2048) : (k0_pay1 : FVec Ideal S512x2048 .f32) (ix2 r j) = (0 : EReal) := by
  unfold k0_pay1
  pointwise

/-- The norm of a block. -/
theorem pay3_at (x acc : Vec Ideal S512x2048 .f32) (g b : Vec Ideal S1x2048 .f32) (r : Fin 512) (j : Fin 2048) :
    k0_pay3 x acc g b (ix2 r j) = norm (fun i => Ideal.ofBits .f32 0x3FB504F3#32 * x (ix2 r i) + acc (ix2 r i)) (g (ix2 0 j)) (b (ix2 0 j)) j := by
  unfold k0_pay3
  pointwise
  rfl

end Cert.Proof.Mlp

end
-- ==== Proof.Mlp.Final.lean ====
/-
  What the MLP's kernel leaves in its two results: each row's sum over the hidden layer, tile by tile, then its norm.
-/
module

public import proofs.«01_k».proof.Proof.Mlp.Tile
public import proofs.«01_k».proof.Proof.Gen.Kernel2Ideal.Value

@[expose] public section

set_option maxRecDepth 16384

noncomputable section

namespace Cert.Proof.Mlp

open Cert.Kernel2Ideal Cert.Kernel2Ideal.Gen
open Idealize.ShloMosaic hiding ix1 ix2 ix3 ix4 ix5
open Idealize.ShloMosaic.ValueIdx

variable (m : (ℓ : Loc nD τ sig) → Buf (Elt Ideal) ℓ) (c : Dev nD)

/-- What one unit of the hidden layer adds to an entry of the result (nothing, past the last unit). -/
def unit (R : Fin 32768) (j : Fin 2048) (n : ℕ) : EReal :=
  if h : n < 8192 then sq (∑ d : Fin 2048, argX m c (ix2 R d) * argU m c (ix2 d ⟨n, h⟩)) * argD m c (ix2 ⟨n, h⟩ j) else 0

/-- A tile's step adds its units. -/
theorem tile_at (t : Fin grid0.N) (acc : Vec Ideal S512x2048 .f32) (r : Fin 512) (j : Fin 2048) (R : Fin 32768) (hR : R.val = 512 * (t.val / 8) + r.val) :
    k0_pay2 (iblk m c 2 t) (iblk m c 0 t) acc (iblk m c 1 t) (ix2 r j)
      = acc (ix2 r j) + ∑ k ∈ Finset.range 1024, unit m c R j (1024 * (t.val % 8) + k) := by
  rw [pay2_at, Finset.sum_range]
  refine congrArg (acc (ix2 r j) + ·) (Finset.sum_congr rfl fun k _ => ?_)
  have hk : 1024 * (t.val % 8) + k.val < 8192 := by omega
  rw [unit, dif_pos hk, blk_down m c t k j ⟨_, hk⟩ rfl]
  refine congrArg (fun z => sq z * _) (Finset.sum_congr rfl fun d _ => ?_)
  rw [blk_x m c t r d R hR, blk_up m c t d k ⟨_, hk⟩ rfl]

/-- After each point, the accumulator holds the units of the tiles so far. -/
theorem acc_at : ∀ (n : ℕ) (h : n < cfg0.N) (r : Fin 512) (j : Fin 2048) (R : Fin 32768), R.val = 512 * (n / 8) + r.val →
    (outsAt0 m c n h).2.2 (ix2 r j) = ∑ k ∈ Finset.range (1024 * (n % 8 + 1)), unit m c R j k := by
  intro n
  induction n with
  | zero =>
    intro h r j R hR
    rw [outsAt0_A m c ⟨0, h⟩ rfl (fun h7 => absurd h7 (by show ¬ (0 % 8 = 7); decide))]
    dsimp only
    rw [first, tile_at m c ⟨0, h⟩ _ r j R hR, pay1_at, zero_add]
    refine Finset.sum_congr rfl fun k _ => ?_
    norm_num
  | succ n ih =>
    intro h r j R hR
    by_cases h0 : (n + 1) % 8 = 0
    · have h1 : ¬ (n + 1) % 8 = 7 := by omega
      rw [outsAt0_A m c ⟨n + 1, h⟩ h0 h1]
      dsimp only
      rw [first, tile_at m c ⟨n + 1, h⟩ _ r j R hR, pay1_at, zero_add]
      dsimp only
      rw [h0]
      refine Finset.sum_congr rfl fun k _ => ?_
      norm_num
    · have e : (outsAt0 m c (n + 1) h).2.2 = k0_pay2 (iblk m c 2 ⟨n + 1, h⟩) (iblk m c 0 ⟨n + 1, h⟩) (outsAt0 m c n (Nat.lt_of_succ_lt h)).2.2 (iblk m c 1 ⟨n + 1, h⟩) := by
        by_cases h1 : (n + 1) % 8 = 7
        · rw [outsAt0_C m c ⟨n + 1, h⟩ h0 h1]
          dsimp only
          rw [last_acc]
          simp only [Nat.add_sub_cancel]
        · rw [outsAt0_B m c ⟨n + 1, h⟩ h0 h1]
          dsimp only
          rw [middle]
          simp only [Nat.add_sub_cancel]
      rw [e, tile_at m c ⟨n + 1, h⟩ _ r j R hR, ih (Nat.lt_of_succ_lt h) r j R (by omega)]
      have hs : 1024 * ((n + 1) % 8 + 1) = 1024 * (n % 8 + 1) + 1024 := by omega
      have hm : (n + 1) % 8 = n % 8 + 1 := by omega
      rw [hs, Finset.sum_range_add]
      dsimp only
      rw [hm]

/-- A row before its norm. -/
def pre (R : Fin 32768) (i : Fin 2048) : EReal :=
  Ideal.ofBits .f32 0x3FB504F3#32 * argX m c (ix2 R i) + ∑ k : Fin 8192, sq (∑ d : Fin 2048, argX m c (ix2 R d) * argU m c (ix2 d k)) * argD m c (ix2 k i)

/-- A row after it. -/
def post (R : Fin 32768) (j : Fin 2048) : EReal := norm (pre m c R) (argG m c (ix1 j)) (argB m c (ix1 j)) j

/-- The last tile's point leaves the normalised rows. -/
theorem outs_at (n : ℕ) (h : n < cfg0.N) (h7 : n % 8 = 7) (r : Fin 512) (j : Fin 2048) (R : Fin 32768) (hR : R.val = 512 * (n / 8) + r.val) :
    (outsAt0 m c n h).1 (ix2 r j) = post m c R j ∧ (outsAt0 m c n h).2.1 (ix2 r j) = post m c R j := by
  have h0 : ¬ n % 8 = 0 := by omega
  have hacc := fun i => acc_at m c n h r i R hR
  rw [outsAt0_C m c ⟨n, h⟩ h0 h7] at hacc ⊢
  dsimp only at hacc ⊢
  rw [last_acc] at hacc
  rw [last, last_cast]
  have key : ∀ a : Vec Ideal S512x2048 .f32, (∀ i, a (ix2 r i) = ∑ k ∈ Finset.range (1024 * (n % 8 + 1)), unit m c R i k) →
      k0_pay3 (iblk m c 2 ⟨n, h⟩) a (iblk m c 3 ⟨n, h⟩) (iblk m c 4 ⟨n, h⟩) (ix2 r j) = post m c R j := by
    intro a ha
    rw [pay3_at, blk_g, blk_b]
    unfold post
    refine congrArg (fun y => norm y _ _ j) (funext fun i => ?_)
    rw [blk_x m c ⟨n, h⟩ r i R hR, ha i, h7, Finset.sum_range]
    unfold pre
    refine congrArg (_ + ·) (Finset.sum_congr rfl fun k _ => ?_)
    rw [unit, dif_pos k.isLt]
  exact ⟨key _ hacc, key _ hacc⟩

/-- The first result. -/
theorem G5_at (i : S32768x2048.Idx) : Value.G5 m c i = post m c (i 0) (i 1) := by
  have hi : (i 0).val < 32768 := (i 0).isLt
  have hj : (i 1).val < 2048 := (i 1).isLt
  have hN : cfg0.N = 512 := N_0
  have hp : Value.pt5Of i < cfg0.N := by rw [hN]; unfold Value.pt5Of Value.run5Of; omega
  unfold Value.G5
  rw [dif_pos hp, ← Value.outsAt0_sweep m c _ hp]
  have e : Value.loc5Of i = ix2 ⟨(i 0).val % 512, by omega⟩ (i 1) := by
    funext a
    rcases a with ⟨_ | _ | _, ha⟩
    · rfl
    · exact Fin.ext (Nat.mod_eq_of_lt hj)
    · exact absurd ha (by show ¬ (_ < 2); omega)
  rw [e]
  exact (outs_at m c _ hp (by unfold Value.pt5Of Value.run5Of; omega) _ _ (i 0) (by unfold Value.pt5Of Value.run5Of; dsimp only; omega)).1

/-- The second result. -/
theorem G6_at (i : S32768x2048.Idx) : Value.G6 m c i = post m c (i 0) (i 1) := by
  have hi : (i 0).val < 32768 := (i 0).isLt
  have hj : (i 1).val < 2048 := (i 1).isLt
  have hN : cfg0.N = 512 := N_0
  have hp : Value.pt6Of i < cfg0.N := by rw [hN]; unfold Value.pt6Of Value.run6Of; omega
  unfold Value.G6
  rw [dif_pos hp, ← Value.outsAt0_sweep m c _ hp]
  have e : Value.loc6Of i = ix2 ⟨(i 0).val % 512, by omega⟩ (i 1) := by
    funext a
    rcases a with ⟨_ | _ | _, ha⟩
    · rfl
    · exact Fin.ext (Nat.mod_eq_of_lt hj)
    · exact absurd ha (by show ¬ (_ < 2); omega)
  rw [e]
  exact (outs_at m c _ hp (by unfold Value.pt6Of Value.run6Of; omega) _ _ (i 0) (by unfold Value.pt6Of Value.run6Of; dsimp only; omega)).2

end Cert.Proof.Mlp

end
-- ==== Proof.Mlp.Ref.lean ====
/-
  The reference of the MLP and its norm, element by element, and the equality with the kernel's results.
-/
module

public import proofs.«01_k».proof.Proof.Mlp.Final
public import proofs.«01_k».proof.Defs
public import proofs.«01_k».proof.Proof.Gen.Reference2Ideal.Run

@[expose] public section

set_option maxRecDepth 16384

noncomputable section

namespace Cert.Proof.Mlp.Ref

open Cert.Reference2Ideal Cert.Reference2Ideal.Gen
open Idealize.ShloMosaic hiding ix1 ix2 ix3 ix4 ix5
open Idealize.ShloMosaic.ValueIdx
open Idealize.SL.Sem

variable (m : (ℓ : Loc nD τ sig) → Buf (Elt Ideal) ℓ) (c : Dev nD)

/-- The rows that enter the MLP. -/
def argX : Vec Ideal S32768x2048 .f32 := m ((c.tc : Thread nD τ).loc main_arg0)
/-- The weights into the hidden layer. -/
def argU : Vec Ideal S2048x8192 .f32 := m ((c.tc : Thread nD τ).loc main_arg1)
/-- The weights out of it. -/
def argD : Vec Ideal S8192x2048 .f32 := m ((c.tc : Thread nD τ).loc main_arg2)
/-- The norm's scale. -/
def argG : Vec Ideal S2048 .f32 := m ((c.tc : Thread nD τ).loc main_arg3)
/-- The norm's shift. -/
def argB : Vec Ideal S2048 .f32 := m ((c.tc : Thread nD τ).loc main_arg4)

/-- A row before its norm. -/
def pre (R : Fin 32768) (i : Fin 2048) : EReal :=
  Ideal.ofBits .f32 0x3FB504F3#32 * argX m c (ix2 R i) + ∑ k : Fin 8192, sq (∑ d : Fin 2048, argX m c (ix2 R d) * argU m c (ix2 d k)) * argD m c (ix2 k i)

/-- The first result of the reference. -/
theorem res0_at (R : Fin 32768) (j : Fin 2048) :
    Value.res_out0 m c (ix2 R j) = norm (pre m c R) (argG m c (ix1 j)) (argB m c (ix1 j)) j := by
  unfold Value.res_out0 Value.res_main_v30
  pointwise
  rfl

/-- The second result is the first one, cast. -/
theorem res1_at (R : Fin 32768) (j : Fin 2048) :
    Value.res_out1 m c (ix2 R j) = norm (pre m c R) (argG m c (ix1 j)) (argB m c (ix1 j)) j := by
  unfold Value.res_out1 Value.res_main_v31
  pointwise
  rfl

/-- The reference's arguments end unchanged. -/
theorem frame : Cert.quiescent_Reference2Ideal := fun m g _ =>
  (θ_run _ _ _).mono (fun r h => ⟨fun c => (h c).2.2, sem_eq_zero_of_no_sems rfl r.2⟩) (Value.run m g)

end Cert.Proof.Mlp.Ref

namespace Cert.Proof.Mlp

open Idealize.ShloMosaic hiding ix1 ix2 ix3 ix4 ix5
open Idealize.ShloMosaic.ValueIdx
open Idealize.SL.Sem

/-- An index of a result is its row and its column. -/
theorem idx2 (i : Cert.Reference2Ideal.S32768x2048.Idx) : i = ix2 (i 0) (i 1) := by
  funext a
  rcases a with ⟨_ | _ | _, ha⟩
  · rfl
  · rfl
  · exact absurd ha (by show ¬ (_ < 2); omega)

/-- Kernel and reference leave the same rows, for any extended reals as arguments. -/
theorem algebraic : Cert.algebraic_Kernel2Ideal_Reference2Ideal := by
  intro m g m' g' _ hargs
  refine ⟨fun c => Cert.Kernel2Ideal.Value.G5 m c, fun c => Cert.Kernel2Ideal.Value.G6 m c, Cert.Kernel2Ideal.Value.run m g, ?_⟩
  refine (θ_run _ _ _).mono (fun r h c => ?_) (Cert.Reference2Ideal.Value.run m' g')
  obtain ⟨h0, h1, hk⟩ := h c
  obtain ⟨a0, a1, a2, a3, a4⟩ := hargs c
  have e0 : Ref.argX m' c = argX m c := a0
  have e1 : Ref.argU m' c = argU m c := a1
  have e2 : Ref.argD m' c = argD m c := a2
  have e3 : Ref.argG m' c = argG m c := a3
  have e4 : Ref.argB m' c = argB m c := a4
  have ep : ∀ R j, norm (Ref.pre m' c R) (Ref.argG m' c (ix1 j)) (Ref.argB m' c (ix1 j)) j = post m c R j := by
    intro R j
    unfold post Ref.pre pre
    rw [e0, e1, e2, e3, e4]
  refine ⟨h0.trans ?_, h1.trans ?_, hk⟩
  · funext i
    exact ((congrArg (Cert.Reference2Ideal.Value.res_out0 m' c) (idx2 i)).trans (Ref.res0_at m' c (i 0) (i 1))).trans ((ep (i 0) (i 1)).trans (G5_at m c i).symm)
  · funext i
    exact ((congrArg (Cert.Reference2Ideal.Value.res_out1 m' c) (idx2 i)).trans (Ref.res1_at m' c (i 0) (i 1))).trans ((ep (i 0) (i 1)).trans (G6_at m c i).symm)

end Cert.Proof.Mlp

end
-- ==== Proof.Out.Reads.lean ====
/-
  The blocks that a grid point of the output projection's kernel reads, as entries of the program's arguments.
-/
module

public import proofs.«01_k».proof.Proof.Gen.Kernel3Ideal.Frame
public import Idealize.ShloMosaic.Lib.ValueIdx
public import Idealize.ShloMosaic.Lib.StableHlo.ReadAt
public import Idealize.ShloMosaic.Lib.Pointwise
public import Idealize.ShloMosaic.Lib.Pipeline.ValueKit.Geometry

@[expose] public section

set_option maxRecDepth 16384

noncomputable section

namespace Cert.Proof.Out

open Cert.Kernel3Ideal Cert.Kernel3Ideal.Gen
open Idealize.ShloMosaic hiding ix1 ix2 ix3 ix4 ix5
open Idealize.ShloMosaic.ValueIdx

variable (m : (ℓ : Loc nD τ sig) → Buf (Elt Ideal) ℓ) (c : Dev nD)

/-- The attention's rows. -/
def argA : Vec Ideal S32768x2048 .f32 := m ((c.tc : Thread nD τ).loc main_arg0)
/-- The projection's weights. -/
def argW : Vec Ideal S2048x2048 .f32 := m ((c.tc : Thread nD τ).loc main_arg1)
/-- The residual's rows. -/
def argX : Vec Ideal S32768x2048 .f32 := m ((c.tc : Thread nD τ).loc main_arg2)
/-- The norm's scale. -/
def argG : Vec Ideal S2048 .f32 := m ((c.tc : Thread nD τ).loc main_arg3)
/-- The norm's shift. -/
def argB : Vec Ideal S2048 .f32 := m ((c.tc : Thread nD τ).loc main_arg4)

/-- The launch finds the attention's rows and the weights as they were given. -/
theorem rows_at (R : Fin 32768) (j : Fin 2048) :
    (V m c main_v0 : Vec Ideal S32768x2048 .bf16) (ix2 R j) = (argA m c (ix2 R j) : EReal) := by
  unfold V
  after_reads_at
  rfl

theorem weights_at (d j : Fin 2048) :
    (V m c main_v1 : Vec Ideal S2048x2048 .bf16) (ix2 d j) = (argW m c (ix2 d j) : EReal) := by
  unfold V
  after_reads_at
  rfl

/-- The norm's scale and shift, as rows. -/
theorem scale_at (j : Fin 2048) :
    (V m c main_v2 : Vec Ideal S1x2048 .f32) (ix2 0 j) = (argG m c (ix1 j) : EReal) := by
  unfold V
  after_reads_at
  rfl

theorem shift_at (j : Fin 2048) :
    (V m c main_v3 : Vec Ideal S1x2048 .f32) (ix2 0 j) = (argB m c (ix1 j) : EReal) := by
  unfold V
  after_reads_at
  rfl

/-- The blocks' positions in their arrays. -/
theorem win_a : ∀ t : Fin grid0.N, win0_0.index t 0 = t.val ∧ win0_0.index t 1 = 0 := by decide +kernel
theorem win_w : ∀ t : Fin grid0.N, win0_1.index t 0 = 0 ∧ win0_1.index t 1 = 0 := by decide +kernel
theorem win_x : ∀ t : Fin grid0.N, win0_2.index t 0 = t.val ∧ win0_2.index t 1 = 0 := by decide +kernel
theorem win_g : ∀ t : Fin grid0.N, win0_3.index t 0 = 0 ∧ win0_3.index t 1 = 0 := by decide +kernel
theorem win_b : ∀ t : Fin grid0.N, win0_4.index t 0 = 0 ∧ win0_4.index t 1 = 0 := by decide +kernel
theorem win_o : ∀ t : Fin grid0.N, win0_5.index t 0 = t.val ∧ win0_5.index t 1 = 0 := by decide +kernel

variable (t : Fin grid0.N)

/-- A block of the attention's rows. -/
theorem blk_a (r : Fin 1024) (j : Fin 2048) (R : Fin 32768) (hR : R.val = 1024 * t.val + r.val) :
    (iblk m c 0 t : Vec Ideal S1024x2048 .bf16) (ix2 r j) = (argA m c (ix2 R j) : EReal) := by
  rw [← rows_at]
  refine congrArg (V m c main_v0) (?_ : (win0_0.blk t).view.emb (ix2 r j) = ix2 R j)
  funext a
  rcases a with ⟨_ | _ | _, ha⟩
  · refine Fin.ext ?_
    show ((win0_0.blk t).view.emb (ix2 r j) 0).val = R.val
    blk_simp
    rw [(win_a t).1, hR]
    show _ + r.val = _
    ring
  · refine Fin.ext ?_
    show ((win0_0.blk t).view.emb (ix2 r j) 1).val = j.val
    blk_simp
    rw [(win_a t).2]
    show _ + j.val = j.val
    ring
  · exact absurd ha (by show ¬ (_ < 2); omega)

/-- The weights. -/
theorem blk_w (d j : Fin 2048) :
    (iblk m c 1 t : Vec Ideal S2048x2048 .bf16) (ix2 d j) = (argW m c (ix2 d j) : EReal) := by
  rw [← weights_at]
  refine congrArg (V m c main_v1) (?_ : (win0_1.blk t).view.emb (ix2 d j) = ix2 d j)
  funext a
  rcases a with ⟨_ | _ | _, ha⟩
  · refine Fin.ext ?_
    show ((win0_1.blk t).view.emb (ix2 d j) 0).val = d.val
    blk_simp
    rw [(win_w t).1]
    show _ + d.val = d.val
    ring
  · refine Fin.ext ?_
    show ((win0_1.blk t).view.emb (ix2 d j) 1).val = j.val
    blk_simp
    rw [(win_w t).2]
    show _ + j.val = j.val
    ring
  · exact absurd ha (by show ¬ (_ < 2); omega)

/-- A block of the residual's rows. -/
theorem blk_x (r : Fin 1024) (j : Fin 2048) (R : Fin 32768) (hR : R.val = 1024 * t.val + r.val) :
    (iblk m c 2 t : Vec Ideal S1024x2048 .f32) (ix2 r j) = (argX m c (ix2 R j) : EReal) := by
  show V m c main_arg2 ((win0_2.blk t).view.emb (ix2 r j)) = _
  rw [V_main_arg2]
  refine congrArg (argX m c) (?_ : (win0_2.blk t).view.emb (ix2 r j) = ix2 R j)
  funext a
  rcases a with ⟨_ | _ | _, ha⟩
  · refine Fin.ext ?_
    show ((win0_2.blk t).view.emb (ix2 r j) 0).val = R.val
    blk_simp
    rw [(win_x t).1, hR]
    show _ + r.val = _
    ring
  · refine Fin.ext ?_
    show ((win0_2.blk t).view.emb (ix2 r j) 1).val = j.val
    blk_simp
    rw [(win_x t).2]
    show _ + j.val = j.val
    ring
  · exact absurd ha (by show ¬ (_ < 2); omega)

/-- The norm's scale. -/
theorem blk_g (j : Fin 2048) :
    (iblk m c 3 t : Vec Ideal S1x2048 .f32) (ix2 0 j) = (argG m c (ix1 j) : EReal) := by
  rw [← scale_at]
  refine congrArg (V m c main_v2) (?_ : (win0_3.blk t).view.emb (ix2 0 j) = ix2 0 j)
  funext a
  rcases a with ⟨_ | _ | _, ha⟩
  · refine Fin.ext ?_
    show ((win0_3.blk t).view.emb (ix2 0 j) 0).val = 0
    blk_simp
    rw [(win_g t).1]
  · refine Fin.ext ?_
    show ((win0_3.blk t).view.emb (ix2 0 j) 1).val = j.val
    blk_simp
    rw [(win_g t).2]
    show _ + j.val = j.val
    ring
  · exact absurd ha (by show ¬ (_ < 2); omega)

/-- The norm's shift. -/
theorem blk_b (j : Fin 2048) :
    (iblk m c 4 t : Vec Ideal S1x2048 .f32) (ix2 0 j) = (argB m c (ix1 j) : EReal) := by
  rw [← shift_at]
  refine congrArg (V m c main_v3) (?_ : (win0_4.blk t).view.emb (ix2 0 j) = ix2 0 j)
  funext a
  rcases a with ⟨_ | _ | _, ha⟩
  · refine Fin.ext ?_
    show ((win0_4.blk t).view.emb (ix2 0 j) 0).val = 0
    blk_simp
    rw [(win_b t).1]
  · refine Fin.ext ?_
    show ((win0_4.blk t).view.emb (ix2 0 j) 1).val = j.val
    blk_simp
    rw [(win_b t).2]
    show _ + j.val = j.val
    ring
  · exact absurd ha (by show ¬ (_ < 2); omega)

/-- Where an entry of the result's block lies in the result. -/
theorem blk_o (r : Fin 1024) (j : Fin 2048) (R : Fin 32768) (hR : R.val = 1024 * t.val + r.val) :
    (win0_5.blk t).view.emb (ix2 r j) = ix2 R j := by
  funext a
  rcases a with ⟨_ | _ | _, ha⟩
  · refine Fin.ext ?_
    show ((win0_5.blk t).view.emb (ix2 r j) 0).val = R.val
    blk_simp
    rw [(win_o t).1, hR]
    show _ + r.val = _
    ring
  · refine Fin.ext ?_
    show ((win0_5.blk t).view.emb (ix2 r j) 1).val = j.val
    blk_simp
    rw [(win_o t).2]
    show _ + j.val = j.val
    ring
  · exact absurd ha (by show ¬ (_ < 2); omega)

end Cert.Proof.Out

end
-- ==== Proof.Out.Final.lean ====
/-
  What the output projection's kernel leaves in its result: the norm of the residual and the projected row.
-/
module

public import proofs.«01_k».proof.Proof.Out.Reads
public import proofs.«01_k».proof.Proof.Mlp.Tile
public import proofs.«01_k».proof.Proof.Gen.Kernel3Ideal.Value

@[expose] public section

set_option maxRecDepth 16384

noncomputable section

namespace Cert.Proof.Out

open Cert.Kernel3Ideal Cert.Kernel3Ideal.Gen
open Idealize.ShloMosaic hiding ix1 ix2 ix3 ix4 ix5
open Idealize.ShloMosaic.ValueIdx

/-- A row before its norm. -/
def row (a : Fin 2048 → EReal) (w : Fin 2048 → Fin 2048 → EReal) (x : Fin 2048 → EReal) (i : Fin 2048) : EReal :=
  Ideal.ofBits .f32 0x3FB504F3#32 * x i + ∑ d : Fin 2048, a d * w d i

/-- A strip of rows. -/
theorem pay2_at (a : Vec Ideal S256x2048 .bf16) (w : Vec Ideal S2048x2048 .bf16) (x : Vec Ideal S256x2048 .f32) (g b : Vec Ideal S1x2048 .f32)
    (r : Fin 256) (j : Fin 2048) :
    k0_pay2 a w x g b (ix2 r j) = Mlp.norm (row (fun d => a (ix2 r d)) (fun d i => w (ix2 d i)) (fun i => x (ix2 r i))) (g (ix2 0 j)) (b (ix2 0 j)) j := by
  unfold k0_pay2
  pointwise
  rfl

/-- The other three strips are computed by the same expression. -/
theorem pay1_eq (a : Vec Ideal S256x2048 .bf16) (w : Vec Ideal S2048x2048 .bf16) (x : Vec Ideal S256x2048 .f32) (g b : Vec Ideal S1x2048 .f32) :
    k0_pay1 (k0_pay7 a w x) g b = k0_pay2 a w x g b := rfl
theorem pay6_eq (a : Vec Ideal S256x2048 .bf16) (w : Vec Ideal S2048x2048 .bf16) (x : Vec Ideal S256x2048 .f32) (g b : Vec Ideal S1x2048 .f32) :
    k0_pay6 (k0_pay5 a w) x g b = k0_pay2 a w x g b := rfl
theorem pay4_eq (a : Vec Ideal S256x2048 .bf16) (w : Vec Ideal S2048x2048 .bf16) (x : Vec Ideal S256x2048 .f32) (g b : Vec Ideal S1x2048 .f32) :
    k0_pay4 (k0_pay3 a) w x g b = k0_pay2 a w x g b := rfl

/-- A block's rows before and after their norm. -/
def block (a : Vec Ideal S1024x2048 .bf16) (w : Vec Ideal S2048x2048 .bf16) (x : Vec Ideal S1024x2048 .f32) (g b : Vec Ideal S1x2048 .f32)
    : Vec Ideal S1024x2048 .f32 := fun i =>
  Mlp.norm (row (fun d => a (ix2 (i 0) d)) (fun d k => w (ix2 d k)) (fun k => x (ix2 (i 0) k))) (g (ix2 0 (i 1))) (b (ix2 0 (i 1))) (i 1)

/-- An entry of a strip, in its block. -/
theorem strip (o : ℕ) (inb : ∀ a, (![o, 0] : Fin 2 → ℕ) a + S256x2048.size a ≤ S1024x2048.size a) (ho : o ≤ 768) (r : Fin 256) (j : Fin 2048) :
    (Rect.unit (s := S1024x2048) ![o, 0] S256x2048.size inb).emb (ix2 r j) = ix2 ⟨o + r.val, by omega⟩ j := by
  funext a
  rcases a with ⟨_ | _ | _, ha⟩
  · refine Fin.ext ?_
    show o + 1 * r.val = o + r.val
    ring
  · refine Fin.ext ?_
    show 0 + 1 * j.val = j.val
    ring
  · exact absurd ha (by show ¬ (_ < 2); omega)

/-- A strip's entries are its block's. -/
theorem strip_eq (a : Vec Ideal S1024x2048 .bf16) (w : Vec Ideal S2048x2048 .bf16) (x : Vec Ideal S1024x2048 .f32) (g b : Vec Ideal S1x2048 .f32)
    (o : ℕ) (inb : ∀ a, (![o, 0] : Fin 2 → ℕ) a + S256x2048.size a ≤ S1024x2048.size a) (ho : o ≤ 768) (r : Fin 256) (j : Fin 2048) :
    k0_pay2 (View.ld a (Rect.unit (s := S1024x2048) ![o, 0] S256x2048.size inb)) w (View.ld x (Rect.unit (s := S1024x2048) ![o, 0] S256x2048.size inb)) g b (ix2 r j)
      = block a w x g b ((Rect.unit (s := S1024x2048) ![o, 0] S256x2048.size inb).emb (ix2 r j)) := by
  have e := strip o inb ho r
  rw [pay2_at]
  refine Eq.trans ?_ (congrArg (block a w x g b) (e j).symm)
  have la : ∀ d : Fin 2048, View.ld a (Rect.unit (s := S1024x2048) ![o, 0] S256x2048.size inb) (ix2 r d) = a (ix2 ⟨o + r.val, by omega⟩ d) := fun d => congrArg a (e d)
  have lx : ∀ d : Fin 2048, View.ld x (Rect.unit (s := S1024x2048) ![o, 0] S256x2048.size inb) (ix2 r d) = x (ix2 ⟨o + r.val, by omega⟩ d) := fun d => congrArg x (e d)
  simp only [la, lx]
  rfl

/-- An index of a strip is its row and its column. -/
theorem idx_strip (y : S256x2048.Idx) : y = ix2 (y 0) (y 1) := by
  funext a
  rcases a with ⟨_ | _ | _, ha⟩
  · rfl
  · rfl
  · exact absurd ha (by show ¬ (_ < 2); omega)

/-- A property of a strip's entries holds at every index of it. -/
theorem forall_strip {P : S256x2048.Idx → Prop} (h : ∀ (r : Fin 256) (j : Fin 2048), P (ix2 r j)) (y : S256x2048.Idx) : P y :=
  (idx_strip y).symm ▸ h (y 0) (y 1)

/-- What a grid point leaves in the result's block. -/
theorem out_eq (a : Vec Ideal S1024x2048 .bf16) (w : Vec Ideal S2048x2048 .bf16) (x : Vec Ideal S1024x2048 .f32) (g b : Vec Ideal S1x2048 .f32) (y : S1024x2048.Idx) :
    out0_5 a w x g b y = block a w x g b y := by
  unfold out0_5
  simp only [pay1_eq, pay6_eq, pay4_eq]
  rw [View.ld_unit_zero Mlp.zero2, View.ld_unit_zero Mlp.zero2, View.ld_unit_zero Mlp.zero2]
  refine View.canon_apply_of_pieces (Val := Elt Ideal) (block a w x g b) _ ?_ y (cover0_5 _ _ _ _ y)
  intro p hp
  simp only [List.mem_cons, List.not_mem_nil, or_false] at hp
  rcases hp with rfl | rfl | rfl | rfl
  · exact forall_strip (strip_eq a w x g b 768 _ (by omega))
  · exact forall_strip (strip_eq a w x g b 512 _ (by omega))
  · exact forall_strip (strip_eq a w x g b 256 _ (by omega))
  · exact forall_strip (strip_eq a w x g b 0 _ (by omega))

variable (m : (ℓ : Loc nD τ sig) → Buf (Elt Ideal) ℓ) (c : Dev nD)

/-- A row after its norm. -/
def post (R : Fin 32768) (j : Fin 2048) : EReal :=
  Mlp.norm (row (fun d => argA m c (ix2 R d)) (fun d i => argW m c (ix2 d i)) (fun i => argX m c (ix2 R i))) (argG m c (ix1 j)) (argB m c (ix1 j)) j

/-- Every point writes its block back. -/
theorem flush_o : ∀ t : Fin grid0.N, win0_5.flush t = true := by decide +kernel

/-- An entry of the result, in the block of the point that wrote it. -/
theorem result_blk (t : Fin grid0.N) (r : Fin 1024) (j : Fin 2048) (R : Fin 32768) (hR : R.val = 1024 * t.val + r.val) :
    (dats m 0 c).arrAt 5 cfg0.N (ix2 R j) = block (iblk m c 0 t) (iblk m c 1 t) (iblk m c 2 t) (iblk m c 3 t) (iblk m c 4 t) (ix2 r j) := by
  refine (congrArg ((dats m 0 c).arrAt 5 cfg0.N) (blk_o t r j R hR).symm).trans ?_
  refine (congrFun (Value.blocks5 m c t (flush_o t)) (ix2 r j)).trans ?_
  rw [Value.flushed5]
  exact out_eq _ _ _ _ _ _

/-- The result. -/
theorem result_at (R : Fin 32768) (j : Fin 2048) : (dats m 0 c).arrAt 5 cfg0.N (ix2 R j) = post m c R j := by
  have hN : grid0.N = 32 := N_0
  have ht : R.val / 1024 < grid0.N := by rw [hN]; omega
  have hR : R.val = 1024 * (R.val / 1024) + R.val % 1024 := by omega
  rw [result_blk m c ⟨R.val / 1024, ht⟩ ⟨R.val % 1024, by omega⟩ j R hR]
  show Mlp.norm _ _ _ j = _
  rw [blk_g, blk_b]
  unfold post
  refine congrArg (fun z => Mlp.norm z _ _ j) (funext fun i => ?_)
  unfold row
  dsimp only
  refine congrArg₂ (fun p q => _ * p + q) ?_ (Finset.sum_congr rfl fun d _ => congrArg₂ (· * ·) ?_ ?_)
  · exact blk_x m c ⟨R.val / 1024, ht⟩ ⟨R.val % 1024, by omega⟩ i R hR
  · exact blk_a m c ⟨R.val / 1024, ht⟩ ⟨R.val % 1024, by omega⟩ d R hR
  · exact blk_w m c _ d i

end Cert.Proof.Out

end
-- ==== Proof.Out.Ref.lean ====
/-
  The reference of the output projection and its norm, element by element, and the equality with the kernel's result.
-/
module

public import proofs.«01_k».proof.Proof.Out.Final
public import proofs.«01_k».proof.Proof.Mlp.Ref
public import proofs.«01_k».proof.Defs
public import proofs.«01_k».proof.Proof.Gen.Reference3Ideal.Run

@[expose] public section

set_option maxRecDepth 16384

noncomputable section

namespace Cert.Proof.Out.Ref

open Cert.Reference3Ideal Cert.Reference3Ideal.Gen
open Idealize.ShloMosaic hiding ix1 ix2 ix3 ix4 ix5
open Idealize.ShloMosaic.ValueIdx
open Idealize.SL.Sem

variable (m : (ℓ : Loc nD τ sig) → Buf (Elt Ideal) ℓ) (c : Dev nD)

/-- The attention's rows. -/
def argA : Vec Ideal S32768x2048 .f32 := m ((c.tc : Thread nD τ).loc main_arg0)
/-- The projection's weights. -/
def argW : Vec Ideal S2048x2048 .f32 := m ((c.tc : Thread nD τ).loc main_arg1)
/-- The residual's rows. -/
def argX : Vec Ideal S32768x2048 .f32 := m ((c.tc : Thread nD τ).loc main_arg2)
/-- The norm's scale. -/
def argG : Vec Ideal S2048 .f32 := m ((c.tc : Thread nD τ).loc main_arg3)
/-- The norm's shift. -/
def argB : Vec Ideal S2048 .f32 := m ((c.tc : Thread nD τ).loc main_arg4)

/-- A row of the result is the norm of the residual and the projected row. -/
def post (R : Fin 32768) (j : Fin 2048) : EReal :=
  Mlp.norm (row (fun d => argA m c (ix2 R d)) (fun d i => argW m c (ix2 d i)) (fun i => argX m c (ix2 R i))) (argG m c (ix1 j)) (argB m c (ix1 j)) j

/-- Every run ends with the result at `post` and the arguments unchanged. -/
theorem run_at (g : Dev nD → PrngReg) :
    θ_run defs (onTc (τ := τ) (main (F := Ideal))) ⟨m, fun _ => 0, g⟩ fun r => ∀ c : Dev nD,
      (∀ R j, (r.2.mem ((c.tc : Thread nD τ).loc main_v27) : Vec Ideal S32768x2048 .f32) (ix2 R j) = post m c R j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ⟨fun R j => (congrFun (h c).1 (ix2 R j)).trans ?_, (h c).2⟩) (Value.run m g)
  pointwise
  rfl

/-- The reference's arguments end unchanged. -/
theorem frame : Cert.quiescent_Reference3Ideal := fun m g _ =>
  (θ_run _ _ _).mono (fun r h => ⟨fun c => (h c).2, sem_eq_zero_of_no_sems rfl r.2⟩) (run_at m g)

end Cert.Proof.Out.Ref

namespace Cert.Proof.Out

open Idealize.ShloMosaic hiding ix1 ix2 ix3 ix4 ix5
open Idealize.ShloMosaic.ValueIdx
open Idealize.SL.Sem

/-- Kernel and reference leave the same rows, for any extended reals as arguments. -/
theorem algebraic : Cert.algebraic_Kernel3Ideal_Reference3Ideal := by
  intro m g m' g' _ hargs
  refine ⟨fun c => (Cert.Kernel3Ideal.Gen.dats m 0 c).arrAt 5 Cert.Kernel3Ideal.cfg0.N, Cert.Kernel3Ideal.Value.run_blocks m g, ?_⟩
  refine (θ_run _ _ _).mono (fun r h c => ?_) (Ref.run_at m' g')
  obtain ⟨h0, hk⟩ := h c
  obtain ⟨a0, a1, a2, a3, a4⟩ := hargs c
  have e0 : Ref.argA m' c = argA m c := a0
  have e1 : Ref.argW m' c = argW m c := a1
  have e2 : Ref.argX m' c = argX m c := a2
  have e3 : Ref.argG m' c = argG m c := a3
  have e4 : Ref.argB m' c = argB m c := a4
  have ep : ∀ R j, Ref.post m' c R j = post m c R j := by
    intro R j
    unfold post Ref.post
    rw [e0, e1, e2, e3, e4]
  refine ⟨?_, hk⟩
  funext i
  exact ((congrArg _ (Mlp.idx2 i)).trans (h0 (i 0) (i 1))).trans
    ((ep (i 0) (i 1)).trans ((congrArg ((Cert.Kernel3Ideal.Gen.dats m 0 c).arrAt 5 Cert.Kernel3Ideal.cfg0.N) (Mlp.idx2 i)).trans (result_at m c (i 0) (i 1))).symm)

end Cert.Proof.Out

end
-- ==== Proof.Proj.Reads.lean ====
/-
  The blocks that a grid point of the projection's kernel reads, as entries of the program's arguments.
-/
module

public import proofs.«01_k».proof.Proof.Gen.Kernel4Ideal.Frame
public import Idealize.ShloMosaic.Lib.ValueIdx
public import Idealize.ShloMosaic.Lib.StableHlo.ReadAt
public import Idealize.ShloMosaic.Lib.Pointwise
public import Idealize.ShloMosaic.Lib.Pipeline.ValueKit.Geometry

@[expose] public section

set_option maxRecDepth 16384

noncomputable section

namespace Cert.Proof.Proj

open Cert.Kernel4Ideal Cert.Kernel4Ideal.Gen
open Idealize.ShloMosaic hiding ix1 ix2 ix3 ix4 ix5
open Idealize.ShloMosaic.ValueIdx

variable (m : (ℓ : Loc nD τ sig) → Buf (Elt Ideal) ℓ) (c : Dev nD)

/-- The rows. -/
def argX : Vec Ideal S32768x2048 .f32 := m ((c.tc : Thread nD τ).loc main_arg0)
/-- The weights. -/
def argW : Vec Ideal S2048x6144 .f32 := m ((c.tc : Thread nD τ).loc main_arg1)

/-- The launch finds the weights as they were given. -/
theorem weights_at (d : Fin 2048) (j : Fin 6144) :
    (V m c main_v0 : Vec Ideal S2048x6144 .bf16) (ix2 d j) = (argW m c (ix2 d j) : EReal) := by
  unfold V
  after_reads_at
  rfl

/-- The blocks' positions in their arrays. -/
theorem win_x : ∀ t : Fin grid0.N, win0_0.index t 0 = t.val / 3 ∧ win0_0.index t 1 = 0 := by decide +kernel
theorem win_w : ∀ t : Fin grid0.N, win0_1.index t 0 = 0 ∧ win0_1.index t 1 = t.val % 3 := by decide +kernel
theorem win_o : ∀ t : Fin grid0.N, win0_5.index t 0 = t.val / 3 ∧ win0_5.index t 1 = t.val % 3 := by decide +kernel

variable (t : Fin grid0.N)

/-- A block of rows. -/
theorem blk_x (r : Fin 1024) (d : Fin 2048) (R : Fin 32768) (hR : R.val = 1024 * (t.val / 3) + r.val) :
    (iblk m c 0 t : Vec Ideal S1024x2048 .f32) (ix2 r d) = (argX m c (ix2 R d) : EReal) := by
  show V m c main_arg0 ((win0_0.blk t).view.emb (ix2 r d)) = _
  rw [V_main_arg0]
  refine congrArg (argX m c) (?_ : (win0_0.blk t).view.emb (ix2 r d) = ix2 R d)
  funext a
  rcases a with ⟨_ | _ | _, ha⟩
  · refine Fin.ext ?_
    show ((win0_0.blk t).view.emb (ix2 r d) 0).val = R.val
    blk_simp
    rw [(win_x t).1, hR]
    show _ + r.val = _
    ring
  · refine Fin.ext ?_
    show ((win0_0.blk t).view.emb (ix2 r d) 1).val = d.val
    blk_simp
    rw [(win_x t).2]
    show _ + d.val = d.val
    ring
  · exact absurd ha (by show ¬ (_ < 2); omega)

/-- A block of the weights' columns. -/
theorem blk_w (d j : Fin 2048) (C : Fin 6144) (hC : C.val = 2048 * (t.val % 3) + j.val) :
    (iblk m c 1 t : Vec Ideal S2048x2048 .bf16) (ix2 d j) = (argW m c (ix2 d C) : EReal) := by
  rw [← weights_at]
  refine congrArg (V m c main_v0) (?_ : (win0_1.blk t).view.emb (ix2 d j) = ix2 d C)
  funext a
  rcases a with ⟨_ | _ | _, ha⟩
  · refine Fin.ext ?_
    show ((win0_1.blk t).view.emb (ix2 d j) 0).val = d.val
    blk_simp
    rw [(win_w t).1]
    show _ + d.val = d.val
    ring
  · refine Fin.ext ?_
    show ((win0_1.blk t).view.emb (ix2 d j) 1).val = C.val
    blk_simp
    rw [(win_w t).2, hC]
    show _ + j.val = _
    ring
  · exact absurd ha (by show ¬ (_ < 2); omega)

/-- Where an entry of the result's block lies in the result. -/
theorem blk_o (r : Fin 1024) (j : Fin 2048) (R : Fin 32768) (hR : R.val = 1024 * (t.val / 3) + r.val) (C : Fin 6144) (hC : C.val = 2048 * (t.val % 3) + j.val) :
    (win0_5.blk t).view.emb (ix2 r j) = ix2 R C := by
  funext a
  rcases a with ⟨_ | _ | _, ha⟩
  · refine Fin.ext ?_
    show ((win0_5.blk t).view.emb (ix2 r j) 0).val = R.val
    blk_simp
    rw [(win_o t).1, hR]
    show _ + r.val = _
    ring
  · refine Fin.ext ?_
    show ((win0_5.blk t).view.emb (ix2 r j) 1).val = C.val
    blk_simp
    rw [(win_o t).2, hC]
    show _ + j.val = _
    ring
  · exact absurd ha (by show ¬ (_ < 2); omega)

end Cert.Proof.Proj

end
-- ==== Proof.Proj.Final.lean ====
/-
  What the projection's kernel leaves in its result: the products with the weights, the queries' scaled.
-/
module

public import proofs.«01_k».proof.Proof.Proj.Reads
public import proofs.«01_k».proof.Proof.Mlp.Cases
public import proofs.«01_k».proof.Proof.Gen.Kernel4Ideal.Value

@[expose] public section

set_option maxRecDepth 16384

noncomputable section

namespace Cert.Proof.Proj

open Cert.Kernel4Ideal Cert.Kernel4Ideal.Gen
open Idealize.ShloMosaic hiding ix1 ix2 ix3 ix4 ix5
open Idealize.ShloMosaic.ValueIdx

/-- The scale that a grid point applies. -/
abbrev scale (i : grid0.Coords) : EReal := k0_pay2 (F := Ideal) i

/-- A strip of rows. -/
theorem pay3_at (i : grid0.Coords) (x : Vec Ideal S256x2048 .f32) (w : Vec Ideal S2048x2048 .bf16) (r : Fin 256) (j : Fin 2048) :
    k0_pay3 i x w (ix2 r j) = (∑ d : Fin 2048, x (ix2 r d) * w (ix2 d j)) * scale i := by
  unfold k0_pay3
  pointwise
  rfl

/-- The other three strips are computed by the same expression. -/
theorem pay1_eq (i : grid0.Coords) (x : Vec Ideal S256x2048 .f32) (w : Vec Ideal S2048x2048 .bf16) : k0_pay1 (k0_pay2 (F := Ideal) i) x w = k0_pay3 i x w := rfl
theorem pay5_eq (i : grid0.Coords) (x : Vec Ideal S256x2048 .f32) (w : Vec Ideal S2048x2048 .bf16) : k0_pay5 i x w = k0_pay3 i x w := rfl
theorem pay4_eq (i : grid0.Coords) (x : Vec Ideal S256x2048 .f32) (w : Vec Ideal S2048x2048 .bf16) : k0_pay4 i x w = k0_pay3 i x w := rfl

/-- A block of the result. -/
def block (p : grid0.Coords) (x : Vec Ideal S1024x2048 .f32) (w : Vec Ideal S2048x2048 .bf16) : Vec Ideal S1024x2048 .bf16 := fun i =>
  (∑ d : Fin 2048, x (ix2 (i 0) d) * w (ix2 d (i 1)) : EReal) * scale p

/-- An entry of a strip, in its block. -/
theorem strip (o : ℕ) (inb : ∀ a, (![o, 0] : Fin 2 → ℕ) a + S256x2048.size a ≤ S1024x2048.size a) (ho : o ≤ 768) (r : Fin 256) (j : Fin 2048) :
    (Rect.unit (s := S1024x2048) ![o, 0] S256x2048.size inb).emb (ix2 r j) = ix2 ⟨o + r.val, by omega⟩ j := by
  funext a
  rcases a with ⟨_ | _ | _, ha⟩
  · refine Fin.ext ?_
    show o + 1 * r.val = o + r.val
    ring
  · refine Fin.ext ?_
    show 0 + 1 * j.val = j.val
    ring
  · exact absurd ha (by show ¬ (_ < 2); omega)

/-- A strip's entries are its block's. -/
theorem strip_eq (p : grid0.Coords) (x : Vec Ideal S1024x2048 .f32) (w : Vec Ideal S2048x2048 .bf16)
    (o : ℕ) (inb : ∀ a, (![o, 0] : Fin 2 → ℕ) a + S256x2048.size a ≤ S1024x2048.size a) (ho : o ≤ 768) (r : Fin 256) (j : Fin 2048) :
    k0_pay3 p (View.ld x (Rect.unit (s := S1024x2048) ![o, 0] S256x2048.size inb)) w (ix2 r j)
      = block p x w ((Rect.unit (s := S1024x2048) ![o, 0] S256x2048.size inb).emb (ix2 r j)) := by
  have e := strip o inb ho r
  rw [pay3_at]
  refine Eq.trans ?_ (congrArg (block p x w) (e j).symm)
  have lx : ∀ d : Fin 2048, View.ld x (Rect.unit (s := S1024x2048) ![o, 0] S256x2048.size inb) (ix2 r d) = x (ix2 ⟨o + r.val, by omega⟩ d) := fun d => congrArg x (e d)
  simp only [lx]
  rfl

/-- An index of a strip is its row and its column. -/
theorem idx_strip (y : S256x2048.Idx) : y = ix2 (y 0) (y 1) := by
  funext a
  rcases a with ⟨_ | _ | _, ha⟩
  · rfl
  · rfl
  · exact absurd ha (by show ¬ (_ < 2); omega)

/-- A property of a strip's entries holds at every index of it. -/
theorem forall_strip {P : S256x2048.Idx → Prop} (h : ∀ (r : Fin 256) (j : Fin 2048), P (ix2 r j)) (y : S256x2048.Idx) : P y :=
  (idx_strip y).symm ▸ h (y 0) (y 1)

/-- What a grid point leaves in the result's block. -/
theorem out_eq (p : grid0.Coords) (x : Vec Ideal S1024x2048 .f32) (w : Vec Ideal S2048x2048 .bf16) (t2 t3 t4 : Vec Ideal S1024x128 .f32) (y : S1024x2048.Idx) :
    out0_5 p x w t2 t3 t4 y = block p x w y := by
  unfold out0_5
  simp only [pay1_eq, pay5_eq, pay4_eq]
  rw [View.ld_unit_zero Mlp.zero2]
  refine View.canon_apply_of_pieces (Val := Elt Ideal) (block p x w) _ ?_ y (cover0_5 _ _ _ _ y)
  intro q hq
  simp only [List.mem_cons, List.not_mem_nil, or_false] at hq
  rcases hq with rfl | rfl | rfl | rfl
  · exact forall_strip (strip_eq p x w 768 _ (by omega))
  · exact forall_strip (strip_eq p x w 512 _ (by omega))
  · exact forall_strip (strip_eq p x w 256 _ (by omega))
  · exact forall_strip (strip_eq p x w 0 _ (by omega))

/-- The queries' blocks are the first of each three. -/
theorem first_block : ∀ t : Fin grid0.N, Scalar.cmpi .slt (BitVec.ofNat 32 (grid0.coords t 1).val) 1#32 = if t.val % 3 = 0 then 1#1 else 0#1 := by decide +kernel

/-- The scale of the queries is `1 / (√128 log 2)`, that of the keys and the values is one. -/
theorem scale_eq (t : Fin grid0.N) : scale (grid0.coords t) = if t.val % 3 = 0 then ((1 / (√128 * Real.log 2) : ℝ) : EReal) else 1 := by
  have e1 : Ideal.ofBits FTy.f32 0x3F800000#32 = (1 : EReal) := by
    rw [← EReal.coe_one]
    simp [Ideal.ofBits, Ideal.ieee, -EReal.coe_mul, -EReal.coe_one]; norm_num
  have e2 : (Named.named (F := Ideal) (φ := .f32) κ "logit_scale_log2" 0x3E0293EE#32 : EReal) = ((1 / (√128 * Real.log 2) : ℝ) : EReal) := by
    rw [one_div]
    rfl
  show Scalar.select (Scalar.cmpi .slt (BitVec.ofNat 32 (grid0.coords t 1).val) 1#32) (Named.named (F := Ideal) (φ := .f32) κ "logit_scale_log2" 0x3E0293EE#32) (Ideal.ofBits FTy.f32 0x3F800000#32) = _
  rw [first_block, e1, e2]
  split_ifs with h
  · rfl
  · rfl

variable (m : (ℓ : Loc nD τ sig) → Buf (Elt Ideal) ℓ) (c : Dev nD)

/-- An entry of the result: a product with the weights, scaled in the queries' columns. -/
def post (R : Fin 32768) (C : Fin 6144) : EReal :=
  (∑ d : Fin 2048, argX m c (ix2 R d) * argW m c (ix2 d C)) * if C.val < 2048 then ((1 / (√128 * Real.log 2) : ℝ) : EReal) else 1

/-- Every point writes its block back. -/
theorem flush_o : ∀ t : Fin grid0.N, win0_5.flush t = true := by decide +kernel

/-- An entry of the result, in the block of the point that wrote it. -/
theorem result_blk (t : Fin grid0.N) (r : Fin 1024) (j : Fin 2048) (R : Fin 32768) (hR : R.val = 1024 * (t.val / 3) + r.val) (C : Fin 6144) (hC : C.val = 2048 * (t.val % 3) + j.val) :
    (dats m 0 c).arrAt 5 cfg0.N (ix2 R C) = block (grid0.coords t) (iblk m c 0 t) (iblk m c 1 t) (ix2 r j) := by
  refine (congrArg ((dats m 0 c).arrAt 5 cfg0.N) (blk_o t r j R hR C hC).symm).trans ?_
  refine (congrFun (Value.blocks5 m c t (flush_o t)) (ix2 r j)).trans ?_
  rw [Value.flushed5]
  exact out_eq _ _ _ _ _ _ _

/-- The result. -/
theorem result_at (R : Fin 32768) (C : Fin 6144) : (dats m 0 c).arrAt 5 cfg0.N (ix2 R C) = post m c R C := by
  have hN : grid0.N = 96 := N_0
  have ht : R.val / 1024 * 3 + C.val / 2048 < grid0.N := by rw [hN]; omega
  have h3 : (R.val / 1024 * 3 + C.val / 2048) % 3 = C.val / 2048 := by omega
  have hR : R.val = 1024 * ((R.val / 1024 * 3 + C.val / 2048) / 3) + R.val % 1024 := by omega
  have hC : C.val = 2048 * ((R.val / 1024 * 3 + C.val / 2048) % 3) + C.val % 2048 := by omega
  rw [result_blk m c ⟨_, ht⟩ ⟨R.val % 1024, by omega⟩ ⟨C.val % 2048, by omega⟩ R hR C hC]
  refine congrArg₂ (· * ·) (Finset.sum_congr rfl fun d _ => congrArg₂ (· * ·) ?_ ?_) ?_
  · exact blk_x m c ⟨_, ht⟩ ⟨R.val % 1024, by omega⟩ d R hR
  · exact blk_w m c ⟨_, ht⟩ d ⟨C.val % 2048, by omega⟩ C hC
  · rw [scale_eq]
    dsimp only
    rw [h3]
    refine if_congr ?_ rfl rfl
    omega

end Cert.Proof.Proj

end
-- ==== Proof.Proj.Ref.lean ====
/-
  The reference of the projection, element by element, and the equality with the kernel's result.
-/
module

public import proofs.«01_k».proof.Proof.Proj.Final
public import proofs.«01_k».proof.Proof.PI.Entry
public import proofs.«01_k».proof.Defs
public import proofs.«01_k».proof.Proof.Gen.Reference4Ideal.Run

@[expose] public section

set_option maxRecDepth 16384

noncomputable section

namespace Cert.Proof.Proj.Ref

open Cert.Reference4Ideal Cert.Reference4Ideal.Gen
open Idealize.ShloMosaic hiding ix1 ix2 ix3 ix4 ix5
open Idealize.ShloMosaic.ValueIdx
open Idealize.SL.Sem

variable (m : (ℓ : Loc nD τ sig) → Buf (Elt Ideal) ℓ) (c : Dev nD)

/-- The rows. -/
def argX : Vec Ideal S32768x2048 .f32 := m ((c.tc : Thread nD τ).loc main_arg0)
/-- The weights. -/
def argW : Vec Ideal S2048x6144 .f32 := m ((c.tc : Thread nD τ).loc main_arg1)

/-- An entry of the result: a product with the weights, scaled in the queries' columns. -/
def post (R : Fin 32768) (C : Fin 6144) : EReal :=
  (∑ d : Fin 2048, argX m c (ix2 R d) * argW m c (ix2 d C)) * if C.val < 2048 then ((1 / (√128 * Real.log 2) : ℝ) : EReal) else 1

/-- The two groups of columns. -/
theorem cases_at (R : Fin 32768) (j : Fin 6144) :
    (if h : j.val < 2048 then
      (∑ k : Fin 2048, argX m c (ix2 R k) * argW m c (ix2 k j))
        * Ideal.div 1 (Ideal.sqrt (Ideal.ofBits FTy.f32 1124073472#32) * Ideal.log (Ideal.ofBits FTy.f32 1073741824#32))
    else ∑ k : Fin 2048, argX m c (ix2 R k) * argW m c (ix2 k ⟨2048 + (j.val - 2048), by omega⟩) : EReal) = post m c R j := by
  unfold post
  by_cases hj : j.val < 2048
  · rw [dif_pos hj, if_pos hj, Cert.Proof.SB.PI.scale_q]
  · have e : (⟨2048 + (j.val - 2048), by omega⟩ : Fin 6144) = j := Fin.ext (by show 2048 + (j.val - 2048) = j.val; omega)
    rw [dif_neg hj, if_neg hj, mul_one, e]

/-- Every run ends with the result at `post` and the arguments unchanged. -/
theorem run_at (g : Dev nD → PrngReg) :
    θ_run defs (onTc (τ := τ) (main (F := Ideal))) ⟨m, fun _ => 0, g⟩ fun r => ∀ c : Dev nD,
      (∀ R j, (r.2.mem ((c.tc : Thread nD τ).loc main_v10) : Vec Ideal S32768x6144 .bf16) (ix2 R j) = post m c R j)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨fun R j => (congrFun (h c).1 (ix2 R j)).trans ?_, (h c).2⟩) (Value.run m g)
  pointwise
  exact cases_at m c R j

/-- The reference's arguments end unchanged. -/
theorem frame : Cert.quiescent_Reference4Ideal := fun m g _ =>
  (θ_run _ _ _).mono (fun r h => ⟨fun c => (h c).2, sem_eq_zero_of_no_sems rfl r.2⟩) (run_at m g)

end Cert.Proof.Proj.Ref

namespace Cert.Proof.Proj

open Idealize.ShloMosaic hiding ix1 ix2 ix3 ix4 ix5
open Idealize.ShloMosaic.ValueIdx
open Idealize.SL.Sem

/-- An index of the result is its row and its column. -/
theorem idx2 (i : Cert.Reference4Ideal.S32768x6144.Idx) : i = ix2 (i 0) (i 1) := by
  funext a
  rcases a with ⟨_ | _ | _, ha⟩
  · rfl
  · rfl
  · exact absurd ha (by show ¬ (_ < 2); omega)

/-- Kernel and reference leave the same result, for any extended reals as arguments. -/
theorem algebraic : Cert.algebraic_Kernel4Ideal_Reference4Ideal := by
  intro m g m' g' _ hargs
  refine ⟨fun c => (Cert.Kernel4Ideal.Gen.dats m 0 c).arrAt 5 Cert.Kernel4Ideal.cfg0.N, Cert.Kernel4Ideal.Value.run_blocks m g, ?_⟩
  refine (θ_run _ _ _).mono (fun r h c => ?_) (Ref.run_at m' g')
  obtain ⟨h0, hk⟩ := h c
  obtain ⟨a0, a1⟩ := hargs c
  have e0 : Ref.argX m' c = argX m c := a0
  have e1 : Ref.argW m' c = argW m c := a1
  have ep : ∀ R j, Ref.post m' c R j = post m c R j := by
    intro R j
    unfold post Ref.post
    rw [e0, e1]
  refine ⟨?_, hk⟩
  funext i
  exact ((congrArg _ (idx2 i)).trans (h0 (i 0) (i 1))).trans
    ((ep (i 0) (i 1)).trans ((congrArg ((Cert.Kernel4Ideal.Gen.dats m 0 c).arrAt 5 Cert.Kernel4Ideal.cfg0.N) (idx2 i)).trans (result_at m c (i 0) (i 1))).symm)

end Cert.Proof.Proj

end
-- ==== Proof.Rope.Math.lean ====
/-
  The projection with rotary columns, elementwise: the products with the weights, the queries' scaled, the first columns of
  each head of the queries and the keys turned by the row's angles.
-/
module

public import proofs.«01_k».proof.Proof.PI.Entry
public import Idealize.ShloMosaic.Lib.ValueIdx

@[expose] public section

noncomputable section

namespace Cert.Proof.Rope

open Idealize.ShloMosaic

/-- The angle of position `n` at frequency `i`. -/
def ang (n i : ℕ) : EReal :=
  FloatOps.sitofp (F := Ideal) FTy.f32 (BitVec.ofNat 32 n) * Ideal.pow (Ideal.ofBits FTy.f32 1223959552#32)
    (Ideal.div (-(Ideal.ofBits FTy.f32 1073741824#32 * FloatOps.sitofp (F := Ideal) FTy.f32 (BitVec.ofNat 32 i))) (Ideal.ofBits FTy.f32 1107296256#32))

/-- The factors of an entry, of the entry sixteen columns on, and of the entry sixteen columns before. -/
def here (n j : ℕ) : EReal := if j < 16 then Ideal.cos (ang n j) else if j - 16 < 16 then Ideal.cos (ang n (j - 16)) else 1
def ahead (n j : ℕ) : EReal := if j < 16 then -Ideal.sin (ang n j) else 0
def behind (n j : ℕ) : EReal := if j < 16 then 0 else if j - 16 < 16 then Ideal.sin (ang n (j - 16)) else 0

/-- A row's entry at column `C` of position `n`, turned. -/
def turned (p : ℕ → EReal) (n C : ℕ) : EReal :=
  if C % 128 < 16 then p C * Ideal.cos (ang n (C % 128)) - p (C + 16) * Ideal.sin (ang n (C % 128))
  else if C % 128 - 16 < 16 then p C * Ideal.cos (ang n (C % 128 - 16)) + p (C - 16) * Ideal.sin (ang n (C % 128 - 16))
  else p C

/-- The sum of the three products of a head's column is the turned entry. -/
theorem turned_eq (p : ℕ → EReal) (n b j : ℕ) (hj : j < 128) :
    p (128 * b + j) * here n j + p (128 * b + (j + 128 - 112) % 128) * ahead n j + p (128 * b + (j + 128 - 16) % 128) * behind n j = turned p n (128 * b + j) := by
  have e : (128 * b + j) % 128 = j := by omega
  unfold turned here ahead behind
  rw [e]
  by_cases h : j < 16
  · have e1 : 128 * b + (j + 128 - 112) % 128 = 128 * b + j + 16 := by omega
    rw [if_pos h, if_pos h, if_pos h, if_pos h, mul_zero, add_zero, e1, mul_neg, sub_eq_add_neg]
  · rw [if_neg h, if_neg h, if_neg h, if_neg h, mul_zero, add_zero]
    by_cases h' : j - 16 < 16
    · have e2 : 128 * b + (j + 128 - 16) % 128 = 128 * b + j - 16 := by omega
      rw [if_pos h', if_pos h', if_pos h', e2]
    · rw [if_neg h', if_neg h', if_neg h', mul_zero, add_zero, mul_one]

variable (x : Fin 32768 → Fin 2048 → EReal) (wq : Fin 2048 → Fin 2048 → EReal) (wkv : Fin 2048 → Fin 4096 → EReal)

/-- The weights side by side. -/
def weights (d : Fin 2048) (C : ℕ) : EReal :=
  if h : C < 2048 then wq d ⟨C, h⟩ else if h : C - 2048 < 4096 then wkv d ⟨C - 2048, h⟩ else 0

/-- A product with the weights, scaled in the queries' columns. -/
def product (R : Fin 32768) (C : ℕ) : EReal :=
  (∑ d : Fin 2048, x R d * weights wq wkv d C) * if C < 2048 then ((1 / (√128 * Real.log 2) : ℝ) : EReal) else 1

/-- An entry of the result: turned in the queries' and the keys' columns. -/
def post (R : Fin 32768) (C : Fin 6144) : EReal :=
  if C.val < 4096 then turned (product x wq wkv R) (R.val % 8192) C.val else product x wq wkv R C.val

/-- A query's entry before it is turned, and a key's or a value's. -/
def query (R : Fin 32768) (C : Fin 2048) : EReal :=
  (∑ d : Fin 2048, x R d * wq d C) * Ideal.div 1 (Ideal.sqrt (Ideal.ofBits FTy.f32 1124073472#32) * Ideal.log (Ideal.ofBits FTy.f32 1073741824#32))
/-- The keys and values: the product with the second weights. -/
def keyval (R : Fin 32768) (C : Fin 4096) : EReal := ∑ d : Fin 2048, x R d * wkv d C

/-- A query's entry is a product with the weights. -/
theorem query_eq (R : Fin 32768) (C : Fin 2048) (D : ℕ) (h : C.val = D) : query x wq R C = product x wq wkv R D := by
  subst h
  unfold query product
  rw [if_pos C.isLt, Cert.Proof.SB.PI.scale_q]
  refine congrArg (· * _) (Finset.sum_congr rfl fun d _ => congrArg (x R d * ·) ?_)
  unfold weights
  rw [dif_pos C.isLt]

/-- A key's or a value's entry is a product with the weights. -/
theorem keyval_eq (R : Fin 32768) (C : Fin 4096) (D : ℕ) (h : C.val + 2048 = D) : keyval x wkv R C = product x wq wkv R D := by
  subst h
  unfold keyval product
  rw [if_neg (by omega), mul_one]
  refine Finset.sum_congr rfl fun d _ => congrArg (x R d * ·) ?_
  unfold weights
  rw [dif_neg (by omega), dif_pos (by omega)]
  exact congrArg (wkv d) (Fin.ext (by show C.val = C.val + 2048 - 2048; omega))

/-- The groups of columns: a head's turned columns and its others, of the queries, of the keys; the values'. -/
theorem cases_at (R : Fin 32768) (j : Fin 6144) :
    (if h : j.val < 2048 then
      if h1 : j.val % 128 < 16 then
        query x wq R ⟨j.val / 128 * 128 + j.val % 128, by omega⟩ * Ideal.cos (ang (R.val % 8192) (j.val % 128))
          - query x wq R ⟨j.val / 128 * 128 + (16 + j.val % 128), by omega⟩ * Ideal.sin (ang (R.val % 8192) (j.val % 128))
      else if h2 : j.val % 128 - 16 < 16 then
        query x wq R ⟨j.val / 128 * 128 + (16 + (j.val % 128 - 16)), by omega⟩ * Ideal.cos (ang (R.val % 8192) (j.val % 128 - 16))
          + query x wq R ⟨j.val / 128 * 128 + (j.val % 128 - 16), by omega⟩ * Ideal.sin (ang (R.val % 8192) (j.val % 128 - 16))
      else query x wq R ⟨j.val / 128 * 128 + (32 + (j.val % 128 - 16 - 16)), by omega⟩
    else if h : j.val - 2048 < 2048 then
      if h1 : (j.val - 2048) % 128 < 16 then
        keyval x wkv R ⟨(j.val - 2048) / 128 * 128 + (j.val - 2048) % 128, by omega⟩ * Ideal.cos (ang (R.val % 8192) ((j.val - 2048) % 128))
          - keyval x wkv R ⟨(j.val - 2048) / 128 * 128 + (16 + (j.val - 2048) % 128), by omega⟩ * Ideal.sin (ang (R.val % 8192) ((j.val - 2048) % 128))
      else if h2 : (j.val - 2048) % 128 - 16 < 16 then
        keyval x wkv R ⟨(j.val - 2048) / 128 * 128 + (16 + ((j.val - 2048) % 128 - 16)), by omega⟩ * Ideal.cos (ang (R.val % 8192) ((j.val - 2048) % 128 - 16))
          + keyval x wkv R ⟨(j.val - 2048) / 128 * 128 + ((j.val - 2048) % 128 - 16), by omega⟩ * Ideal.sin (ang (R.val % 8192) ((j.val - 2048) % 128 - 16))
      else keyval x wkv R ⟨(j.val - 2048) / 128 * 128 + (32 + ((j.val - 2048) % 128 - 16 - 16)), by omega⟩
    else keyval x wkv R ⟨2048 + (j.val - 2048 - 2048), by omega⟩ : EReal) = post x wq wkv R j := by
  unfold post turned
  by_cases h : j.val < 2048
  · rw [dif_pos h, if_pos (by omega)]
    by_cases h1 : j.val % 128 < 16
    · rw [dif_pos h1, if_pos h1, query_eq x wq wkv R _ j.val (by dsimp only; omega), query_eq x wq wkv R _ (j.val + 16) (by dsimp only; omega)]
    · rw [dif_neg h1, if_neg h1]
      by_cases h2 : j.val % 128 - 16 < 16
      · rw [dif_pos h2, if_pos h2, query_eq x wq wkv R _ j.val (by dsimp only; omega), query_eq x wq wkv R _ (j.val - 16) (by dsimp only; omega)]
      · rw [dif_neg h2, if_neg h2, query_eq x wq wkv R _ j.val (by dsimp only; omega)]
  · rw [dif_neg h]
    by_cases h' : j.val - 2048 < 2048
    · have e : (j.val - 2048) % 128 = j.val % 128 := by omega
      rw [dif_pos h', if_pos (by omega)]
      by_cases h1 : j.val % 128 < 16
      · rw [dif_pos (by omega), if_pos h1, keyval_eq x wq wkv R _ j.val (by dsimp only; omega), keyval_eq x wq wkv R _ (j.val + 16) (by dsimp only; omega), e]
      · rw [dif_neg (by omega), if_neg h1]
        by_cases h2 : j.val % 128 - 16 < 16
        · rw [dif_pos (by omega), if_pos h2, keyval_eq x wq wkv R _ j.val (by dsimp only; omega), keyval_eq x wq wkv R _ (j.val - 16) (by dsimp only; omega), e]
        · rw [dif_neg (by omega), if_neg h2, keyval_eq x wq wkv R _ j.val (by dsimp only; omega)]
    · rw [dif_neg h', if_neg (by omega), keyval_eq x wq wkv R _ j.val (by dsimp only; omega)]

end Cert.Proof.Rope

end
-- ==== Proof.Rope.PlainI.lean ====
/-
  The projection with rotary columns: a point of the last block column, which holds the values and rotates nothing.
-/
module

public import proofs.«01_k».proof.Proof.Gen.Kernel5Ideal.Frame.RunA

@[expose] public section

set_option maxRecDepth 16384

noncomputable section

namespace Cert.Proof.Rope.I

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 8000000 in
/-- A body that rotates nothing runs from whole buffers, keeps its operands, and leaves in the output the four strips
    that it stores. -/
def plain (c : Dev nD) (i : grid0.Coords) (arg2 : Memref sig .tc .vmem S1024x2048 .bf16) (harg2 : arg2.IsWhole) (arg3 : Memref sig .tc .vmem S2048x2048 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x2048 .bf16) (harg7 : arg7.IsWhole) (hc0 : ¬cond0_0 i) (hc1 : cond0_1 i)
    (x0 : Vec F S1024x2048 .bf16) (x1 : Vec F S2048x2048 .bf16) (x2 : Vec F S1024x128 .f32) (x3 : Vec F S1024x128 .f32) (x4 : Vec F S1024x128 .f32) :
    { L5 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0_proj i arg2 harg2 arg3 harg3 arg4 harg4 arg5 harg5 arg6 harg6 arg7 harg7) K } := by
  refine ⟨?_, fun E K => ?run⟩
  case run =>
    simp only [cc0_proj_eq_skeleton]; unfold cc0_proj_skel
    rw [dif_neg hc0, dif_pos hc1]
    simp only [k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2
    obtain rfl := harg5.eq_unread hf3; obtain rfl := harg6.eq_unread hf4
    sl_exec
    sl_step
    iapply Hk
    isplitl [H0]
    · iexists _; isplitr; · (ipureintro; exact harg2.read_unread _)
      iexact H0
    isplitl [H1]
    · iexists _; isplitr; · (ipureintro; exact harg3.read_unread _)
      iexact H1
    isplitl [H2]
    · iexists _; isplitr; · (ipureintro; exact harg4.read_unread _)
      iexact H2
    isplitl [H3]
    · iexists _; isplitr; · (ipureintro; exact harg5.read_unread _)
      iexact H3
    isplitl [H4]
    · iexists _; isplitr; · (ipureintro; exact harg6.read_unread _)
      iexact H4
    iexists _; iexact H5

end Cert.Proof.Rope.I

end
-- ==== Proof.Rope.RunI.lean ====
/-
  The launch of the projection with rotary columns: every grid point runs, the arguments end as they were, and each
  point writes back the tiles that it stores.
-/
module

public import proofs.«01_k».proof.Proof.Rope.PlainI
public import proofs.«01_k».proof.Proof.Gen.Kernel5Ideal.Points
public import Idealize.ShloMosaic.Lib.Pipeline.FrameBody
public import Idealize.ShloMosaic.Lib.Claim

@[expose] public section

set_option maxRecDepth 16384

noncomputable section

namespace Cert.Proof.Rope.I

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (g : Dev nD → PrngReg)

/-! ## What a point stores -/

/-- A point that rotates is not one that does not. -/
theorem rot_not_plain (t : Fin cfg0.N) (h : cond0_0 (grid0.coords t)) : ¬cond0_1 (grid0.coords t) := fun h' => by
  have h0 := (hcond0_0 t).mp h
  have h1 := (hcond0_1 t).mp h'
  omega

/-- A point that does not rotate is one of the last block column. -/
theorem plain_of_not_rot (t : Fin cfg0.N) (h : ¬cond0_0 (grid0.coords t)) : cond0_1 (grid0.coords t) :=
  (hcond0_1 t).mpr (by have h0 := mt (hcond0_0 t).mpr h; omega)

/-- The tiles that a rotating point stores. -/
def rotTiles (c : Dev nD) (t : Fin cfg0.N) (h : cond0_0 (grid0.coords t)) : List (View.Piece (Elt F) S1024x2048 .bf16) :=
  (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t)
    h (rot_not_plain t h) (iblk m c 0 t) (iblk m c 1 t) (iblk m c 2 t) (iblk m c 3 t) (iblk m c 4 t)).1

/-- The strips that another point stores. -/
def plainStrips (c : Dev nD) (t : Fin cfg0.N) (h : ¬cond0_0 (grid0.coords t)) : List (View.Piece (Elt F) S1024x2048 .bf16) :=
  (plain c (grid0.coords t) (ms0_0 t) (hs0_0 t) (ms0_1 t) (hs0_1 t) (ms0_2 t) (hs0_2 t) (ms0_3 t) (hs0_3 t) (ms0_4 t) (hs0_4 t) (ms0_5 t) (hs0_5 t)
    h (plain_of_not_rot t h) (iblk m c 0 t) (iblk m c 1 t) (iblk m c 2 t) (iblk m c 3 t) (iblk m c 4 t)).1

/-- The tiles cover the block. -/
theorem rotTiles_cover (c : Dev nD) (t : Fin cfg0.N) (h : cond0_0 (grid0.coords t)) (y : S1024x2048.Idx) :
    ∃ p ∈ rotTiles m c t h, y ∈ p.1.set := View.cover_of_tiledL (rotTiles m c t h) S256x128.size (by sl_kernel_rfl) y

/-- The strips cover the block. -/
theorem plainStrips_cover (c : Dev nD) (t : Fin cfg0.N) (h : ¬cond0_0 (grid0.coords t)) (y : S1024x2048.Idx) :
    ∃ p ∈ plainStrips m c t h, y ∈ p.1.set := View.cover_of_tiledL (plainStrips m c t h) S256x2048.size (by sl_kernel_rfl) y

open Classical in
/-- What a point leaves in the output's block. -/
def left (c : Dev nD) (t : Fin cfg0.N) : Vec F S1024x2048 .bf16 :=
  if h : cond0_0 (grid0.coords t) then View.canon (rotTiles m c t h) else View.canon (plainStrips m c t h)

/-! ## The launch's data -/

/-- The launch's data: the operands' buffers keep their blocks, the output's is left at what the point stores. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => left m c t
  Φ _ := Pipeline.ΦA spec0 c
  q _ := fullShare
  owed _ := 0

/-- Window 0 holds its block before a point. -/
theorem holds0 (c : Dev nD) (t : Fin cfg0.N) (d) : (dat m c).before 0 t d = iblk m c 0 t :=
  before0_0_of m (dat m c) rfl (fun _ => by dsimp only [dat]) t d

/-- Window 1 holds its block before a point. -/
theorem holds1 (c : Dev nD) (t : Fin cfg0.N) (d) : (dat m c).before 1 t d = iblk m c 1 t :=
  before0_1_of m (dat m c) rfl (fun _ => by dsimp only [dat]) t d

/-- Window 2 holds its block before a point. -/
theorem holds2 (c : Dev nD) (t : Fin cfg0.N) (d) : (dat m c).before 2 t d = iblk m c 2 t :=
  before0_2_of m (dat m c) rfl (fun _ => by dsimp only [dat]) t d

/-- Window 3 holds its block before a point. -/
theorem holds3 (c : Dev nD) (t : Fin cfg0.N) (d) : (dat m c).before 3 t d = iblk m c 3 t :=
  before0_3_of m (dat m c) rfl (fun _ => by dsimp only [dat]) t d

/-- Window 4 holds its block before a point. -/
theorem holds4 (c : Dev nD) (t : Fin cfg0.N) (d) : (dat m c).before 4 t d = iblk m c 4 t :=
  before0_4_of m (dat m c) rfl (fun _ => by dsimp only [dat]) t d

/-- The output is stored at every point. -/
theorem live_out (t : Fin cfg0.N) : cfg0.idle 5 (grid0.coords t) = false := by
  by_cases h : cond0_0 (grid0.coords t)
  · exact liveAt0_5_A t h (rot_not_plain t h)
  · exact liveAt0_5_B t h (plain_of_not_rot t h)

/-- A window that a point uses is left at what the data say. -/
theorem leaves (c : Dev nD) (w : Fin cfg0.W) (t : Fin cfg0.N) (h : cfg0.idle w (grid0.coords t) = false) :
    (dat m c).leavesExact w t = owns (c : Thread nD τ) ((cfg0.win w).stage (cfg0.slots t w)) fullShare ((dat m c).after w t) := by
  unfold Dat.leavesExact; rw [h]

set_option maxHeartbeats 2000000 in
/-- Every point's body runs from what the launch hands it, and leaves what the data say. -/
theorem point_runs (c : Dev nD) (t : Fin cfg0.N) :
    iprop((dat m c).Φ t.castSucc ∗ (dat m c).owesAt () t.castSucc
    ∗ (∃ d, owns (c : Thread nD τ) (ms0_0 t) fullShare ((dat m c).before 0 t d))
    ∗ (∃ d, owns (c : Thread nD τ) (ms0_1 t) fullShare ((dat m c).before 1 t d))
    ∗ (∃ d, owns (c : Thread nD τ) (ms0_2 t) fullShare ((dat m c).before 2 t d))
    ∗ (∃ d, owns (c : Thread nD τ) (ms0_3 t) fullShare ((dat m c).before 3 t d))
    ∗ (∃ d, owns (c : Thread nD τ) (ms0_4 t) fullShare ((dat m c).before 4 t d))
    ∗ (∃ d, owns (c : Thread nD τ) (ms0_5 t) fullShare ((dat m c).before 5 t d)))
    ⊢ wp frame (wpE (defs₀ (F := F)) Variants.none c none) Set.univ (bodyAt0 t) (fun _ => iprop((dat m c).Φ t.succ ∗ (dat m c).owesAt () t.succ
    ∗ (dat m c).leavesExact 0 t
    ∗ (dat m c).leavesExact 1 t
    ∗ (dat m c).leavesExact 2 t
    ∗ (dat m c).leavesExact 3 t
    ∗ (dat m c).leavesExact 4 t
    ∗ (dat m c).leavesExact 5 t)) := by
  unfold bodyAt0
  simp only [holds0, holds1, holds2, holds3, holds4]
  rw [show (dat m c).Φ t.succ = (dat m c).Φ t.castSucc from rfl, show (dat m c).owesAt () t.succ = (dat m c).owesAt () t.castSucc from rfl]
  rw [leaves m c 0 t (liveAt0_0 t), show (dat m c).after 0 t = iblk m c 0 t from by dsimp only [dat]]
  rw [leaves m c 1 t (liveAt0_1 t), show (dat m c).after 1 t = iblk m c 1 t from by dsimp only [dat]]
  rw [leaves m c 2 t (liveAt0_2 t), show (dat m c).after 2 t = iblk m c 2 t from by dsimp only [dat]]
  rw [leaves m c 3 t (liveAt0_3 t), show (dat m c).after 3 t = iblk m c 3 t from by dsimp only [dat]]
  rw [leaves m c 4 t (liveAt0_4 t), show (dat m c).after 4 t = iblk m c 4 t from by dsimp only [dat]]
  rw [leaves m c 5 t (live_out t), show (dat m c).after 5 t = left m c t from by dsimp only [dat]]
  iintro ⟨HΦ, Ho, ⟨%d0, H0⟩, ⟨%d1, H1⟩, ⟨%d2, H2⟩, ⟨%d3, H3⟩, ⟨%d4, H4⟩, ⟨%d5, H5⟩⟩
  by_cases h : cond0_0 (grid0.coords t)
  · rw [show left m c t = View.canon (rotTiles m c t h) from dif_pos h]
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) h (rot_not_plain t h) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_eq_canon _ _ _ (rotTiles_cover m c t h)
  · rw [show left m c t = View.canon (plainStrips m c t h) from dif_neg h]
    iapply ((plain c (grid0.coords t) (ms0_0 t) (hs0_0 t) (ms0_1 t) (hs0_1 t) (ms0_2 t) (hs0_2 t) (ms0_3 t) (hs0_3 t) (ms0_4 t) (hs0_4 t) (ms0_5 t) (hs0_5 t) h (plain_of_not_rot t h) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_eq_canon _ _ _ (plainStrips_cover m c t h)

/-- Every point's body meets the launch's data. -/
theorem body_obligation (c : Dev nD) : BodyObligation (dat m c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (point_runs m c t) rfl .rfl fun _ => .rfl

/-! ## The run -/

set_option backward.isDefEq.respectTransparency.types false in
/-- The program runs, from any memory with zero counters, and ends with zero counters. -/
theorem run_main : θ_run defs (onTc (τ := τ) (main (F := F))) ⟨m, fun _ => 0, g⟩
    (fun r => Pipeline.FramePost cfgs (fun _ => dat m) 0 (V m) r ∧ r.2.sem = fun _ => 0) :=
  Pipeline.θ_run_frame (Q' := _) cfgs (fun _ => dat m) (0 : Fin 1) launch0 defs₀ Variants.none m g main
    (hbody := fun c => (body_obligation m c).loose) (hshare := fun c => (dat m c).share_full fun _ => rfl)
    (howed := fun _ _ => rfl) (V := V m) (hmain := hmain m Variants.none) (hA := fun _ _ => rfl) (hΦ := fun _ _ => rfl)

/-- The arguments end as they were, and the counters are at zero. -/
theorem frame : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m g (fun _ => dat m) (fun _ _ => rfl) ((θ_run defs _ _).mono (fun _ h => h.1) (run_main m g)))
    ((θ_run defs _ _).mono (fun _ h => h.2) (run_main m g))

end Cert.Proof.Rope.I

end
-- ==== Proof.Rope.Tiles.lean ====
/-
  The tiles that a rotating point stores, each of one expression in its strip of rows and its head of columns.
-/
module

public import proofs.«01_k».proof.Proof.Rope.RunI

@[expose] public section

set_option maxRecDepth 65536

noncomputable section

namespace Cert.Proof.Rope.I

open Cert.Kernel5Ideal Cert.Kernel5Ideal.Gen
open Idealize.ShloMosaic Idealize.ShloMosaic.TcCoe Idealize.SL.Sem

variable {F : FTy → Type} [FloatOps F] [Named F]

variable (m : (ℓ : Loc nD τ sig) → Buf (Elt F) ℓ) (c : Dev nD) (t : Fin cfg0.N)

/-- A strip of rows lies in its block. -/
theorem inb_rows (a : Fin 4) : ∀ b, (![256 * a.val, 0] : Fin 2 → ℕ) b + S256x2048.size b ≤ S1024x2048.size b := by
  revert a; decide

/-- A strip of a table lies in its block. -/
theorem inb_table (a : Fin 4) : ∀ b, (![256 * a.val, 0] : Fin 2 → ℕ) b + S256x128.size b ≤ S1024x128.size b := by
  revert a; decide

/-- A tile lies in its block. -/
theorem inb_tile (a : Fin 4) (h : Fin 16) : ∀ b, (![256 * a.val, 128 * h.val] : Fin 2 → ℕ) b + S256x128.size b ≤ S1024x2048.size b := by
  revert a h; decide

/-- A head's columns lie in a strip. -/
theorem slices_head (h : Fin 16) : S256x2048.Slices ![0, 128 * h.val] S256x128 := by
  revert h; decide

/-- A strip's products with the weights, scaled. -/
def scaled (a : Fin 4) : FVec F S256x2048 .f32 :=
  mulf (matmul dot_S256x2048_S2048x2048_S256x2048_1_0_0_1_n_n none
      (shapeCast S256x2048 (View.readAt (Elt F) (ms0_0 t).view (Rect.unit (s := S1024x2048) ![256 * a.val, 0] S256x2048.size (inb_rows a)).toLoadRect ((hs0_0 t).unread (iblk m c 0 t)) : Vec F S256x2048 .bf16) shapeCasts_S256x2048_S256x2048)
      (shapeCast S2048x2048 (View.readAt (Elt F) (ms0_1 t).view (Rect.unit (s := S2048x2048) ![0, 0] S2048x2048.size inb_S2048x2048_S2048x2048_0_0).toLoadRect ((hs0_1 t).unread (iblk m c 1 t)) : Vec F S2048x2048 .bf16) shapeCasts_S2048x2048_S2048x2048)
      (constant S256x2048 .f32 0x00000000#32))
    (broadcast S256x2048 (k0_pay1 (grid0.coords t)))

/-- The strips of the three tables. -/
def table0 (a : Fin 4) : FVec F S256x128 .f32 :=
  shapeCast S256x128 (View.readAt (Elt F) (ms0_2 t).view (Rect.unit (s := S1024x128) ![256 * a.val, 0] S256x128.size (inb_table a)).toLoadRect ((hs0_2 t).unread (iblk m c 2 t)) : Vec F S256x128 .f32) shapeCasts_S256x128_S256x128
/-- The rows of the second table that a tile reads. -/
def table1 (a : Fin 4) : FVec F S256x128 .f32 :=
  shapeCast S256x128 (View.readAt (Elt F) (ms0_3 t).view (Rect.unit (s := S1024x128) ![256 * a.val, 0] S256x128.size (inb_table a)).toLoadRect ((hs0_3 t).unread (iblk m c 3 t)) : Vec F S256x128 .f32) shapeCasts_S256x128_S256x128
/-- The rows of the third table that a tile reads. -/
def table2 (a : Fin 4) : FVec F S256x128 .f32 :=
  shapeCast S256x128 (View.readAt (Elt F) (ms0_4 t).view (Rect.unit (s := S1024x128) ![256 * a.val, 0] S256x128.size (inb_table a)).toLoadRect ((hs0_4 t).unread (iblk m c 4 t)) : Vec F S256x128 .f32) shapeCasts_S256x128_S256x128

/-- A head of a strip, rotated: times the first table, plus its two rotations times the others. -/
def rotated (v : FVec F S256x2048 .f32) (t0 t1 t2 : FVec F S256x128 .f32) (h : Fin 16) : FVec F S256x128 .bf16 :=
  truncf .bf16 (addf (addf (mulf (extractStridedSlice S256x128 ![0, 128 * h.val] v (slices_head h)) t0)
      (mulf (dynamicRotate 1 112#32 none (extractStridedSlice S256x128 ![0, 128 * h.val] v (slices_head h)) rotates_S256x128_d1) t1))
    (mulf (dynamicRotate 1 16#32 none (extractStridedSlice S256x128 ![0, 128 * h.val] v (slices_head h)) rotates_S256x128_d1) t2)) bitsLt_bf16_f32

/-- A tile: where it lies, and what it holds. -/
def tile (p : Fin 4 × Fin 16) : View.Piece (Elt F) S1024x2048 .bf16 :=
  ⟨Rect.unit (s := S1024x2048) ![256 * p.1.val, 128 * p.2.val] S256x128.size (inb_tile p.1 p.2),
    rotated (scaled m c t p.1) (table0 m c t p.1) (table1 m c t p.1) (table2 m c t p.1) p.2⟩

/-- The tiles in the order that they are stored in, the last first. -/
def order : List (Fin 4 × Fin 16) :=
  [(3, 15), (3, 14), (3, 13), (3, 12), (3, 11), (3, 10), (3, 9), (3, 8), (3, 7), (3, 6), (3, 5), (3, 4), (3, 3), (3, 2), (3, 1), (3, 0), (2, 15), (2, 14), (2, 13), (2, 12), (2, 11), (2, 10), (2, 9), (2, 8), (2, 7), (2, 6), (2, 5), (2, 4), (2, 3), (2, 2), (2, 1), (2, 0), (1, 15), (1, 14), (1, 13), (1, 12), (1, 11), (1, 10), (1, 9), (1, 8), (1, 7), (1, 6), (1, 5), (1, 4), (1, 3), (1, 2), (1, 1), (1, 0), (0, 15), (0, 14), (0, 13), (0, 12), (0, 11), (0, 10), (0, 9), (0, 8), (0, 7), (0, 6), (0, 5), (0, 4), (0, 3), (0, 2), (0, 1), (0, 0)]

set_option maxHeartbeats 4000000 in
/-- What a rotating point stores are these tiles. -/
theorem rotTiles_eq (h : cond0_0 (grid0.coords t)) : rotTiles m c t h = order.map (tile m c t) := rfl

/-- A strip of a point that does not rotate: where it lies, and what it holds. -/
def whole (a : Fin 4) : View.Piece (Elt F) S1024x2048 .bf16 :=
  ⟨Rect.unit (s := S1024x2048) ![256 * a.val, 0] S256x2048.size (inb_rows a), (truncf .bf16 (scaled m c t a) bitsLt_bf16_f32 : FVec F S256x2048 .bf16)⟩

/-- What another point stores are these strips. -/
theorem plainStrips_eq (h : ¬cond0_0 (grid0.coords t)) : plainStrips m c t h = [3, 2, 1, 0].map (whole m c t) := rfl

end Cert.Proof.Rope.I

end
-- ==== Proof.Rope.Reads.lean ====
/-
  The blocks that a grid point of the projection with rotary columns reads, as entries of the program's arguments and
  tables.
-/
module

public import proofs.«01_k».proof.Proof.Rope.Math
public import proofs.«01_k».proof.Proof.Rope.Tiles
public import Idealize.ShloMosaic.Lib.StableHlo.ReadAt
public import Idealize.ShloMosaic.Lib.Pointwise
public import Idealize.ShloMosaic.Lib.Pipeline.ValueKit.Geometry

@[expose] public section

set_option maxRecDepth 16384

noncomputable section

namespace Cert.Proof.Rope.I

open Cert.Kernel5Ideal Cert.Kernel5Ideal.Gen
open Idealize.ShloMosaic hiding ix1 ix2 ix3 ix4 ix5
open Idealize.ShloMosaic.ValueIdx

variable (m : (ℓ : Loc nD τ sig) → Buf (Elt Ideal) ℓ) (c : Dev nD)

/-- The rows. -/
def argX : Vec Ideal S32768x2048 .f32 := m ((c.tc : Thread nD τ).loc main_arg0)
/-- The queries' weights. -/
def argQ : Vec Ideal S2048x2048 .f32 := m ((c.tc : Thread nD τ).loc main_arg1)
/-- The keys' and the values' weights. -/
def argKV : Vec Ideal S2048x4096 .f32 := m ((c.tc : Thread nD τ).loc main_arg2)

/-- The launch finds the rows as they were given. -/
theorem rows_at (R : Fin 32768) (d : Fin 2048) : (V m c main_v3 : Vec Ideal S32768x2048 .bf16) (ix2 R d) = (argX m c (ix2 R d) : EReal) := by
  unfold V
  after_reads_at
  rfl

/-- The two groups of weights. -/
theorem weights_cases (d : Fin 2048) (C : Fin 6144) :
    (if h : C.val < 2048 then argQ m c (ix2 d ⟨C.val, h⟩) else argKV m c (ix2 d ⟨C.val - 2048, by omega⟩) : EReal)
      = weights (fun d C => argQ m c (ix2 d C)) (fun d C => argKV m c (ix2 d C)) d C.val := by
  unfold weights
  by_cases h : C.val < 2048
  · rw [dif_pos h, dif_pos h]
  · rw [dif_neg h, dif_neg h, dif_pos (by omega)]

/-- The launch finds the weights side by side. -/
theorem weights_at (d : Fin 2048) (C : Fin 6144) :
    (V m c main_v2 : Vec Ideal S2048x6144 .bf16) (ix2 d C) = weights (fun d C => argQ m c (ix2 d C)) (fun d C => argKV m c (ix2 d C)) d C.val := by
  unfold V
  after_reads_at
  exact weights_cases m c d C

/-- The launch finds the tables of the angles' cosines and sines. -/
theorem cos_at (n : Fin 8192) (i : Fin 16) : (V m c main_v20 : Vec Ideal S8192x16 .f32) (ix2 n i) = Ideal.cos (ang n.val i.val) := by
  unfold V
  after_reads_at
  rfl
/-- The sines of the angles. -/
theorem sin_at (n : Fin 8192) (i : Fin 16) : (V m c main_v21 : Vec Ideal S8192x16 .f32) (ix2 n i) = Ideal.sin (ang n.val i.val) := by
  unfold V
  after_reads_at
  rfl
/-- The columns of the first table that are one. -/
theorem ones_at (n : Fin 8192) (i : Fin 96) : (V m c main_v22 : Vec Ideal S8192x96 .f32) (ix2 n i) = (1 : EReal) := by
  unfold V
  after_reads_at
/-- The sixteen zero columns of the third table. -/
theorem zeros16_at (n : Fin 8192) (i : Fin 16) : (V m c main_v27 : Vec Ideal S8192x16 .f32) (ix2 n i) = (0 : EReal) := by
  unfold V
  after_reads_at
/-- The ninety-six zero columns of the third table. -/
theorem zeros96_at (n : Fin 8192) (i : Fin 96) : (V m c main_v28 : Vec Ideal S8192x96 .f32) (ix2 n i) = (0 : EReal) := by
  unfold V
  after_reads_at
set_option maxHeartbeats 2000000 in
theorem here_at (n : Fin 8192) (j : Fin 128) : (V m c main_v23 : Vec Ideal S8192x128 .f32) (ix2 n j) = here n.val j.val := by
  unfold V
  after_reads_at
  unfold here
  by_cases h : j.val < 16
  · rw [if_pos h]
    exact (dif_pos h).trans (cos_at m c n ⟨j.val, h⟩)
  · rw [if_neg h]
    by_cases h' : j.val - 16 < 16
    · rw [if_pos h']
      exact (dif_neg h).trans ((dif_pos h').trans (cos_at m c n ⟨j.val - 16, h'⟩))
    · rw [if_neg h']
      exact (dif_neg h).trans ((dif_neg h').trans (ones_at m c n ⟨j.val - 16 - 16, by omega⟩))
/-- The second table at an entry. -/
theorem ahead_at (n : Fin 8192) (j : Fin 128) : (V m c main_v26 : Vec Ideal S8192x128 .f32) (ix2 n j) = ahead n.val j.val := by
  unfold V
  after_reads_at
  rfl
set_option maxHeartbeats 2000000 in
/-- The third table at an entry. -/
theorem behind_at (n : Fin 8192) (j : Fin 128) : (V m c main_v29 : Vec Ideal S8192x128 .f32) (ix2 n j) = behind n.val j.val := by
  unfold V
  after_reads_at
  unfold behind
  by_cases h : j.val < 16
  · rw [if_pos h]
    exact (dif_pos h).trans (zeros16_at m c n ⟨j.val, h⟩)
  · rw [if_neg h]
    by_cases h' : j.val - 16 < 16
    · rw [if_pos h']
      exact (dif_neg h).trans ((dif_pos h').trans (sin_at m c n ⟨j.val - 16, h'⟩))
    · rw [if_neg h']
      exact (dif_neg h).trans ((dif_neg h').trans (zeros96_at m c n ⟨j.val - 16 - 16, by omega⟩))

/-- The blocks' positions in their arrays. -/
theorem win_x : ∀ t : Fin grid0.N, win0_0.index t 0 = t.val / 3 ∧ win0_0.index t 1 = 0 := by decide +kernel
theorem win_w : ∀ t : Fin grid0.N, win0_1.index t 0 = 0 ∧ win0_1.index t 1 = t.val % 3 := by decide +kernel
theorem win_here : ∀ t : Fin grid0.N, win0_2.index t 0 = t.val / 3 % 8 ∧ win0_2.index t 1 = 0 := by decide +kernel
theorem win_ahead : ∀ t : Fin grid0.N, win0_3.index t 0 = t.val / 3 % 8 ∧ win0_3.index t 1 = 0 := by decide +kernel
theorem win_behind : ∀ t : Fin grid0.N, win0_4.index t 0 = t.val / 3 % 8 ∧ win0_4.index t 1 = 0 := by decide +kernel
theorem win_o : ∀ t : Fin grid0.N, win0_5.index t 0 = t.val / 3 ∧ win0_5.index t 1 = t.val % 3 := by decide +kernel

variable (t : Fin grid0.N)

/-- A block of rows. -/
theorem blk_x (r : Fin 1024) (d : Fin 2048) (R : Fin 32768) (hR : R.val = 1024 * (t.val / 3) + r.val) :
    (iblk m c 0 t : Vec Ideal S1024x2048 .bf16) (ix2 r d) = (argX m c (ix2 R d) : EReal) := by
  rw [← rows_at]
  refine congrArg (V m c main_v3) (?_ : (win0_0.blk t).view.emb (ix2 r d) = ix2 R d)
  funext a
  rcases a with ⟨_ | _ | _, ha⟩
  · refine Fin.ext ?_
    show ((win0_0.blk t).view.emb (ix2 r d) 0).val = R.val
    blk_simp
    rw [(win_x t).1, hR]
    show _ + r.val = _
    ring
  · refine Fin.ext ?_
    show ((win0_0.blk t).view.emb (ix2 r d) 1).val = d.val
    blk_simp
    rw [(win_x t).2]
    show _ + d.val = d.val
    ring
  · exact absurd ha (by show ¬ (_ < 2); omega)

/-- A block of the weights' columns. -/
theorem blk_w (d j : Fin 2048) (C : Fin 6144) (hC : C.val = 2048 * (t.val % 3) + j.val) :
    (iblk m c 1 t : Vec Ideal S2048x2048 .bf16) (ix2 d j) = weights (fun d C => argQ m c (ix2 d C)) (fun d C => argKV m c (ix2 d C)) d C.val := by
  rw [← weights_at]
  refine congrArg (V m c main_v2) (?_ : (win0_1.blk t).view.emb (ix2 d j) = ix2 d C)
  funext a
  rcases a with ⟨_ | _ | _, ha⟩
  · refine Fin.ext ?_
    show ((win0_1.blk t).view.emb (ix2 d j) 0).val = d.val
    blk_simp
    rw [(win_w t).1]
    show _ + d.val = d.val
    ring
  · refine Fin.ext ?_
    show ((win0_1.blk t).view.emb (ix2 d j) 1).val = C.val
    blk_simp
    rw [(win_w t).2, hC]
    show _ + j.val = _
    ring
  · exact absurd ha (by show ¬ (_ < 2); omega)

/-- Where an entry of the result's block lies in the result. -/
theorem blk_o (r : Fin 1024) (j : Fin 2048) (R : Fin 32768) (hR : R.val = 1024 * (t.val / 3) + r.val) (C : Fin 6144) (hC : C.val = 2048 * (t.val % 3) + j.val) :
    (win0_5.blk t).view.emb (ix2 r j) = ix2 R C := by
  funext a
  rcases a with ⟨_ | _ | _, ha⟩
  · refine Fin.ext ?_
    show ((win0_5.blk t).view.emb (ix2 r j) 0).val = R.val
    blk_simp
    rw [(win_o t).1, hR]
    show _ + r.val = _
    ring
  · refine Fin.ext ?_
    show ((win0_5.blk t).view.emb (ix2 r j) 1).val = C.val
    blk_simp
    rw [(win_o t).2, hC]
    show _ + j.val = _
    ring
  · exact absurd ha (by show ¬ (_ < 2); omega)

/-- A block of the first table. -/
theorem blk_here (r : Fin 1024) (j : Fin 128) (n : Fin 8192) (hn : n.val = 1024 * (t.val / 3 % 8) + r.val) :
    (iblk m c 2 t : Vec Ideal S1024x128 .f32) (ix2 r j) = here n.val j.val := by
  rw [← here_at]
  refine congrArg (V m c main_v23) (?_ : (win0_2.blk t).view.emb (ix2 r j) = ix2 n j)
  funext a
  rcases a with ⟨_ | _ | _, ha⟩
  · refine Fin.ext ?_
    show ((win0_2.blk t).view.emb (ix2 r j) 0).val = n.val
    blk_simp
    rw [(win_here t).1, hn]
    show _ + r.val = _
    ring
  · refine Fin.ext ?_
    show ((win0_2.blk t).view.emb (ix2 r j) 1).val = j.val
    blk_simp
    rw [(win_here t).2]
    show _ + j.val = j.val
    ring
  · exact absurd ha (by show ¬ (_ < 2); omega)

/-- A block of the second table. -/
theorem blk_ahead (r : Fin 1024) (j : Fin 128) (n : Fin 8192) (hn : n.val = 1024 * (t.val / 3 % 8) + r.val) :
    (iblk m c 3 t : Vec Ideal S1024x128 .f32) (ix2 r j) = ahead n.val j.val := by
  rw [← ahead_at]
  refine congrArg (V m c main_v26) (?_ : (win0_3.blk t).view.emb (ix2 r j) = ix2 n j)
  funext a
  rcases a with ⟨_ | _ | _, ha⟩
  · refine Fin.ext ?_
    show ((win0_3.blk t).view.emb (ix2 r j) 0).val = n.val
    blk_simp
    rw [(win_ahead t).1, hn]
    show _ + r.val = _
    ring
  · refine Fin.ext ?_
    show ((win0_3.blk t).view.emb (ix2 r j) 1).val = j.val
    blk_simp
    rw [(win_ahead t).2]
    show _ + j.val = j.val
    ring
  · exact absurd ha (by show ¬ (_ < 2); omega)

/-- A block of the third table. -/
theorem blk_behind (r : Fin 1024) (j : Fin 128) (n : Fin 8192) (hn : n.val = 1024 * (t.val / 3 % 8) + r.val) :
    (iblk m c 4 t : Vec Ideal S1024x128 .f32) (ix2 r j) = behind n.val j.val := by
  rw [← behind_at]
  refine congrArg (V m c main_v29) (?_ : (win0_4.blk t).view.emb (ix2 r j) = ix2 n j)
  funext a
  rcases a with ⟨_ | _ | _, ha⟩
  · refine Fin.ext ?_
    show ((win0_4.blk t).view.emb (ix2 r j) 0).val = n.val
    blk_simp
    rw [(win_behind t).1, hn]
    show _ + r.val = _
    ring
  · refine Fin.ext ?_
    show ((win0_4.blk t).view.emb (ix2 r j) 1).val = j.val
    blk_simp
    rw [(win_behind t).2]
    show _ + j.val = j.val
    ring
  · exact absurd ha (by show ¬ (_ < 2); omega)

end Cert.Proof.Rope.I

end
-- ==== Proof.Rope.Final.lean ====
/-
  What the projection with rotary columns leaves in its result.
-/
module

public import proofs.«01_k».proof.Proof.Rope.Reads
public import proofs.«01_k».proof.Proof.Mlp.Cases

@[expose] public section

set_option maxRecDepth 16384

noncomputable section

namespace Cert.Proof.Rope.I

open Cert.Kernel5Ideal Cert.Kernel5Ideal.Gen
open Idealize.ShloMosaic hiding ix1 ix2 ix3 ix4 ix5
open Idealize.ShloMosaic.ValueIdx Idealize.SL.Sem

variable (m : (ℓ : Loc nD τ sig) → Buf (Elt Ideal) ℓ) (c : Dev nD) (t : Fin grid0.N)

/-- The scale that a grid point applies. -/
abbrev scale (i : grid0.Coords) : EReal := k0_pay1 (F := Ideal) i

/-- An entry of a strip, in its block. -/
theorem strip (o : ℕ) (inb : ∀ a, (![o, 0] : Fin 2 → ℕ) a + S256x2048.size a ≤ S1024x2048.size a) (ho : o ≤ 768) (r : Fin 256) (j : Fin 2048) :
    (Rect.unit (s := S1024x2048) ![o, 0] S256x2048.size inb).emb (ix2 r j) = ix2 ⟨o + r.val, by omega⟩ j := by
  funext a
  rcases a with ⟨_ | _ | _, ha⟩
  · refine Fin.ext ?_
    show o + 1 * r.val = o + r.val
    ring
  · refine Fin.ext ?_
    show 0 + 1 * j.val = j.val
    ring
  · exact absurd ha (by show ¬ (_ < 2); omega)

/-- An entry of a tile, in its block. -/
theorem strip_tile (a : Fin 4) (h : Fin 16) (r : Fin 256) (j : Fin 128) :
    (Rect.unit (s := S1024x2048) ![256 * a.val, 128 * h.val] S256x128.size (inb_tile a h)).emb (ix2 r j)
      = ix2 ⟨256 * a.val + r.val, by omega⟩ ⟨128 * h.val + j.val, by omega⟩ := by
  funext b
  rcases b with ⟨_ | _ | _, hb⟩
  · refine Fin.ext ?_
    show 256 * a.val + 1 * r.val = 256 * a.val + r.val
    ring
  · refine Fin.ext ?_
    show 128 * h.val + 1 * j.val = 128 * h.val + j.val
    ring
  · exact absurd hb (by show ¬ (_ < 2); omega)

/-- A strip of rows times the weights, scaled. -/
theorem strip_at (s : EReal) (x : Vec Ideal S256x2048 .bf16) (w : Vec Ideal S2048x2048 .bf16) (r : Fin 256) (j : Fin 2048) :
    (mulf (matmul (φ₁ := .bf16) (φ₂ := .bf16) dot_S256x2048_S2048x2048_S256x2048_1_0_0_1_n_n none (shapeCast S256x2048 x shapeCasts_S256x2048_S256x2048)
        (shapeCast S2048x2048 w shapeCasts_S2048x2048_S2048x2048) (constant S256x2048 .f32 0x00000000#32))
      (broadcast S256x2048 s) : FVec Ideal S256x2048 .f32) (ix2 r j) = ((∑ d : Fin 2048, x (ix2 r d) * w (ix2 d j)) * s : EReal) := by
  pointwise
  rfl

/-- The entries of a point's block of rows and of its block of weights. -/
abbrev rowsBlk (r : Fin 1024) (d : Fin 2048) : EReal := (iblk m c 0 t : Vec Ideal S1024x2048 .bf16) (ix2 r d)
/-- The weights of a point, entry by entry. -/
abbrev weightsBlk (d j : Fin 2048) : EReal := (iblk m c 1 t : Vec Ideal S2048x2048 .bf16) (ix2 d j)

/-- An entry of a point's scaled products. -/
theorem scaled_at (a : Fin 4) (r : Fin 256) (j : Fin 2048) :
    scaled m c t a (ix2 r j) = (∑ d : Fin 2048, rowsBlk m c t ⟨256 * a.val + r.val, by omega⟩ d * weightsBlk m c t d j) * scale (grid0.coords t) := by
  unfold scaled
  rw [View.readAt_eq_ld, View.readAt_eq_ld, Memref.IsWhole.read_unread, Memref.IsWhole.read_unread, View.ld_unit_zero Mlp.zero2]
  refine (strip_at _ _ _ r j).trans (congrArg (fun v : EReal => v * scale (grid0.coords t)) (Finset.sum_congr rfl fun d _ => congrArg (fun v : EReal => v * weightsBlk m c t d j) ?_))
  exact congrArg (iblk m c 0 t : Vec Ideal S1024x2048 .bf16) (strip (256 * a.val) (inb_rows a) (by omega) r d)

/-- An entry of a strip of a table. -/
theorem table0_at (a : Fin 4) (r : Fin 256) (j : Fin 128) :
    table0 m c t a (ix2 r j) = ((iblk m c 2 t : Vec Ideal S1024x128 .f32) (ix2 ⟨256 * a.val + r.val, by omega⟩ j) : EReal) := by
  unfold table0
  rw [View.readAt_eq_ld, Memref.IsWhole.read_unread]
  pointwise
  rfl
/-- The second table, read at an entry. -/
theorem table1_at (a : Fin 4) (r : Fin 256) (j : Fin 128) :
    table1 m c t a (ix2 r j) = ((iblk m c 3 t : Vec Ideal S1024x128 .f32) (ix2 ⟨256 * a.val + r.val, by omega⟩ j) : EReal) := by
  unfold table1
  rw [View.readAt_eq_ld, Memref.IsWhole.read_unread]
  pointwise
  rfl
/-- The third table, read at an entry. -/
theorem table2_at (a : Fin 4) (r : Fin 256) (j : Fin 128) :
    table2 m c t a (ix2 r j) = ((iblk m c 4 t : Vec Ideal S1024x128 .f32) (ix2 ⟨256 * a.val + r.val, by omega⟩ j) : EReal) := by
  unfold table2
  rw [View.readAt_eq_ld, Memref.IsWhole.read_unread]
  pointwise
  rfl

/-- An entry of a rotated head. -/
theorem rotated_at (v : FVec Ideal S256x2048 .f32) (t0 t1 t2 : FVec Ideal S256x128 .f32) (h : Fin 16) (r : Fin 256) (j : Fin 128) :
    rotated v t0 t1 t2 h (ix2 r j) = (v (ix2 r ⟨128 * h.val + j.val, by omega⟩) * t0 (ix2 r j)
      + v (ix2 r ⟨128 * h.val + (j.val + 128 - 112) % 128, by omega⟩) * t1 (ix2 r j)
      + v (ix2 r ⟨128 * h.val + (j.val + 128 - 16) % 128, by omega⟩) * t2 (ix2 r j) : EReal) := by
  unfold rotated
  pointwise
  rfl

/-- The queries' blocks are the first of each three. -/
theorem first_block : ∀ t : Fin grid0.N, Scalar.cmpi .slt (BitVec.ofNat 32 (grid0.coords t 1).val) 1#32 = if t.val % 3 = 0 then 1#1 else 0#1 := by decide +kernel

/-- The scale of the queries is `1 / (√128 log 2)`, that of the keys and the values is one. -/
theorem scale_eq : scale (grid0.coords t) = if t.val % 3 = 0 then ((1 / (√128 * Real.log 2) : ℝ) : EReal) else 1 := by
  have e1 : Ideal.ofBits FTy.f32 0x3F800000#32 = (1 : EReal) := by
    rw [← EReal.coe_one]
    simp [Ideal.ofBits, Ideal.ieee, -EReal.coe_mul, -EReal.coe_one]; norm_num
  have e2 : (Named.named (F := Ideal) (φ := .f32) κ "logit_scale_log2" 0x3E0293EE#32 : EReal) = ((1 / (√128 * Real.log 2) : ℝ) : EReal) := by
    rw [one_div]
    rfl
  show Scalar.select (Scalar.cmpi .slt (BitVec.ofNat 32 (grid0.coords t 1).val) 1#32) (Named.named (F := Ideal) (φ := .f32) κ "logit_scale_log2" 0x3E0293EE#32) (Ideal.ofBits FTy.f32 0x3F800000#32) = _
  rw [first_block, e1, e2]
  split_ifs with h
  · rfl
  · rfl

/-! ## A block of the result -/

/-- The products with the weights, of the program's arguments. -/
abbrev prod (R : Fin 32768) (C : ℕ) : EReal :=
  product (fun R d => argX m c (ix2 R d)) (fun d C => argQ m c (ix2 d C)) (fun d C => argKV m c (ix2 d C)) R C

/-- The result, of the program's arguments. -/
abbrev res (R : Fin 32768) (C : Fin 6144) : EReal :=
  post (fun R d => argX m c (ix2 R d)) (fun d C => argQ m c (ix2 d C)) (fun d C => argKV m c (ix2 d C)) R C

/-- An entry of a point's scaled products is the product of its row and its column. -/
theorem scaled_prod (a : Fin 4) (r : Fin 256) (j : Fin 2048) (R : Fin 32768) (hR : R.val = 1024 * (t.val / 3) + (256 * a.val + r.val)) (C : ℕ) (hC : C = 2048 * (t.val % 3) + j.val) :
    scaled m c t a (ix2 r j) = prod m c R C := by
  rw [scaled_at]
  unfold prod product
  refine congrArg₂ (· * ·) (Finset.sum_congr rfl fun d _ => congrArg₂ (· * ·) (blk_x m c t _ d R hR) ?_) ?_
  · exact (blk_w m c t d j ⟨C, by omega⟩ hC).trans rfl
  · rw [scale_eq]
    refine if_congr ?_ rfl rfl
    omega

/-- A row and a column of a point's block, in the result. -/
def row (r : Fin 1024) : Fin 32768 :=
  ⟨1024 * (t.val / 3) + r.val, by have hN : t.val < 96 := lt_of_lt_of_eq t.isLt N_0; omega⟩
/-- The column of the result where a column of the block of a point lies. -/
def col (j : Fin 2048) : Fin 6144 := ⟨2048 * (t.val % 3) + j.val, by omega⟩

/-- A block of the result. -/
def block : Vec Ideal S1024x2048 .bf16 := fun i => res m c (row t (i 0)) (col t (i 1))

/-- A tile's entries are its block's. -/
theorem tile_at (ht : t.val % 3 ≤ 1) (a : Fin 4) (h : Fin 16) (r : Fin 256) (j : Fin 128) :
    rotated (scaled m c t a) (table0 m c t a) (table1 m c t a) (table2 m c t a) h (ix2 r j)
      = res m c (row t ⟨256 * a.val + r.val, by omega⟩) (col t ⟨128 * h.val + j.val, by omega⟩) := by
  have hN : t.val < 96 := lt_of_lt_of_eq t.isLt N_0
  have hn : (row t ⟨256 * a.val + r.val, by omega⟩).val % 8192 = 1024 * (t.val / 3 % 8) + (256 * a.val + r.val) := by
    show (1024 * (t.val / 3) + (256 * a.val + r.val)) % 8192 = _
    omega
  have hn' : (row t ⟨256 * a.val + r.val, by omega⟩).val % 8192 < 8192 := Nat.mod_lt _ (by norm_num)
  have hC : (col t ⟨128 * h.val + j.val, by omega⟩).val = 128 * (16 * (t.val % 3) + h.val) + j.val := by
    show 2048 * (t.val % 3) + (128 * h.val + j.val) = _
    ring
  rw [rotated_at, table0_at, table1_at, table2_at, blk_here m c t _ j ⟨_, hn'⟩ hn, blk_ahead m c t _ j ⟨_, hn'⟩ hn, blk_behind m c t _ j ⟨_, hn'⟩ hn,
    scaled_prod m c t a r _ (row t ⟨256 * a.val + r.val, by omega⟩) rfl (128 * (16 * (t.val % 3) + h.val) + j.val) (by dsimp only; ring),
    scaled_prod m c t a r _ (row t ⟨256 * a.val + r.val, by omega⟩) rfl (128 * (16 * (t.val % 3) + h.val) + (j.val + 128 - 112) % 128) (by dsimp only; ring),
    scaled_prod m c t a r _ (row t ⟨256 * a.val + r.val, by omega⟩) rfl (128 * (16 * (t.val % 3) + h.val) + (j.val + 128 - 16) % 128) (by dsimp only; ring)]
  unfold res post
  rw [if_pos (by rw [hC]; omega), hC]
  exact turned_eq _ _ _ _ j.isLt

/-- A strip's entries are its block's. -/
theorem whole_at (ht : t.val % 3 = 2) (a : Fin 4) (r : Fin 256) (j : Fin 2048) :
    (scaled m c t a (ix2 r j) : EReal) = res m c (row t ⟨256 * a.val + r.val, by omega⟩) (col t j) := by
  rw [scaled_prod m c t a r j (row t ⟨256 * a.val + r.val, by omega⟩) rfl (col t j).val rfl]
  unfold res post
  rw [if_neg (by show ¬ 2048 * (t.val % 3) + j.val < 4096; omega)]

/-- A property of a tile's entries holds at every index of it. -/
theorem forall_tile {P : S256x128.Idx → Prop} (h : ∀ (r : Fin 256) (j : Fin 128), P (ix2 r j)) (y : S256x128.Idx) : P y := by
  have e : y = ix2 (y 0) (y 1) := by
    funext a
    rcases a with ⟨_ | _ | _, ha⟩
    · rfl
    · rfl
    · exact absurd ha (by show ¬ (_ < 2); omega)
  exact e.symm ▸ h (y 0) (y 1)

/-- A property of a strip's entries holds at every index of it. -/
theorem forall_strip {P : S256x2048.Idx → Prop} (h : ∀ (r : Fin 256) (j : Fin 2048), P (ix2 r j)) (y : S256x2048.Idx) : P y := by
  have e : y = ix2 (y 0) (y 1) := by
    funext a
    rcases a with ⟨_ | _ | _, ha⟩
    · rfl
    · rfl
    · exact absurd ha (by show ¬ (_ < 2); omega)
  exact e.symm ▸ h (y 0) (y 1)

/-- What a grid point leaves in the result's block. -/
theorem left_eq (y : S1024x2048.Idx) : left m c t y = block m c t y := by
  by_cases h : cond0_0 (grid0.coords t)
  · rw [show left m c t = View.canon (rotTiles m c t h) from dif_pos h]
    refine View.canon_apply_of_pieces (Val := Elt Ideal) (block m c t) _ ?_ y (rotTiles_cover m c t h y)
    rw [rotTiles_eq]
    intro q hq
    obtain ⟨p, -, rfl⟩ := List.mem_map.mp hq
    exact forall_tile fun r j => (tile_at m c t ((hcond0_0 t).mp h) p.1 p.2 r j).trans (congrArg (block m c t) (strip_tile p.1 p.2 r j)).symm
  · rw [show left m c t = View.canon (plainStrips m c t h) from dif_neg h]
    refine View.canon_apply_of_pieces (Val := Elt Ideal) (block m c t) _ ?_ y (plainStrips_cover m c t h y)
    rw [plainStrips_eq]
    intro q hq
    obtain ⟨a, -, rfl⟩ := List.mem_map.mp hq
    exact forall_strip fun r j => (whole_at m c t ((hcond0_1 t).mp (plain_of_not_rot t h)) a r j).trans
      (congrArg (block m c t) (strip (256 * a.val) (inb_rows a) (by omega) r j)).symm

/-! ## The result -/

/-- Where an entry of a point's block lies in the result. -/
theorem out_at (y : S1024x2048.Idx) : (win0_5.blk t).view.emb y = ix2 (row t (y 0)) (col t (y 1)) := by
  have e : y = ix2 (y 0) (y 1) := by
    funext a
    rcases a with ⟨_ | _ | _, ha⟩
    · rfl
    · rfl
    · exact absurd ha (by show ¬ (_ < 2); omega)
  exact (congrArg (win0_5.blk t).view.emb e).trans (blk_o t (y 0) (y 1) (row t (y 0)) rfl (col t (y 1)) rfl)

set_option maxHeartbeats 1000000 in
/-- The result. -/
theorem result_at (i : S32768x6144.Idx) : (dat m c).arrAt 5 cfg0.N i = res m c (i 0) (i 1) := by
  refine (dat m c).arrAt_forall_of_covers 5 (fun i v => v = res m c (i 0) (i 1)) (by decide +kernel) (fun t _ y => ?_) i
  have hv := left_eq m c t y
  have e := out_at t y
  refine Eq.trans ?_ (hv.trans ?_)
  · rfl
  · exact congrArg₂ (res m c) (congrFun e 0).symm (congrFun e 1).symm

/-- The program runs, leaves the result at the launch's, and the arguments as they were. -/
theorem value (g : Dev nD → PrngReg) : θ_run defs (onTc (τ := τ) (main (F := Ideal))) ⟨m, fun _ => 0, g⟩ (fun r => ∀ c : Dev nD,
      (∀ i : S32768x6144.Idx, (r.2.mem ((c.tc : Thread nD τ).loc main_v30) : Vec Ideal S32768x6144 .bf16) i = res m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have hk := (θ_run defs _ _).mono (fun _ h => h.1) (frame m g)
  refine (θ_run defs _ _).mono (fun r h c => ⟨fun i => ?_, h.2 c⟩) (θ_run_and (run_main m g) hk)
  exact (congrFun ((h.1.1 c).1 5) i).trans (result_at m c i)

end Cert.Proof.Rope.I

end
-- ==== Proof.Rope.Ref.lean ====
/-
  The reference's projection with rotary columns, elementwise.
-/
module

public import proofs.«01_k».proof.Defs
public import proofs.«01_k».proof.Proof.Rope.Math
public import proofs.«01_k».proof.Proof.Gen.Reference5Ideal.Run
public import Idealize.ShloMosaic.Lib.Pointwise

@[expose] public section

set_option maxRecDepth 16384

noncomputable section

namespace Cert.Proof.Rope.Ref

open Cert.Reference5Ideal Cert.Reference5Ideal.Gen
open Idealize.ShloMosaic hiding ix1 ix2 ix3 ix4 ix5
open Idealize.ShloMosaic.ValueIdx
open Idealize.SL.Sem

variable (m : (ℓ : Loc nD τ sig) → Buf (Elt Ideal) ℓ) (c : Dev nD)

/-- The rows. -/
def argX : Vec Ideal S32768x2048 .f32 := m ((c.tc : Thread nD τ).loc main_arg0)
/-- The queries' weights. -/
def argQ : Vec Ideal S2048x2048 .f32 := m ((c.tc : Thread nD τ).loc main_arg1)
/-- The keys' and the values' weights. -/
def argKV : Vec Ideal S2048x4096 .f32 := m ((c.tc : Thread nD τ).loc main_arg2)

set_option maxHeartbeats 4000000 in
/-- An entry of the result. -/
theorem result_at (R : Fin 32768) (j : Fin 6144) :
    Value.res_main_v63 m c (ix2 R j) = post (fun R d => argX m c (ix2 R d)) (fun d C => argQ m c (ix2 d C)) (fun d C => argKV m c (ix2 d C)) R j := by
  unfold Value.res_main_v63
  pointwise
  exact cases_at (fun R d => argX m c (ix2 R d)) (fun d C => argQ m c (ix2 d C)) (fun d C => argKV m c (ix2 d C)) R j

/-- Every run ends with the result at `post` and the arguments unchanged. -/
theorem run_at (g : Dev nD → PrngReg) :
    θ_run defs (onTc (τ := τ) (main (F := Ideal))) ⟨m, fun _ => 0, g⟩ fun r => ∀ c : Dev nD,
      (∀ R j, (r.2.mem ((c.tc : Thread nD τ).loc main_v63) : Vec Ideal S32768x6144 .bf16) (ix2 R j)
        = post (fun R d => argX m c (ix2 R d)) (fun d C => argQ m c (ix2 d C)) (fun d C => argKV m c (ix2 d C)) R j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨fun R j => (congrFun (h c).1 (ix2 R j)).trans (result_at m c R j), (h c).2⟩) (Value.run m g)

/-- The reference's arguments end unchanged. -/
theorem frame : Cert.quiescent_Reference5Ideal := fun m g _ =>
  (θ_run _ _ _).mono (fun r h => ⟨fun c => (h c).2, sem_eq_zero_of_no_sems rfl r.2⟩) (run_at m g)

end Cert.Proof.Rope.Ref

end
-- ==== Proof.Rope.Claim.lean ====
/-
  The equality of the kernel's projection with rotary columns and the reference's.
-/
module

public import proofs.«01_k».proof.Proof.Rope.Final
public import proofs.«01_k».proof.Proof.Rope.Ref

@[expose] public section

set_option maxRecDepth 16384

noncomputable section

namespace Cert.Proof.Rope

open Idealize.ShloMosaic hiding ix1 ix2 ix3 ix4 ix5
open Idealize.ShloMosaic.ValueIdx
open Idealize.SL.Sem

/-- An index of the result is its row and its column. -/
theorem idx2 (i : Cert.Reference5Ideal.S32768x6144.Idx) : i = ix2 (i 0) (i 1) := by
  funext a
  rcases a with ⟨_ | _ | _, ha⟩
  · rfl
  · rfl
  · exact absurd ha (by show ¬ (_ < 2); omega)

/-- Kernel and reference leave the same result, for any extended reals as arguments. -/
theorem algebraic : Cert.algebraic_Kernel5Ideal_Reference5Ideal := by
  intro m g m' g' _ hargs
  refine ⟨fun c => (fun i => I.res m c (i 0) (i 1) : Vec Ideal Cert.Kernel5Ideal.S32768x6144 .bf16), ?_, ?_⟩
  · exact (θ_run _ _ _).mono (fun r h c => ⟨funext (h c).1, (h c).2⟩) (I.value m g)
  · refine (θ_run _ _ _).mono (fun r h c => ?_) (Ref.run_at m' g')
    obtain ⟨h0, hk⟩ := h c
    obtain ⟨a0, a1, a2⟩ := hargs c
    have e0 : Ref.argX m' c = I.argX m c := a0
    have e1 : Ref.argQ m' c = I.argQ m c := a1
    have e2 : Ref.argKV m' c = I.argKV m c := a2
    rw [e0, e1, e2] at h0
    refine ⟨?_, hk⟩
    funext i
    exact (congrArg _ (idx2 i)).trans (h0 (i 0) (i 1))

end Cert.Proof.Rope

end
-- ==== Proof.lean ====
/-
  The proof of `Cert.Claim`: the frames of the kernel, of its ideal form and of the reference, the named constants, and
  the equality of the ideal kernel's result with the reference's.
-/
module

public import proofs.«01_k».proof.Defs
public import proofs.«01_k».proof.Proof.Gen.Pre_finite_args
public import proofs.«01_k».proof.Proof.P.Run
public import proofs.«01_k».proof.Proof.PI.Run
public import proofs.«01_k».proof.Proof.RefRun
public import proofs.«01_k».proof.Proof.Algebraic
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Mlp.Ref
public import proofs.«01_k».proof.Proof.Out.Ref
public import proofs.«01_k».proof.Proof.Proj.Ref
public import proofs.«01_k».proof.Proof.Rope.RunP
public import proofs.«01_k».proof.Proof.Rope.Claim
public import proofs.«01_k».proof.Proof.Gen.Kernel5
public import proofs.«01_k».proof.Proof.Gen.Kernel5.Frame.RunA
public import proofs.«01_k».proof.Proof.Gen.Kernel5Ideal
public import proofs.«01_k».proof.Proof.Gen.Kernel5Ideal.Frame.RunA
public import proofs.«01_k».proof.Proof.Gen.Reference5Ideal
public import proofs.«01_k».proof.Proof.Gen.Reference5Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run

@[expose] public section

noncomputable section

namespace Cert.Proof

open Idealize.ShloMosaic Idealize.SL.Sem

/-- The three named constants denote what the table says. -/
theorem preserves : Cert.preserves_Kernel_KernelIdeal :=
  ⟨IdealRules.named_const.statement _ _ _ _ _ rfl, IdealRules.named_const.statement _ _ _ _ _ rfl, IdealRules.named_const.statement _ _ _ _ _ rfl⟩

/-- The frame of the MLP's kernel. -/
theorem mlp_frame : Cert.quiescent_Kernel2 := fun m g _ => Cert.Kernel2.Gen.frame m g

/-- The frame of the output projection's kernel. -/
theorem out_frame : Cert.quiescent_Kernel3 := fun m g _ => Cert.Kernel3.Gen.frame m g

/-- The frame of the projection's kernel. -/
theorem proj_frame : Cert.quiescent_Kernel4 := fun m g _ => Cert.Kernel4.Gen.frame m g

/-- The one constant of the projection that is named. -/
theorem proj_preserves : Cert.preserves_Kernel4_Kernel4Ideal := IdealRules.named_const.statement _ _ _ _ _ rfl

/-- The frame of the kernel's projection with rotary columns. -/
theorem rope_frame : Cert.quiescent_Kernel5 := fun m g _ => Rope.P.frame m g

/-- The frame of its ideal form. -/
theorem rope_ideal_frame : Cert.quiescent_Kernel5Ideal := fun m g _ => Rope.I.frame m g

/-- The one constant of the projection with rotary columns that is named. -/
theorem rope_preserves : Cert.preserves_Kernel5_Kernel5Ideal := IdealRules.named_const.statement _ _ _ _ _ rfl

/-- Everything claimed of the five calls. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite_args.Gen.facts,
  fun m g _ => SB.P.frame m g, fun m g _ => SB.PI.frame m g, fun m g _ => SB.PI.frame m g, fun m g _ => Ref.frame m g, fun m g _ => Ref.frame m g,
  mlp_frame, fun m g _ => Cert.Kernel2Ideal.Gen.frame m g, Mlp.Ref.frame,
  out_frame, fun m g _ => Cert.Kernel3Ideal.Gen.frame m g, Out.Ref.frame,
  proj_frame, fun m g _ => Cert.Kernel4Ideal.Gen.frame m g, Proj.Ref.frame,
  rope_frame, rope_ideal_frame, Rope.Ref.frame,
  preserves, algebraic, trivial, Mlp.algebraic, trivial, Out.algebraic, proj_preserves, Proj.algebraic,
  rope_preserves, Rope.algebraic⟩

end Cert.Proof

end
